-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_on_kept [hKernelIdeal : Cert.KernelIdeal.Facts] [hReferenceIdeal : Cert.ReferenceIdeal.Facts] [hOn_kept : Cert.On_kept.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![32, 512]⟩ ⟨2, ![512, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2]⟩ ⟨2, ![512, 32]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨3, ![2, 512, 1024]⟩ ⟨3, ![32, 512, 1024]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 1024, 512]⟩ ⟨3, ![32, 1024, 512]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![32, 512]⟩ : Shape).Idx, (Layout.block ⟨2, ![32, 512]⟩ ⟨2, ![512, 512]⟩ 0 16 c ((Cert.On_kept.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)))) : (⟨2, ![32, 512]⟩ : Shape).Idx → _) i = 1#1 → r.2.mem ((c.tc : Thread Cert.KernelIdeal.nD Cert.KernelIdeal.τ).loc Cert.KernelIdeal.main_v3) i = (Layout.block ⟨2, ![32, 512]⟩ ⟨2, ![512, 512]⟩ 0 16 c v0 : (⟨2, ![32, 512]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![512, 512]⟩ : Shape).Idx, (Cert.On_kept.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3))) i = 1#1 → r.2.mem (((0 : Dev Cert.ReferenceIdeal.nD).tc : Thread Cert.ReferenceIdeal.nD Cert.ReferenceIdeal.τ).loc Cert.ReferenceIdeal.main_v26) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hOn_kept : Cert.On_kept.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_kept (hKernelIdeal := hKernelIdeal) (hReferenceIdeal := hReferenceIdeal) (hOn_kept := hOn_kept)
-- ==== On_kept.lean ====
abbrev S512x512 : Shape := ⟨2, ![512, 512]⟩
abbrev S512x32 : Shape := ⟨2, ![512, 32]⟩
abbrev S32x512x1024 : Shape := ⟨3, ![32, 512, 1024]⟩
abbrev S32x1024x512 : Shape := ⟨3, ![32, 1024, 512]⟩
abbrev S512x3 : Shape := ⟨2, ![512, 3]⟩
abbrev S512x1 : Shape := ⟨2, ![512, 1]⟩
abbrev S_ : Shape := ⟨0, ![]⟩
abbrev S512 : Shape := ⟨1, ![512]⟩
abbrev S16x32x16x2 : Shape := ⟨4, ![16, 32, 16, 2]⟩
abbrev S16x32x16 : Shape := ⟨3, ![16, 32, 16]⟩
abbrev S16x32x32x16 : Shape := ⟨4, ![16, 32, 32, 16]⟩
abbrev S16x32x1x16 : Shape := ⟨4, ![16, 32, 1, 16]⟩
abbrev S16x32 : Shape := ⟨2, ![16, 32]⟩

class Facts : Prop where
  sliceFits_S512x32_S512x3 : S512x32.Slices (fun _ => 0) S512x3
  slices_S512x3_S512x1_0_0 : S512x3.Slices ![0, 0] S512x1
  bcast_S_S512x1 : S_.BroadcastsInDim S512x1 (![] : Fin 0 → Fin S512x1.rank)
  slices_S512x3_S512x1_0_1 : S512x3.Slices ![0, 1] S512x1
  slices_S512x3_S512x1_0_2 : S512x3.Slices ![0, 2] S512x1
  reducesTo_S512x32_S512_d1 : S512x32.ReducesTo [1] S512
  h_S_ : 0 < S_.numel
  bcast_S512_S512x1_0 : S512.BroadcastsInDim S512x1 (![0] : Fin 1 → Fin S512x1.rank)
  bcast_S512x1_S512x32_0_1 : S512x1.BroadcastsInDim S512x32 (![0, 1] : Fin 2 → Fin S512x32.rank)
  bcast_S_S512x32 : S_.BroadcastsInDim S512x32 (![] : Fin 0 → Fin S512x32.rank)
  shapeCasts_S512x32_S16x32x16x2 : S512x32.ShapeCasts S16x32x16x2
  reducesTo_S16x32x16x2_S16x32x16_d3 : S16x32x16x2.ReducesTo [3] S16x32x16
  bcast_S16x32x16_S16x32x1x16_0_1_3 : S16x32x16.BroadcastsInDim S16x32x1x16 (![0, 1, 3] : Fin 3 → Fin S16x32x1x16.rank)
  bcast_S16x32x1x16_S16x32x32x16_0_1_2_3 : S16x32x1x16.BroadcastsInDim S16x32x32x16 (![0, 1, 2, 3] : Fin 4 → Fin S16x32x32x16.rank)
  bcast_S_S16x32x32x16 : S_.BroadcastsInDim S16x32x32x16 (![] : Fin 0 → Fin S16x32x32x16.rank)
  reducesTo_S16x32x32x16_S16x32x16_d1 : S16x32x32x16.ReducesTo [1] S16x32x16
  reducesTo_S16x32x16_S16x32_d2 : S16x32x16.ReducesTo [2] S16x32
  shapeCasts_S16x32_S512x1 : S16x32.ShapeCasts S512x1
  bcast_S512x1_S512x512_0_1 : S512x1.BroadcastsInDim S512x512 (![0, 1] : Fin 2 → Fin S512x512.rank)
  dot_S512x512_S512x32_S512x32_1_0_0_1_n_n_wf : DotDims.WF S512x512 S512x32 S512x32 [1] [0] [0] [1] [] []

variable [Facts]

def dot_S512x512_S512x32_S512x32_1_0_0_1_n_n : DotDims S512x512 S512x32 S512x32 where
  lhsContracting := [1]
  rhsContracting := [0]
  lhsNonContracting := [0]
  rhsNonContracting := [1]
  lhsBatch := []
  rhsBatch := []
  wf := dot_S512x512_S512x32_S512x32_1_0_0_1_n_n_wf
def fn_where {F : FTy → Type} [FloatOps F] (arg0 : IVec S512x32 1) (arg1 : FVec F S_ .f32) (arg2 : FVec F S512x32 .f32) : FVec F S512x32 .f32 :=
  let v0 : FVec F S_ .f32 := id arg1
  let v1 : FVec F S512x32 .f32 := broadcastInDim S512x32 ![] bcast_S_S512x32 v0
  let v2 : FVec F S512x32 .f32 := select arg0 v1 arg2
  v2

def fn_where_0 {F : FTy → Type} [FloatOps F] (arg0 : IVec S16x32x32x16 1) (arg1 : FVec F S16x32x1x16 .f32) (arg2 : FVec F S_ .f32) : FVec F S16x32x32x16 .f32 :=
  let v0 : FVec F S_ .f32 := id arg2
  let v1 : FVec F S16x32x32x16 .f32 := broadcastInDim S16x32x32x16 ![0, 1, 2, 3] bcast_S16x32x1x16_S16x32x32x16_0_1_2_3 arg1
  let v2 : FVec F S16x32x32x16 .f32 := broadcastInDim S16x32x32x16 ![] bcast_S_S16x32x32x16 v0
  let v3 : FVec F S16x32x32x16 .f32 := select arg0 v1 v2
  v3

def fn_part1 {F : FTy → Type} [FloatOps F] (main_v0 : FVec F S512x32 .f32) (main_v11 : IVec S512x1 1) (main_v17 : FVec F S512 .f32) : IVec S512x512 1 :=
  let main_v18 : FVec F S512x1 .f32 := broadcastInDim S512x1 ![0] bcast_S512_S512x1_0 main_v17
  let main_v19 : FVec F S512x32 .f32 := broadcastInDim S512x32 ![0, 1] bcast_S512x1_S512x32_0_1 main_v18
  let main_v20 : IVec S512x32 1 := cmpf .oge main_v0 main_v19
  let main_v21 : FVec F S512x32 .f32 := uitofp .f32 main_v20
  let main_v22 : FVec F S16x32x16x2 .f32 := shapeCast S16x32x16x2 main_v21 shapeCasts_S512x32_S16x32x16x2
  let main_cst_3 : FVec F S_ .f32 := constant S_ .f32 0xFF800000#32
  let main_v23 : FVec F S16x32x16 .f32 := (fun x v => Host.reduce FloatOps.maximumf x v reducesTo_S16x32x16x2_S16x32x16_d3 h_S_) main_v22 main_cst_3
  let main_v24 : IVec S16x32x32x16 32 := iotaInDim S16x32x32x16 32 1
  let main_v25 : IVec S16x32x32x16 32 := iotaInDim S16x32x32x16 32 2
  let main_v26 : IVec S16x32x32x16 1 := cmpi .slt main_v24 main_v25
  let main_v27 : FVec F S16x32x1x16 .f32 := broadcastInDim S16x32x1x16 ![0, 1, 3] bcast_S16x32x16_S16x32x1x16_0_1_3 main_v23
  let main_cst_4 : FVec F S_ .f32 := constant S_ .f32 0x00000000#32
  let main_v28 : FVec F S16x32x32x16 .f32 := fn_where_0 (F := F) main_v26 main_v27 main_cst_4
  let main_cst_5 : FVec F S_ .f32 := constant S_ .f32 0x00000000#32
  let main_v29 : FVec F S16x32x16 .f32 := (fun x v => Host.reduceAdd x v reducesTo_S16x32x32x16_S16x32x16_d1 h_S_) main_v28 main_cst_5
  let main_v30 : FVec F S16x32x16 .f32 := mulf main_v23 main_v29
  let main_cst_6 : FVec F S_ .f32 := constant S_ .f32 0xFF800000#32
  let main_v31 : FVec F S16x32 .f32 := (fun x v => Host.reduce FloatOps.maximumf x v reducesTo_S16x32x16_S16x32_d2 h_S_) main_v30 main_cst_6
  let main_v32 : FVec F S512x1 .f32 := shapeCast S512x1 main_v31 shapeCasts_S16x32_S512x1
  let main_cst_7 : FVec F S_ .f32 := constant S_ .f32 0x41800000#32
  let main_v33 : FVec F S512x1 .f32 := broadcastInDim S512x1 ![] bcast_S_S512x1 main_cst_7
  let main_v34 : IVec S512x1 1 := cmpf .olt main_v32 main_v33
  let main_v35 : IVec S512x1 1 := andi main_v11 main_v34
  let main_v36 : IVec S512x512 1 := broadcastInDim S512x512 ![0, 1] bcast_S512x1_S512x512_0_1 main_v35
  main_v36

def fn {F : FTy → Type} [FloatOps F] (main_arg0 : FVec F S512x512 .f32) (main_arg1 : FVec F S512x32 .f32) (main_arg2 : FVec F S32x512x1024 .f32) (main_arg3 : FVec F S32x1024x512 .f32) : IVec S512x512 1 :=
  let main_v0 : FVec F S512x32 .f32 := (fun l r => Host.dotGeneral dot_S512x512_S512x32_S512x32_1_0_0_1_n_n none l r) main_arg0 main_arg1
  let main_values : FVec F S512x3 .f32 := (fun x => (Host.topK S512x3 1 (FloatOps.cmpfTotal .gt) x sliceFits_S512x32_S512x3).1) main_v0
  let main_indices : IVec S512x3 32 := (fun x => (Host.topK S512x3 1 (FloatOps.cmpfTotal .gt) x sliceFits_S512x32_S512x3).2) main_v0
  let main_v1 : FVec F S512x1 .f32 := (extractStridedSlice S512x1 ![0, 0] · slices_S512x3_S512x1_0_0) main_values
  let main_cst : FVec F S_ .f32 := constant S_ .f32 0x7F800000#32
  let main_v2 : FVec F S512x1 .f32 := broadcastInDim S512x1 ![] bcast_S_S512x1 main_cst
  let main_v3 : IVec S512x1 1 := cmpf .olt main_v1 main_v2
  let main_v4 : FVec F S512x1 .f32 := (extractStridedSlice S512x1 ![0, 0] · slices_S512x3_S512x1_0_0) main_values
  let main_v5 : FVec F S512x1 .f32 := (extractStridedSlice S512x1 ![0, 1] · slices_S512x3_S512x1_0_1) main_values
  let main_v6 : IVec S512x1 1 := cmpf .ogt main_v4 main_v5
  let main_v7 : IVec S512x1 1 := andi main_v3 main_v6
  let main_v8 : FVec F S512x1 .f32 := (extractStridedSlice S512x1 ![0, 1] · slices_S512x3_S512x1_0_1) main_values
  let main_v9 : FVec F S512x1 .f32 := (extractStridedSlice S512x1 ![0, 2] · slices_S512x3_S512x1_0_2) main_values
  let main_v10 : IVec S512x1 1 := cmpf .ogt main_v8 main_v9
  let main_v11 : IVec S512x1 1 := andi main_v7 main_v10
  let main_cst_0 : FVec F S_ .f32 := constant S_ .f32 0xFF800000#32
  let main_v12 : FVec F S512 .f32 := (fun x v => Host.reduce FloatOps.maximumf x v reducesTo_S512x32_S512_d1 h_S_) main_v0 main_cst_0
  let main_v13 : FVec F S512x1 .f32 := broadcastInDim S512x1 ![0] bcast_S512_S512x1_0 main_v12
  let main_v14 : FVec F S512x32 .f32 := broadcastInDim S512x32 ![0, 1] bcast_S512x1_S512x32_0_1 main_v13
  let main_v15 : IVec S512x32 1 := cmpf .oge main_v0 main_v14
  let main_cst_1 : FVec F S_ .f32 := constant S_ .f32 0xFF800000#32
  let main_v16 : FVec F S512x32 .f32 := fn_where (F := F) main_v15 main_cst_1 main_v0
  let main_cst_2 : FVec F S_ .f32 := constant S_ .f32 0xFF800000#32
  let main_v17 : FVec F S512 .f32 := (fun x v => Host.reduce FloatOps.maximumf x v reducesTo_S512x32_S512_d1 h_S_) main_v16 main_cst_2
  fn_part1 (F := F) main_v0 main_v11 main_v17
-- ==== Kernel.lean ====
abbrev S32x512 : Shape := ⟨2, ![32, 512]⟩
abbrev S512x2 : Shape := ⟨2, ![512, 2]⟩
abbrev S2x512x1024 : Shape := ⟨3, ![2, 512, 1024]⟩
abbrev S2x1024x512 : Shape := ⟨3, ![2, 1024, 512]⟩
abbrev S2x512 : Shape := ⟨2, ![2, 512]⟩
abbrev S1x2x512 : Shape := ⟨3, ![1, 2, 512]⟩
abbrev S16x8x512 : Shape := ⟨3, ![16, 8, 512]⟩
abbrev S16x16x512 : Shape := ⟨3, ![16, 16, 512]⟩
abbrev S16x16x128 : Shape := ⟨3, ![16, 16, 128]⟩
abbrev S16 : Shape := ⟨1, ![16]⟩
abbrev S_ : Shape := ⟨0, ![]⟩
abbrev S1 : Shape := ⟨1, ![1]⟩
abbrev S128x512 : Shape := ⟨2, ![128, 512]⟩
abbrev S32x128 : Shape := ⟨2, ![32, 128]⟩
abbrev S32 : Shape := ⟨1, ![32]⟩
abbrev S32x1 : Shape := ⟨2, ![32, 1]⟩
abbrev S128x32 : Shape := ⟨2, ![128, 32]⟩
abbrev S32x32 : Shape := ⟨2, ![32, 32]⟩
abbrev S16x16x32 : Shape := ⟨3, ![16, 16, 32]⟩
abbrev S16x8x32 : Shape := ⟨3, ![16, 8, 32]⟩
abbrev S16x1x32 : Shape := ⟨3, ![16, 1, 32]⟩
abbrev S16x32 : Shape := ⟨2, ![16, 32]⟩
abbrev S16x16 : Shape := ⟨2, ![16, 16]⟩
abbrev S16x16x1 : Shape := ⟨3, ![16, 16, 1]⟩
abbrev S1x16x512 : Shape := ⟨3, ![1, 16, 512]⟩
abbrev S1x16x128 : Shape := ⟨3, ![1, 16, 128]⟩
abbrev S1x512x1024 : Shape := ⟨3, ![1, 512, 1024]⟩
abbrev S512x1024 : Shape := ⟨2, ![512, 1024]⟩
abbrev S1x1024x512 : Shape := ⟨3, ![1, 1024, 512]⟩
abbrev S1024x512 : Shape := ⟨2, ![1024, 512]⟩
abbrev S256x512 : Shape := ⟨2, ![256, 512]⟩
abbrev S256x128 : Shape := ⟨2, ![256, 128]⟩
abbrev S256x1 : Shape := ⟨2, ![256, 1]⟩
abbrev S256x1024 : Shape := ⟨2, ![256, 1024]⟩
abbrev S256x32 : Shape := ⟨2, ![256, 32]⟩

abbrev nBuf : Space → Nat
  | .hbm => 7
  | .vmem => 12
  | .smem => 0
  | _ => 0

abbrev bufTy : (tb : Table) → Fin (tcTables nBuf tb) → BufTy
  | .hbm, ⟨0, _⟩ => ⟨S32x512, .f32⟩
  | .hbm, ⟨1, _⟩ => ⟨S512x2, .f32⟩
  | .hbm, ⟨2, _⟩ => ⟨S2x512x1024, .f32⟩
  | .hbm, ⟨3, _⟩ => ⟨S2x1024x512, .f32⟩
  | .hbm, ⟨4, _⟩ => ⟨S2x512, .f32⟩
  | .hbm, ⟨5, _⟩ => ⟨S1x2x512, .f32⟩
  | .hbm, ⟨6, _⟩ => ⟨S32x512, .f32⟩
  | .local _ .vmem, ⟨0, _⟩ => ⟨S32x512, .f32⟩
  | .local _ .vmem, ⟨1, _⟩ => ⟨S1x2x512, .f32⟩
  | .local _ .vmem, ⟨2, _⟩ => ⟨S2x512x1024, .f32⟩
  | .local _ .vmem, ⟨3, _⟩ => ⟨S2x1024x512, .f32⟩
  | .local _ .vmem, ⟨4, _⟩ => ⟨S32x512, .f32⟩
  | .local _ .vmem, ⟨5, _⟩ => ⟨S16x8x512, .f32⟩
  | .local _ .vmem, ⟨6, _⟩ => ⟨S16x16x512, .bf16⟩
  | .local _ .vmem, ⟨7, _⟩ => ⟨S16x16x512, .bf16⟩
  | .local _ .vmem, ⟨8, _⟩ => ⟨S16x16x128, .bf16⟩
  | .local _ .vmem, ⟨9, _⟩ => ⟨S16x16x128, .bf16⟩
  | .local _ .vmem, ⟨10, _⟩ => ⟨S16x16x512, .bf16⟩
  | .local _ .vmem, ⟨11, _⟩ => ⟨S16x16x512, .bf16⟩
  | _, _ => ⟨S32x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 133 → Bool
  | ⟨i, _⟩ => dmaSemScopedAt i

abbrev sig : RefSig :=
  (ofTc nBuf bufTy 1 133 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v66 : Index := Scalar.indexCast v2
  let c0_63 : Index := 0#32
  let c0_64 : Index := 0#32
  ![v66.toNat, 0, 0]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_71 : BitVec 32 := 0#32
  let c0_i32_72 : BitVec 32 := 0#32
  ![v2.toNat, 0, 0]
def k0_dev16 (d0 : Dev nD) : Nat :=
  let c0_i32_70 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_65 : BitVec 32 := 1#32
  let v70 : BitVec 32 := Scalar.addi v2 c1_i32_65
  let c16_i32_66 : BitVec 32 := 16#32
  let v71 : BitVec 32 := Scalar.remsi v70 c16_i32_66
  let c1_i32_69 : BitVec 32 := 1#32
  let v72 : BitVec 32 := Scalar.muli v71 c1_i32_69
  let v73 : BitVec 32 := Scalar.addi c0_i32_70 v72
  v73.toNat
def k0_dev17 (d0 : Dev nD) : Nat :=
  let c0_i32_78 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_73 : BitVec 32 := 2#32
  let v79 : BitVec 32 := Scalar.addi v2 c2_i32_73
  let c16_i32_74 : BitVec 32 := 16#32
  let v80 : BitVec 32 := Scalar.remsi v79 c16_i32_74
  let c1_i32_77 : BitVec 32 := 1#32
  let v81 : BitVec 32 := Scalar.muli v80 c1_i32_77
  let v82 : BitVec 32 := Scalar.addi c0_i32_78 v81
  v82.toNat
def k0_dev18 (d0 : Dev nD) : Nat :=
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_81 : BitVec 32 := 3#32
  let v88 : BitVec 32 := Scalar.addi v2 c3_i32_81
  let c16_i32_82 : BitVec 32 := 16#32
  let v89 : BitVec 32 := Scalar.remsi v88 c16_i32_82
  let c1_i32_85 : BitVec 32 := 1#32
  let v90 : BitVec 32 := Scalar.muli v89 c1_i32_85
  let v91 : BitVec 32 := Scalar.addi c0_i32_86 v90
  v91.toNat
def k0_dev19 (d0 : Dev nD) : Nat :=
  let c0_i32_94 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_89 : BitVec 32 := 4#32
  let v97 : BitVec 32 := Scalar.addi v2 c4_i32_89
  let c16_i32_90 : BitVec 32 := 16#32
  let v98 : BitVec 32 := Scalar.remsi v97 c16_i32_90
  let c1_i32_93 : BitVec 32 := 1#32
  let v99 : BitVec 32 := Scalar.muli v98 c1_i32_93
  let v100 : BitVec 32 := Scalar.addi c0_i32_94 v99
  v100.toNat
def k0_dev20 (d0 : Dev nD) : Nat :=
  let c0_i32_102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_97 : BitVec 32 := 5#32
  let v106 : BitVec 32 := Scalar.addi v2 c5_i32_97
  let c16_i32_98 : BitVec 32 := 16#32
  let v107 : BitVec 32 := Scalar.remsi v106 c16_i32_98
  let c1_i32_101 : BitVec 32 := 1#32
  let v108 : BitVec 32 := Scalar.muli v107 c1_i32_101
  let v109 : BitVec 32 := Scalar.addi c0_i32_102 v108
  v109.toNat
def k0_dev21 (d0 : Dev nD) : Nat :=
  let c0_i32_110 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_105 : BitVec 32 := 6#32
  let v115 : BitVec 32 := Scalar.addi v2 c6_i32_105
  let c16_i32_106 : BitVec 32 := 16#32
  let v116 : BitVec 32 := Scalar.remsi v115 c16_i32_106
  let c1_i32_109 : BitVec 32 := 1#32
  let v117 : BitVec 32 := Scalar.muli v116 c1_i32_109
  let v118 : BitVec 32 := Scalar.addi c0_i32_110 v117
  v118.toNat
def k0_dev22 (d0 : Dev nD) : Nat :=
  let c0_i32_118 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_113 : BitVec 32 := 7#32
  let v124 : BitVec 32 := Scalar.addi v2 c7_i32_113
  let c16_i32_114 : BitVec 32 := 16#32
  let v125 : BitVec 32 := Scalar.remsi v124 c16_i32_114
  let c1_i32_117 : BitVec 32 := 1#32
  let v126 : BitVec 32 := Scalar.muli v125 c1_i32_117
  let v127 : BitVec 32 := Scalar.addi c0_i32_118 v126
  v127.toNat
def k0_dev23 (d0 : Dev nD) : Nat :=
  let c0_i32_126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_121 : BitVec 32 := 8#32
  let v133 : BitVec 32 := Scalar.addi v2 c8_i32_121
  let c16_i32_122 : BitVec 32 := 16#32
  let v134 : BitVec 32 := Scalar.remsi v133 c16_i32_122
  let c1_i32_125 : BitVec 32 := 1#32
  let v135 : BitVec 32 := Scalar.muli v134 c1_i32_125
  let v136 : BitVec 32 := Scalar.addi c0_i32_126 v135
  v136.toNat
def k0_dev24 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_129 : BitVec 32 := 9#32
  let v142 : BitVec 32 := Scalar.addi v2 c9_i32_129
  let c16_i32_130 : BitVec 32 := 16#32
  let v143 : BitVec 32 := Scalar.remsi v142 c16_i32_130
  let c1_i32_133 : BitVec 32 := 1#32
  let v144 : BitVec 32 := Scalar.muli v143 c1_i32_133
  let v145 : BitVec 32 := Scalar.addi c0_i32_134 v144
  v145.toNat
def k0_dev25 (d0 : Dev nD) : Nat :=
  let c0_i32_142 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_137 : BitVec 32 := 10#32
  let v151 : BitVec 32 := Scalar.addi v2 c10_i32_137
  let c16_i32_138 : BitVec 32 := 16#32
  let v152 : BitVec 32 := Scalar.remsi v151 c16_i32_138
  let c1_i32_141 : BitVec 32 := 1#32
  let v153 : BitVec 32 := Scalar.muli v152 c1_i32_141
  let v154 : BitVec 32 := Scalar.addi c0_i32_142 v153
  v154.toNat
def k0_dev26 (d0 : Dev nD) : Nat :=
  let c0_i32_150 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_145 : BitVec 32 := 11#32
  let v160 : BitVec 32 := Scalar.addi v2 c11_i32_145
  let c16_i32_146 : BitVec 32 := 16#32
  let v161 : BitVec 32 := Scalar.remsi v160 c16_i32_146
  let c1_i32_149 : BitVec 32 := 1#32
  let v162 : BitVec 32 := Scalar.muli v161 c1_i32_149
  let v163 : BitVec 32 := Scalar.addi c0_i32_150 v162
  v163.toNat
def k0_dev27 (d0 : Dev nD) : Nat :=
  let c0_i32_158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_153 : BitVec 32 := 12#32
  let v169 : BitVec 32 := Scalar.addi v2 c12_i32_153
  let c16_i32_154 : BitVec 32 := 16#32
  let v170 : BitVec 32 := Scalar.remsi v169 c16_i32_154
  let c1_i32_157 : BitVec 32 := 1#32
  let v171 : BitVec 32 := Scalar.muli v170 c1_i32_157
  let v172 : BitVec 32 := Scalar.addi c0_i32_158 v171
  v172.toNat
def k0_dev28 (d0 : Dev nD) : Nat :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_161 : BitVec 32 := 13#32
  let v178 : BitVec 32 := Scalar.addi v2 c13_i32_161
  let c16_i32_162 : BitVec 32 := 16#32
  let v179 : BitVec 32 := Scalar.remsi v178 c16_i32_162
  let c1_i32_165 : BitVec 32 := 1#32
  let v180 : BitVec 32 := Scalar.muli v179 c1_i32_165
  let v181 : BitVec 32 := Scalar.addi c0_i32_166 v180
  v181.toNat
def k0_dev29 (d0 : Dev nD) : Nat :=
  let c0_i32_174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_169 : BitVec 32 := 14#32
  let v187 : BitVec 32 := Scalar.addi v2 c14_i32_169
  let c16_i32_170 : BitVec 32 := 16#32
  let v188 : BitVec 32 := Scalar.remsi v187 c16_i32_170
  let c1_i32_173 : BitVec 32 := 1#32
  let v189 : BitVec 32 := Scalar.muli v188 c1_i32_173
  let v190 : BitVec 32 := Scalar.addi c0_i32_174 v189
  v190.toNat
def k0_dev30 (d0 : Dev nD) : Nat :=
  let c0_i32_182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_177 : BitVec 32 := 15#32
  let v196 : BitVec 32 := Scalar.addi v2 c15_i32_177
  let c16_i32_178 : BitVec 32 := 16#32
  let v197 : BitVec 32 := Scalar.remsi v196 c16_i32_178
  let c1_i32_181 : BitVec 32 := 1#32
  let v198 : BitVec 32 := Scalar.muli v197 c1_i32_181
  let v199 : BitVec 32 := Scalar.addi c0_i32_182 v198
  v199.toNat
def k0_off3 (d0 : Dev nD) (c15_i32_185 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v205 : BitVec 32 := Scalar.addi v2 c15_i32_185
  let c16_i32_186 : BitVec 32 := 16#32
  let v206 : BitVec 32 := Scalar.remsi v205 c16_i32_186
  let c0_i32_191 : BitVec 32 := 0#32
  let c0_i32_192 : BitVec 32 := 0#32
  ![v206.toNat, 0, 0]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v418 : Index := Scalar.indexCast v2
  let c0_339 : Index := 0#32
  let c0_340 : Index := 0#32
  ![v418.toNat, 0, 0]
def k0_off5 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v424 : Index := Scalar.indexCast v2
  let c0_343 : Index := 0#32
  let c0_344 : Index := 0#32
  ![v424.toNat, 0, 0]
def k0_off6 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_353 : BitVec 32 := 0#32
  let c0_i32_354 : BitVec 32 := 0#32
  ![v2.toNat, 0, 0]
def k0_off7 (d0 : Dev nD) (c1_i32_347 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v430 : BitVec 32 := Scalar.addi v2 c1_i32_347
  let c16_i32_348 : BitVec 32 := 16#32
  let v431 : BitVec 32 := Scalar.remsi v430 c16_i32_348
  let c0_i32_355 : BitVec 32 := 0#32
  let c0_i32_356 : BitVec 32 := 0#32
  ![v431.toNat, 0, 0]
def k0_dev31 (d0 : Dev nD) : Nat :=
  let c0_i32_352 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_347 : BitVec 32 := 1#32
  let v430 : BitVec 32 := Scalar.addi v2 c1_i32_347
  let c16_i32_348 : BitVec 32 := 16#32
  let v431 : BitVec 32 := Scalar.remsi v430 c16_i32_348
  let c1_i32_351 : BitVec 32 := 1#32
  let v432 : BitVec 32 := Scalar.muli v431 c1_i32_351
  let v433 : BitVec 32 := Scalar.addi c0_i32_352 v432
  v433.toNat
def k0_off8 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_361 : BitVec 32 := 0#32
  let c0_i32_362 : BitVec 32 := 0#32
  ![v2.toNat, 0, 0]
def k0_off9 (d0 : Dev nD) (c1_i32_347 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v430 : BitVec 32 := Scalar.addi v2 c1_i32_347
  let c16_i32_348 : BitVec 32 := 16#32
  let v431 : BitVec 32 := Scalar.remsi v430 c16_i32_348
  let c0_i32_363 : BitVec 32 := 0#32
  let c0_i32_364 : BitVec 32 := 0#32
  ![v431.toNat, 0, 0]
def k0_dev32 (d0 : Dev nD) : Nat :=
  let c0_i32_360 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_347 : BitVec 32 := 1#32
  let v430 : BitVec 32 := Scalar.addi v2 c1_i32_347
  let c16_i32_348 : BitVec 32 := 16#32
  let v431 : BitVec 32 := Scalar.remsi v430 c16_i32_348
  let c1_i32_359 : BitVec 32 := 1#32
  let v440 : BitVec 32 := Scalar.muli v431 c1_i32_359
  let v441 : BitVec 32 := Scalar.addi c0_i32_360 v440
  v441.toNat
def k0_dev33 (d0 : Dev nD) : Nat :=
  let c0_i32_370 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_365 : BitVec 32 := 2#32
  let v448 : BitVec 32 := Scalar.addi v2 c2_i32_365
  let c16_i32_366 : BitVec 32 := 16#32
  let v449 : BitVec 32 := Scalar.remsi v448 c16_i32_366
  let c1_i32_369 : BitVec 32 := 1#32
  let v450 : BitVec 32 := Scalar.muli v449 c1_i32_369
  let v451 : BitVec 32 := Scalar.addi c0_i32_370 v450
  v451.toNat
def k0_dev34 (d0 : Dev nD) : Nat :=
  let c0_i32_378 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_365 : BitVec 32 := 2#32
  let v448 : BitVec 32 := Scalar.addi v2 c2_i32_365
  let c16_i32_366 : BitVec 32 := 16#32
  let v449 : BitVec 32 := Scalar.remsi v448 c16_i32_366
  let c1_i32_377 : BitVec 32 := 1#32
  let v458 : BitVec 32 := Scalar.muli v449 c1_i32_377
  let v459 : BitVec 32 := Scalar.addi c0_i32_378 v458
  v459.toNat
def k0_dev35 (d0 : Dev nD) : Nat :=
  let c0_i32_388 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_383 : BitVec 32 := 3#32
  let v466 : BitVec 32 := Scalar.addi v2 c3_i32_383
  let c16_i32_384 : BitVec 32 := 16#32
  let v467 : BitVec 32 := Scalar.remsi v466 c16_i32_384
  let c1_i32_387 : BitVec 32 := 1#32
  let v468 : BitVec 32 := Scalar.muli v467 c1_i32_387
  let v469 : BitVec 32 := Scalar.addi c0_i32_388 v468
  v469.toNat
def k0_dev36 (d0 : Dev nD) : Nat :=
  let c0_i32_396 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_383 : BitVec 32 := 3#32
  let v466 : BitVec 32 := Scalar.addi v2 c3_i32_383
  let c16_i32_384 : BitVec 32 := 16#32
  let v467 : BitVec 32 := Scalar.remsi v466 c16_i32_384
  let c1_i32_395 : BitVec 32 := 1#32
  let v476 : BitVec 32 := Scalar.muli v467 c1_i32_395
  let v477 : BitVec 32 := Scalar.addi c0_i32_396 v476
  v477.toNat
def k0_dev37 (d0 : Dev nD) : Nat :=
  let c0_i32_406 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_401 : BitVec 32 := 4#32
  let v484 : BitVec 32 := Scalar.addi v2 c4_i32_401
  let c16_i32_402 : BitVec 32 := 16#32
  let v485 : BitVec 32 := Scalar.remsi v484 c16_i32_402
  let c1_i32_405 : BitVec 32 := 1#32
  let v486 : BitVec 32 := Scalar.muli v485 c1_i32_405
  let v487 : BitVec 32 := Scalar.addi c0_i32_406 v486
  v487.toNat
def k0_dev38 (d0 : Dev nD) : Nat :=
  let c0_i32_414 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_401 : BitVec 32 := 4#32
  let v484 : BitVec 32 := Scalar.addi v2 c4_i32_401
  let c16_i32_402 : BitVec 32 := 16#32
  let v485 : BitVec 32 := Scalar.remsi v484 c16_i32_402
  let c1_i32_413 : BitVec 32 := 1#32
  let v494 : BitVec 32 := Scalar.muli v485 c1_i32_413
  let v495 : BitVec 32 := Scalar.addi c0_i32_414 v494
  v495.toNat
def k0_dev39 (d0 : Dev nD) : Nat :=
  let c0_i32_424 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_419 : BitVec 32 := 5#32
  let v502 : BitVec 32 := Scalar.addi v2 c5_i32_419
  let c16_i32_420 : BitVec 32 := 16#32
  let v503 : BitVec 32 := Scalar.remsi v502 c16_i32_420
  let c1_i32_423 : BitVec 32 := 1#32
  let v504 : BitVec 32 := Scalar.muli v503 c1_i32_423
  let v505 : BitVec 32 := Scalar.addi c0_i32_424 v504
  v505.toNat
def k0_dev40 (d0 : Dev nD) : Nat :=
  let c0_i32_432 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_419 : BitVec 32 := 5#32
  let v502 : BitVec 32 := Scalar.addi v2 c5_i32_419
  let c16_i32_420 : BitVec 32 := 16#32
  let v503 : BitVec 32 := Scalar.remsi v502 c16_i32_420
  let c1_i32_431 : BitVec 32 := 1#32
  let v512 : BitVec 32 := Scalar.muli v503 c1_i32_431
  let v513 : BitVec 32 := Scalar.addi c0_i32_432 v512
  v513.toNat
def k0_dev41 (d0 : Dev nD) : Nat :=
  let c0_i32_442 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_437 : BitVec 32 := 6#32
  let v520 : BitVec 32 := Scalar.addi v2 c6_i32_437
  let c16_i32_438 : BitVec 32 := 16#32
  let v521 : BitVec 32 := Scalar.remsi v520 c16_i32_438
  let c1_i32_441 : BitVec 32 := 1#32
  let v522 : BitVec 32 := Scalar.muli v521 c1_i32_441
  let v523 : BitVec 32 := Scalar.addi c0_i32_442 v522
  v523.toNat
def k0_dev42 (d0 : Dev nD) : Nat :=
  let c0_i32_450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_437 : BitVec 32 := 6#32
  let v520 : BitVec 32 := Scalar.addi v2 c6_i32_437
  let c16_i32_438 : BitVec 32 := 16#32
  let v521 : BitVec 32 := Scalar.remsi v520 c16_i32_438
  let c1_i32_449 : BitVec 32 := 1#32
  let v530 : BitVec 32 := Scalar.muli v521 c1_i32_449
  let v531 : BitVec 32 := Scalar.addi c0_i32_450 v530
  v531.toNat
def k0_dev43 (d0 : Dev nD) : Nat :=
  let c0_i32_460 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_455 : BitVec 32 := 7#32
  let v538 : BitVec 32 := Scalar.addi v2 c7_i32_455
  let c16_i32_456 : BitVec 32 := 16#32
  let v539 : BitVec 32 := Scalar.remsi v538 c16_i32_456
  let c1_i32_459 : BitVec 32 := 1#32
  let v540 : BitVec 32 := Scalar.muli v539 c1_i32_459
  let v541 : BitVec 32 := Scalar.addi c0_i32_460 v540
  v541.toNat
def k0_dev44 (d0 : Dev nD) : Nat :=
  let c0_i32_468 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_455 : BitVec 32 := 7#32
  let v538 : BitVec 32 := Scalar.addi v2 c7_i32_455
  let c16_i32_456 : BitVec 32 := 16#32
  let v539 : BitVec 32 := Scalar.remsi v538 c16_i32_456
  let c1_i32_467 : BitVec 32 := 1#32
  let v548 : BitVec 32 := Scalar.muli v539 c1_i32_467
  let v549 : BitVec 32 := Scalar.addi c0_i32_468 v548
  v549.toNat
def k0_dev45 (d0 : Dev nD) : Nat :=
  let c0_i32_478 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_473 : BitVec 32 := 8#32
  let v556 : BitVec 32 := Scalar.addi v2 c8_i32_473
  let c16_i32_474 : BitVec 32 := 16#32
  let v557 : BitVec 32 := Scalar.remsi v556 c16_i32_474
  let c1_i32_477 : BitVec 32 := 1#32
  let v558 : BitVec 32 := Scalar.muli v557 c1_i32_477
  let v559 : BitVec 32 := Scalar.addi c0_i32_478 v558
  v559.toNat
def k0_dev46 (d0 : Dev nD) : Nat :=
  let c0_i32_486 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_473 : BitVec 32 := 8#32
  let v556 : BitVec 32 := Scalar.addi v2 c8_i32_473
  let c16_i32_474 : BitVec 32 := 16#32
  let v557 : BitVec 32 := Scalar.remsi v556 c16_i32_474
  let c1_i32_485 : BitVec 32 := 1#32
  let v566 : BitVec 32 := Scalar.muli v557 c1_i32_485
  let v567 : BitVec 32 := Scalar.addi c0_i32_486 v566
  v567.toNat
def k0_dev47 (d0 : Dev nD) : Nat :=
  let c0_i32_496 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_491 : BitVec 32 := 9#32
  let v574 : BitVec 32 := Scalar.addi v2 c9_i32_491
  let c16_i32_492 : BitVec 32 := 16#32
  let v575 : BitVec 32 := Scalar.remsi v574 c16_i32_492
  let c1_i32_495 : BitVec 32 := 1#32
  let v576 : BitVec 32 := Scalar.muli v575 c1_i32_495
  let v577 : BitVec 32 := Scalar.addi c0_i32_496 v576
  v577.toNat
def k0_dev48 (d0 : Dev nD) : Nat :=
  let c0_i32_504 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_491 : BitVec 32 := 9#32
  let v574 : BitVec 32 := Scalar.addi v2 c9_i32_491
  let c16_i32_492 : BitVec 32 := 16#32
  let v575 : BitVec 32 := Scalar.remsi v574 c16_i32_492
  let c1_i32_503 : BitVec 32 := 1#32
  let v584 : BitVec 32 := Scalar.muli v575 c1_i32_503
  let v585 : BitVec 32 := Scalar.addi c0_i32_504 v584
  v585.toNat
def k0_dev49 (d0 : Dev nD) : Nat :=
  let c0_i32_514 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_509 : BitVec 32 := 10#32
  let v592 : BitVec 32 := Scalar.addi v2 c10_i32_509
  let c16_i32_510 : BitVec 32 := 16#32
  let v593 : BitVec 32 := Scalar.remsi v592 c16_i32_510
  let c1_i32_513 : BitVec 32 := 1#32
  let v594 : BitVec 32 := Scalar.muli v593 c1_i32_513
  let v595 : BitVec 32 := Scalar.addi c0_i32_514 v594
  v595.toNat
def k0_dev50 (d0 : Dev nD) : Nat :=
  let c0_i32_522 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_509 : BitVec 32 := 10#32
  let v592 : BitVec 32 := Scalar.addi v2 c10_i32_509
  let c16_i32_510 : BitVec 32 := 16#32
  let v593 : BitVec 32 := Scalar.remsi v592 c16_i32_510
  let c1_i32_521 : BitVec 32 := 1#32
  let v602 : BitVec 32 := Scalar.muli v593 c1_i32_521
  let v603 : BitVec 32 := Scalar.addi c0_i32_522 v602
  v603.toNat
def k0_dev51 (d0 : Dev nD) : Nat :=
  let c0_i32_532 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_527 : BitVec 32 := 11#32
  let v610 : BitVec 32 := Scalar.addi v2 c11_i32_527
  let c16_i32_528 : BitVec 32 := 16#32
  let v611 : BitVec 32 := Scalar.remsi v610 c16_i32_528
  let c1_i32_531 : BitVec 32 := 1#32
  let v612 : BitVec 32 := Scalar.muli v611 c1_i32_531
  let v613 : BitVec 32 := Scalar.addi c0_i32_532 v612
  v613.toNat
def k0_dev52 (d0 : Dev nD) : Nat :=
  let c0_i32_540 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_527 : BitVec 32 := 11#32
  let v610 : BitVec 32 := Scalar.addi v2 c11_i32_527
  let c16_i32_528 : BitVec 32 := 16#32
  let v611 : BitVec 32 := Scalar.remsi v610 c16_i32_528
  let c1_i32_539 : BitVec 32 := 1#32
  let v620 : BitVec 32 := Scalar.muli v611 c1_i32_539
  let v621 : BitVec 32 := Scalar.addi c0_i32_540 v620
  v621.toNat
def k0_dev53 (d0 : Dev nD) : Nat :=
  let c0_i32_550 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_545 : BitVec 32 := 12#32
  let v628 : BitVec 32 := Scalar.addi v2 c12_i32_545
  let c16_i32_546 : BitVec 32 := 16#32
  let v629 : BitVec 32 := Scalar.remsi v628 c16_i32_546
  let c1_i32_549 : BitVec 32 := 1#32
  let v630 : BitVec 32 := Scalar.muli v629 c1_i32_549
  let v631 : BitVec 32 := Scalar.addi c0_i32_550 v630
  v631.toNat
def k0_dev54 (d0 : Dev nD) : Nat :=
  let c0_i32_558 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_545 : BitVec 32 := 12#32
  let v628 : BitVec 32 := Scalar.addi v2 c12_i32_545
  let c16_i32_546 : BitVec 32 := 16#32
  let v629 : BitVec 32 := Scalar.remsi v628 c16_i32_546
  let c1_i32_557 : BitVec 32 := 1#32
  let v638 : BitVec 32 := Scalar.muli v629 c1_i32_557
  let v639 : BitVec 32 := Scalar.addi c0_i32_558 v638
  v639.toNat
def k0_dev55 (d0 : Dev nD) : Nat :=
  let c0_i32_568 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_563 : BitVec 32 := 13#32
  let v646 : BitVec 32 := Scalar.addi v2 c13_i32_563
  let c16_i32_564 : BitVec 32 := 16#32
  let v647 : BitVec 32 := Scalar.remsi v646 c16_i32_564
  let c1_i32_567 : BitVec 32 := 1#32
  let v648 : BitVec 32 := Scalar.muli v647 c1_i32_567
  let v649 : BitVec 32 := Scalar.addi c0_i32_568 v648
  v649.toNat
def k0_dev56 (d0 : Dev nD) : Nat :=
  let c0_i32_576 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_563 : BitVec 32 := 13#32
  let v646 : BitVec 32 := Scalar.addi v2 c13_i32_563
  let c16_i32_564 : BitVec 32 := 16#32
  let v647 : BitVec 32 := Scalar.remsi v646 c16_i32_564
  let c1_i32_575 : BitVec 32 := 1#32
  let v656 : BitVec 32 := Scalar.muli v647 c1_i32_575
  let v657 : BitVec 32 := Scalar.addi c0_i32_576 v656
  v657.toNat
def k0_dev57 (d0 : Dev nD) : Nat :=
  let c0_i32_586 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_581 : BitVec 32 := 14#32
  let v664 : BitVec 32 := Scalar.addi v2 c14_i32_581
  let c16_i32_582 : BitVec 32 := 16#32
  let v665 : BitVec 32 := Scalar.remsi v664 c16_i32_582
  let c1_i32_585 : BitVec 32 := 1#32
  let v666 : BitVec 32 := Scalar.muli v665 c1_i32_585
  let v667 : BitVec 32 := Scalar.addi c0_i32_586 v666
  v667.toNat
def k0_dev58 (d0 : Dev nD) : Nat :=
  let c0_i32_594 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_581 : BitVec 32 := 14#32
  let v664 : BitVec 32 := Scalar.addi v2 c14_i32_581
  let c16_i32_582 : BitVec 32 := 16#32
  let v665 : BitVec 32 := Scalar.remsi v664 c16_i32_582
  let c1_i32_593 : BitVec 32 := 1#32
  let v674 : BitVec 32 := Scalar.muli v665 c1_i32_593
  let v675 : BitVec 32 := Scalar.addi c0_i32_594 v674
  v675.toNat
def k0_dev59 (d0 : Dev nD) : Nat :=
  let c0_i32_604 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_599 : BitVec 32 := 15#32
  let v682 : BitVec 32 := Scalar.addi v2 c15_i32_599
  let c16_i32_600 : BitVec 32 := 16#32
  let v683 : BitVec 32 := Scalar.remsi v682 c16_i32_600
  let c1_i32_603 : BitVec 32 := 1#32
  let v684 : BitVec 32 := Scalar.muli v683 c1_i32_603
  let v685 : BitVec 32 := Scalar.addi c0_i32_604 v684
  v685.toNat
def k0_dev60 (d0 : Dev nD) : Nat :=
  let c0_i32_612 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_599 : BitVec 32 := 15#32
  let v682 : BitVec 32 := Scalar.addi v2 c15_i32_599
  let c16_i32_600 : BitVec 32 := 16#32
  let v683 : BitVec 32 := Scalar.remsi v682 c16_i32_600
  let c1_i32_611 : BitVec 32 := 1#32
  let v692 : BitVec 32 := Scalar.muli v683 c1_i32_611
  let v693 : BitVec 32 := Scalar.addi c0_i32_612 v692
  v693.toNat
def k0_dev61 (d0 : Dev nD) : Nat :=
  let c0_i32_923 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_918 : BitVec 32 := 1#32
  let v958 : BitVec 32 := Scalar.addi v2 c1_i32_918
  let c16_i32_919 : BitVec 32 := 16#32
  let v959 : BitVec 32 := Scalar.remsi v958 c16_i32_919
  let c1_i32_922 : BitVec 32 := 1#32
  let v960 : BitVec 32 := Scalar.muli v959 c1_i32_922
  let v961 : BitVec 32 := Scalar.addi c0_i32_923 v960
  v961.toNat
def k0_dev62 (d0 : Dev nD) : Nat :=
  let c0_i32_933 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_928 : BitVec 32 := 2#32
  let v968 : BitVec 32 := Scalar.addi v2 c2_i32_928
  let c16_i32_929 : BitVec 32 := 16#32
  let v969 : BitVec 32 := Scalar.remsi v968 c16_i32_929
  let c1_i32_932 : BitVec 32 := 1#32
  let v970 : BitVec 32 := Scalar.muli v969 c1_i32_932
  let v971 : BitVec 32 := Scalar.addi c0_i32_933 v970
  v971.toNat
def k0_dev63 (d0 : Dev nD) : Nat :=
  let c0_i32_943 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_938 : BitVec 32 := 3#32
  let v978 : BitVec 32 := Scalar.addi v2 c3_i32_938
  let c16_i32_939 : BitVec 32 := 16#32
  let v979 : BitVec 32 := Scalar.remsi v978 c16_i32_939
  let c1_i32_942 : BitVec 32 := 1#32
  let v980 : BitVec 32 := Scalar.muli v979 c1_i32_942
  let v981 : BitVec 32 := Scalar.addi c0_i32_943 v980
  v981.toNat
def k0_dev64 (d0 : Dev nD) : Nat :=
  let c0_i32_953 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_948 : BitVec 32 := 4#32
  let v988 : BitVec 32 := Scalar.addi v2 c4_i32_948
  let c16_i32_949 : BitVec 32 := 16#32
  let v989 : BitVec 32 := Scalar.remsi v988 c16_i32_949
  let c1_i32_952 : BitVec 32 := 1#32
  let v990 : BitVec 32 := Scalar.muli v989 c1_i32_952
  let v991 : BitVec 32 := Scalar.addi c0_i32_953 v990
  v991.toNat
def k0_dev65 (d0 : Dev nD) : Nat :=
  let c0_i32_963 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_958 : BitVec 32 := 5#32
  let v998 : BitVec 32 := Scalar.addi v2 c5_i32_958
  let c16_i32_959 : BitVec 32 := 16#32
  let v999 : BitVec 32 := Scalar.remsi v998 c16_i32_959
  let c1_i32_962 : BitVec 32 := 1#32
  let v1000 : BitVec 32 := Scalar.muli v999 c1_i32_962
  let v1001 : BitVec 32 := Scalar.addi c0_i32_963 v1000
  v1001.toNat
def k0_dev66 (d0 : Dev nD) : Nat :=
  let c0_i32_973 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_968 : BitVec 32 := 6#32
  let v1008 : BitVec 32 := Scalar.addi v2 c6_i32_968
  let c16_i32_969 : BitVec 32 := 16#32
  let v1009 : BitVec 32 := Scalar.remsi v1008 c16_i32_969
  let c1_i32_972 : BitVec 32 := 1#32
  let v1010 : BitVec 32 := Scalar.muli v1009 c1_i32_972
  let v1011 : BitVec 32 := Scalar.addi c0_i32_973 v1010
  v1011.toNat
def k0_dev67 (d0 : Dev nD) : Nat :=
  let c0_i32_983 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_978 : BitVec 32 := 7#32
  let v1018 : BitVec 32 := Scalar.addi v2 c7_i32_978
  let c16_i32_979 : BitVec 32 := 16#32
  let v1019 : BitVec 32 := Scalar.remsi v1018 c16_i32_979
  let c1_i32_982 : BitVec 32 := 1#32
  let v1020 : BitVec 32 := Scalar.muli v1019 c1_i32_982
  let v1021 : BitVec 32 := Scalar.addi c0_i32_983 v1020
  v1021.toNat
def k0_dev68 (d0 : Dev nD) : Nat :=
  let c0_i32_993 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_988 : BitVec 32 := 8#32
  let v1028 : BitVec 32 := Scalar.addi v2 c8_i32_988
  let c16_i32_989 : BitVec 32 := 16#32
  let v1029 : BitVec 32 := Scalar.remsi v1028 c16_i32_989
  let c1_i32_992 : BitVec 32 := 1#32
  let v1030 : BitVec 32 := Scalar.muli v1029 c1_i32_992
  let v1031 : BitVec 32 := Scalar.addi c0_i32_993 v1030
  v1031.toNat
def k0_dev69 (d0 : Dev nD) : Nat :=
  let c0_i32_1003 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_998 : BitVec 32 := 9#32
  let v1038 : BitVec 32 := Scalar.addi v2 c9_i32_998
  let c16_i32_999 : BitVec 32 := 16#32
  let v1039 : BitVec 32 := Scalar.remsi v1038 c16_i32_999
  let c1_i32_1002 : BitVec 32 := 1#32
  let v1040 : BitVec 32 := Scalar.muli v1039 c1_i32_1002
  let v1041 : BitVec 32 := Scalar.addi c0_i32_1003 v1040
  v1041.toNat
def k0_dev70 (d0 : Dev nD) : Nat :=
  let c0_i32_1013 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1008 : BitVec 32 := 10#32
  let v1048 : BitVec 32 := Scalar.addi v2 c10_i32_1008
  let c16_i32_1009 : BitVec 32 := 16#32
  let v1049 : BitVec 32 := Scalar.remsi v1048 c16_i32_1009
  let c1_i32_1012 : BitVec 32 := 1#32
  let v1050 : BitVec 32 := Scalar.muli v1049 c1_i32_1012
  let v1051 : BitVec 32 := Scalar.addi c0_i32_1013 v1050
  v1051.toNat
def k0_dev71 (d0 : Dev nD) : Nat :=
  let c0_i32_1023 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1018 : BitVec 32 := 11#32
  let v1058 : BitVec 32 := Scalar.addi v2 c11_i32_1018
  let c16_i32_1019 : BitVec 32 := 16#32
  let v1059 : BitVec 32 := Scalar.remsi v1058 c16_i32_1019
  let c1_i32_1022 : BitVec 32 := 1#32
  let v1060 : BitVec 32 := Scalar.muli v1059 c1_i32_1022
  let v1061 : BitVec 32 := Scalar.addi c0_i32_1023 v1060
  v1061.toNat
def k0_dev72 (d0 : Dev nD) : Nat :=
  let c0_i32_1033 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1028 : BitVec 32 := 12#32
  let v1068 : BitVec 32 := Scalar.addi v2 c12_i32_1028
  let c16_i32_1029 : BitVec 32 := 16#32
  let v1069 : BitVec 32 := Scalar.remsi v1068 c16_i32_1029
  let c1_i32_1032 : BitVec 32 := 1#32
  let v1070 : BitVec 32 := Scalar.muli v1069 c1_i32_1032
  let v1071 : BitVec 32 := Scalar.addi c0_i32_1033 v1070
  v1071.toNat
def k0_dev73 (d0 : Dev nD) : Nat :=
  let c0_i32_1043 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1038 : BitVec 32 := 13#32
  let v1078 : BitVec 32 := Scalar.addi v2 c13_i32_1038
  let c16_i32_1039 : BitVec 32 := 16#32
  let v1079 : BitVec 32 := Scalar.remsi v1078 c16_i32_1039
  let c1_i32_1042 : BitVec 32 := 1#32
  let v1080 : BitVec 32 := Scalar.muli v1079 c1_i32_1042
  let v1081 : BitVec 32 := Scalar.addi c0_i32_1043 v1080
  v1081.toNat
def k0_dev74 (d0 : Dev nD) : Nat :=
  let c0_i32_1053 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1048 : BitVec 32 := 14#32
  let v1088 : BitVec 32 := Scalar.addi v2 c14_i32_1048
  let c16_i32_1049 : BitVec 32 := 16#32
  let v1089 : BitVec 32 := Scalar.remsi v1088 c16_i32_1049
  let c1_i32_1052 : BitVec 32 := 1#32
  let v1090 : BitVec 32 := Scalar.muli v1089 c1_i32_1052
  let v1091 : BitVec 32 := Scalar.addi c0_i32_1053 v1090
  v1091.toNat
def k0_dev75 (d0 : Dev nD) : Nat :=
  let c0_i32_1063 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1058 : BitVec 32 := 15#32
  let v1098 : BitVec 32 := Scalar.addi v2 c15_i32_1058
  let c16_i32_1059 : BitVec 32 := 16#32
  let v1099 : BitVec 32 := Scalar.remsi v1098 c16_i32_1059
  let c1_i32_1062 : BitVec 32 := 1#32
  let v1100 : BitVec 32 := Scalar.muli v1099 c1_i32_1062
  let v1101 : BitVec 32 := Scalar.addi c0_i32_1063 v1100
  v1101.toNat
abbrev stage0_0 : Fin 1 → Memref sig .tc .vmem S32x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S512x512 : Shape := ⟨2, ![512, 512]⟩
abbrev S512x32 : Shape := ⟨2, ![512, 32]⟩
abbrev S32x512x1024 : Shape := ⟨3, ![32, 512, 1024]⟩
abbrev S32x1024x512 : Shape := ⟨3, ![32, 1024, 512]⟩
abbrev S512x2 : Shape := ⟨2, ![512, 2]⟩
abbrev S_ : Shape := ⟨0, ![]⟩
abbrev S512 : Shape := ⟨1, ![512]⟩
abbrev S512x1 : Shape := ⟨2, ![512, 1]⟩
abbrev S512x2x32 : Shape := ⟨3, ![512, 2, 32]⟩
abbrev S512x2x1 : Shape := ⟨3, ![512, 2, 1]⟩
abbrev S32x512x512 : Shape := ⟨3, ![32, 512, 512]⟩
abbrev S32x512 : Shape := ⟨2, ![32, 512]⟩
abbrev S32x512x1 : Shape := ⟨3, ![32, 512, 1]⟩

abbrev nBuf : Space → Nat
  | .hbm => 42
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x32, .f32⟩
  | .hbm, ⟨2, _⟩ => ⟨S32x512x1024, .f32⟩
  | .hbm, ⟨3, _⟩ => ⟨S32x1024x512, .f32⟩
  | .hbm, ⟨4, _⟩ => ⟨S512x32, .f32⟩
  | .hbm, ⟨5, _⟩ => ⟨S512x2, .f32⟩
  | .hbm, ⟨6, _⟩ => ⟨S512x2, .i32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S512x2, .f32⟩
  | .hbm, ⟨11, _⟩ => ⟨S512x2, .f32⟩
  | .hbm, ⟨12, _⟩ => ⟨S512x2, .f32⟩
  | .hbm, ⟨13, _⟩ => ⟨S_, .f32⟩
  | .hbm, ⟨14, _⟩ => ⟨S512, .f32⟩
  | .hbm, ⟨15, _⟩ => ⟨S512x1, .f32⟩
  | .hbm, ⟨16, _⟩ => ⟨S512x2, .f32⟩
  | .hbm, ⟨17, _⟩ => ⟨S512x2, .f32⟩
  | .hbm, ⟨18, _⟩ => ⟨S512x2x32, .i32⟩
  | .hbm, ⟨19, _⟩ => ⟨S512x2x1, .i32⟩
  | .hbm, ⟨20, _⟩ => ⟨S512x2x32, .i32⟩
  | .hbm, ⟨21, _⟩ => ⟨S512x2x32, .i1⟩
  | .hbm, ⟨22, _⟩ => ⟨S512x2x1, .f32⟩
  | .hbm, ⟨23, _⟩ => ⟨S_, .f32⟩
  | .hbm, ⟨24, _⟩ => ⟨S_, .f32⟩
  | .hbm, ⟨25, _⟩ => ⟨S512x2x32, .f32⟩
  | .hbm, ⟨26, _⟩ => ⟨S512x2x32, .f32⟩
  | .hbm, ⟨27, _⟩ => ⟨S512x2x32, .f32⟩
  | .hbm, ⟨28, _⟩ => ⟨S_, .f32⟩
  | .hbm, ⟨29, _⟩ => ⟨S512x32, .f32⟩
  | .hbm, ⟨30, _⟩ => ⟨S32x1024x512, .f32⟩
  | .hbm, ⟨31, _⟩ => ⟨S32x512x1024, .f32⟩
  | .hbm, ⟨32, _⟩ => ⟨S_, .f32⟩
  | .hbm, ⟨33, _⟩ => ⟨S32x512x1024, .f32⟩
  | .hbm, ⟨34, _⟩ => ⟨S32x512x1024, .f32⟩
  | .hbm, ⟨35, _⟩ => ⟨S32x512x512, .f32⟩
  | .hbm, ⟨36, _⟩ => ⟨S32x512, .f32⟩
  | .hbm, ⟨37, _⟩ => ⟨S32x512x1, .f32⟩
  | .hbm, ⟨38, _⟩ => ⟨S32x512x512, .f32⟩
  | .hbm, ⟨39, _⟩ => ⟨S32x512x512, .f32⟩
  | .hbm, ⟨40, _⟩ => ⟨S_, .f32⟩
  | .hbm, ⟨41, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_values : Ref sig .tc := ⟨.hbm, 5, rfl⟩
abbrev main_indices : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Proof.Schedule.lean ====
/-
  The exchange of the kernel, as a schedule of rounds: which semaphore is signalled or copied onto by whom, how much, and what each
  landing hands over.

  Sixteen devices; `pe c o` is the device `o` places after `c` on the ring of device numbers. Each device
    * signals every other device's barrier semaphore once (1 unit), and waits for 15 units on its own;
    * for each of four kinds k (0: router rows, 1: token rows, 2: weight rows, 3: result rows) and each o = 1 … 15, copies one piece
      to device `pe c o`, on its own send semaphore (k, o) and on that device's receive semaphore (k, o);
    * waits for every receive semaphore (k, o) — the piece from device `pe c (16 - o)` — and every send semaphore.

  The barrier unit paid to `c` by `pe c d` hands `c` the four places in `pe c d`'s memory which `c`'s copies are to fill.
  A receive semaphore hands its owner the filled place, with what is known of its contents; a send semaphore hands the source back.
-/
module

public import proofs.«01_k».proof.Proof.Gen.KernelIdeal.Skeleton
public import proofs.«01_k».proof.Proof.Gen.KernelIdeal.Launch
public import proofs.«01_k».proof.Proof.Gen.KernelIdeal.Frame
public import proofs.«01_k».proof.Proof.Gen.KernelIdeal
public import Idealize.ShloMosaic.Lib.Pipeline.Regions
public import Idealize.ShloMosaic.Lib.Pipeline.DatRel
public import Idealize.ShloMosaic.Lib.Pipeline.Kit
public import Idealize.ShloMosaic.Lib.Rounds
public import Idealize.ShloMosaic.Lib.StableHlo
public import Idealize.ShloMosaic.Lib.Tactic
public import Idealize.ShloMosaic.PureOps

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F] [Named F]

/-! ## The buffers and their rows -/

abbrev mX : Memref sig .tc .vmem S32x512 .f32 := Memref.whole cc0_stg0_0
abbrev mRp : Memref sig .tc .vmem S1x2x512 .f32 := Memref.whole cc0_stg1_0
abbrev mW1 : Memref sig .tc .vmem S2x512x1024 .f32 := Memref.whole cc0_stg2_0
abbrev mW2 : Memref sig .tc .vmem S2x1024x512 .f32 := Memref.whole cc0_stg3_0
abbrev mOut : Memref sig .tc .vmem S32x512 .f32 := Memref.whole cc0_stg4_0
abbrev mRb : Memref sig .tc .vmem S16x8x512 .f32 := Memref.whole cc0_scratch0
abbrev mSX : Memref sig .tc .vmem S16x16x512 .bf16 := Memref.whole cc0_scratch1
abbrev mRX : Memref sig .tc .vmem S16x16x512 .bf16 := Memref.whole cc0_scratch2
abbrev mSW : Memref sig .tc .vmem S16x16x128 .bf16 := Memref.whole cc0_scratch3
abbrev mRW : Memref sig .tc .vmem S16x16x128 .bf16 := Memref.whole cc0_scratch4
abbrev mY : Memref sig .tc .vmem S16x16x512 .bf16 := Memref.whole cc0_scratch5
abbrev mRY : Memref sig .tc .vmem S16x16x512 .bf16 := Memref.whole cc0_scratch6

/-- The device `o` places after `c`. -/
def pe (c : Dev nD) (o : ℕ) : Dev nD := ⟨(c.val + o) % 16, Nat.mod_lt _ (by decide)⟩

theorem pe_pe (c : Dev nD) (a b : ℕ) : pe (pe c a) b = pe c (a + b) := by
  apply Fin.ext; show ((c.val + a) % 16 + b) % 16 = (c.val + (a + b)) % 16; omega
theorem pe_16 (c : Dev nD) : pe c 16 = c := by
  apply Fin.ext; show (c.val + 16) % 16 = c.val; have := c.isLt; have : nD = 16 := rfl; omega
theorem pe_back (c : Dev nD) {o : ℕ} (h : o ≤ 16) : pe (pe c o) (16 - o) = c := by
  rw [pe_pe, Nat.add_sub_cancel' h, pe_16]
theorem pe_fwd (c : Dev nD) {o : ℕ} (h : o ≤ 16) : pe (pe c (16 - o)) o = c := by
  rw [pe_pe, Nat.sub_add_cancel h, pe_16]

theorem inbR (q : Dev nD) : ∀ a, (![q.val, 0, 0] : Fin 3 → ℕ) a + S1x2x512.size a ≤ S16x8x512.size a := by
  revert q; decide
theorem inbX (q : Dev nD) : ∀ a, (![q.val, 0, 0] : Fin 3 → ℕ) a + S1x16x512.size a ≤ S16x16x512.size a := by
  revert q; decide
theorem inbW (q : Dev nD) : ∀ a, (![q.val, 0, 0] : Fin 3 → ℕ) a + S1x16x128.size a ≤ S16x16x128.size a := by
  revert q; decide

/-- The rectangle of device `q`'s router rows in a router buffer; of block `q` in a token buffer; in a weight buffer. -/
abbrev recR (q : Dev nD) : Rect S16x8x512 := Rect.unit (s := S16x8x512) ![q.val, 0, 0] S1x2x512.size (inbR q)
abbrev recX (q : Dev nD) : Rect S16x16x512 := Rect.unit (s := S16x16x512) ![q.val, 0, 0] S1x16x512.size (inbX q)
abbrev recW (q : Dev nD) : Rect S16x16x128 := Rect.unit (s := S16x16x128) ![q.val, 0, 0] S1x16x128.size (inbW q)

abbrev rowR (q : Dev nD) : Memref sig .tc .vmem S1x2x512 .f32 := mRb.slice (recR q) (fun _ => rfl)
abbrev rowSX (q : Dev nD) : Memref sig .tc .vmem S1x16x512 .bf16 := mSX.slice (recX q) (fun _ => rfl)
abbrev rowRX (q : Dev nD) : Memref sig .tc .vmem S1x16x512 .bf16 := mRX.slice (recX q) (fun _ => rfl)
abbrev rowSW (q : Dev nD) : Memref sig .tc .vmem S1x16x128 .bf16 := mSW.slice (recW q) (fun _ => rfl)
abbrev rowRW (q : Dev nD) : Memref sig .tc .vmem S1x16x128 .bf16 := mRW.slice (recW q) (fun _ => rfl)
abbrev rowY (q : Dev nD) : Memref sig .tc .vmem S1x16x512 .bf16 := mY.slice (recX q) (fun _ => rfl)
abbrev rowRY (q : Dev nD) : Memref sig .tc .vmem S1x16x512 .bf16 := mRY.slice (recX q) (fun _ => rfl)

/-! ## What the buffers hold -/

/-- The blocks the devices' kernels are given: tokens, router rows, and the two experts' matrices. -/
structure Inp (F : FTy → Type) [FloatOps F] where
  x : Dev nD → Vec F S32x512 .f32
  rp : Dev nD → Vec F S1x2x512 .f32
  W1 : Dev nD → Vec F S2x512x1024 .f32
  W2 : Dev nD → Vec F S2x1024x512 .f32

/-- The constant below every gate. -/
abbrev low : F .f32 := Named.named κ "mask" 0xF149F2CA#32
abbrev iotaP : IVec S16x16x32 32 := iota .tc S16x16x32 32 [1] iota_S16x16x32_d1_w32
abbrev iotaL : IVec S16x16x128 32 := iota .tc S16x16x128 32 [2] iota_S16x16x128_d2_w32

/-- The places a device's tokens take, from its gathered router rows `rb` and its tokens `x`; the token rows and the weight rows it sends. -/
def fP (rb : Vec F S16x8x512 .f32) (x : Vec F S32x512 .f32) : FVec F S16x16x32 .f32 :=
  k0_pay10 iotaP (k0_pay8 (k0_pay3 rb x) k0_pay4 low) (k0_pay9 (k0_pay3 rb x) k0_pay4 low)
def fSX (rb : Vec F S16x8x512 .f32) (x : Vec F S32x512 .f32) : FVec F S16x16x512 .bf16 :=
  k0_pay11 (k0_pay2 x) iotaP (k0_pay8 (k0_pay3 rb x) k0_pay4 low) (k0_pay9 (k0_pay3 rb x) k0_pay4 low)
def fSW (rb : Vec F S16x8x512 .f32) (x : Vec F S32x512 .f32) : FVec F S16x16x128 .bf16 :=
  k0_pay12 iotaP iotaL (k0_pay6 (k0_pay3 rb x) k0_pay4 low) (k0_pay7 (k0_pay3 rb x) k0_pay4 low)
    (k0_pay8 (k0_pay3 rb x) k0_pay4 low) (k0_pay9 (k0_pay3 rb x) k0_pay4 low)

/-- Expert 0's and expert 1's matrices, as loaded. -/
abbrev w1a (W : Vec F S2x512x1024 .f32) : Vec F S1x512x1024 .f32 :=
  (mW1.access (Rect.unit (s := S2x512x1024) ![0, 0, 0] S1x512x1024.size inb_S2x512x1024_S1x512x1024_0_0_0)).read (Elt F) W
abbrev w1b (W : Vec F S2x512x1024 .f32) : Vec F S1x512x1024 .f32 :=
  (mW1.access (Rect.unit (s := S2x512x1024) ![1, 0, 0] S1x512x1024.size inb_S2x512x1024_S1x512x1024_1_0_0)).read (Elt F) W
abbrev w2a (W : Vec F S2x1024x512 .f32) : Vec F S1x1024x512 .f32 :=
  (mW2.access (Rect.unit (s := S2x1024x512) ![0, 0, 0] S1x1024x512.size inb_S2x1024x512_S1x1024x512_0_0_0)).read (Elt F) W
abbrev w2b (W : Vec F S2x1024x512 .f32) : Vec F S1x1024x512 .f32 :=
  (mW2.access (Rect.unit (s := S2x1024x512) ![1, 0, 0] S1x1024x512.size inb_S2x1024x512_S1x1024x512_1_0_0)).read (Elt F) W

/-- A device's result rows, from its experts' matrices and the token and weight rows it received. -/
def fY (W1 : Vec F S2x512x1024 .f32) (W2 : Vec F S2x1024x512 .f32) (X : Vec F S16x16x512 .bf16) (W : Vec F S16x16x128 .bf16) :
    FVec F S16x16x512 .bf16 :=
  k0_pay23 (k0_pay16 (w1b W1)) (k0_pay18 (w2b W2)) (k0_pay19 X) (k0_pay21 (k0_pay15 (w1a W1)) (k0_pay17 (w2a W2)) X W) (k0_pay22 W)

variable (I : Inp F)

/-- A gathered router buffer: device `q`'s rows in block `q`, for every `q` (the other rows of a block are not said). -/
def RbOK (rb : Vec F S16x8x512 .f32) : Prop := ∀ q, (rowR q).view.read (Elt F) rb = I.rp q
/-- What device `p`'s send buffers may hold. -/
def SXok (p : Dev nD) (g : Vec F S16x16x512 .bf16) : Prop := ∃ rb, RbOK I rb ∧ g = fSX rb (I.x p)
def SWok (p : Dev nD) (g : Vec F S16x16x128 .bf16) : Prop := ∃ rb, RbOK I rb ∧ g = fSW rb (I.x p)
/-- What the piece of them which goes from `p` to `c` may be. -/
def SXrow (p c : Dev nD) (w : Vec F S1x16x512 .bf16) : Prop := ∃ g, SXok I p g ∧ w = (rowSX c).view.read (Elt F) g
def SWrow (p c : Dev nD) (w : Vec F S1x16x128 .bf16) : Prop := ∃ g, SWok I p g ∧ w = (rowSW c).view.read (Elt F) g
/-- What device `c`'s receive buffers may hold once everything has landed. -/
def RXok (c : Dev nD) (X : Vec F S16x16x512 .bf16) : Prop := ∀ q, SXrow I q c ((rowRX q).view.read (Elt F) X)
def RWok (c : Dev nD) (W : Vec F S16x16x128 .bf16) : Prop := ∀ q, SWrow I q c ((rowRW q).view.read (Elt F) W)
/-- What device `p`'s result rows may be, the piece that goes back to `c`, and what `c` may hold of them all. -/
def Yok (p : Dev nD) (g : Vec F S16x16x512 .bf16) : Prop := ∃ X W, RXok I p X ∧ RWok I p W ∧ g = fY (I.W1 p) (I.W2 p) X W
def Yrow (p c : Dev nD) (w : Vec F S1x16x512 .bf16) : Prop := ∃ g, Yok I p g ∧ w = (rowY c).view.read (Elt F) g
def RYok (c : Dev nD) (Y : Vec F S16x16x512 .bf16) : Prop := ∀ q, Yrow I q c ((rowRY q).view.read (Elt F) Y)
/-- What device `c`'s result may be. -/
def OutOK (c : Dev nD) (v : Vec F S32x512 .f32) : Prop := ∃ rb Y, RbOK I rb ∧ RYok I c Y ∧ v = k0_pay25 (fP rb (I.x c)) Y

/-! ## The cells -/

/-- The resources: the pipeline's copy of the rounds' algebra, and the exchange's, whose duties are numbered. -/
abbrev UX : Type := URounds (GSem nD τ sig) ℕ
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

/-- DMA semaphore `o` of array `a`: arrays 0, 2, 4, 6 are the send arrays of the kinds 0 … 3, and 1, 3, 5, 7 the receive arrays. -/
def dsem (a o : ℕ) : DmaSem sig := ⟨(5 + 16 * a + o) % 133, Nat.mod_lt _ (by decide)⟩

theorem dsem_val {a o : ℕ} (ha : a < 8) (ho : o < 16) : (dsem a o).val = 5 + 16 * a + o := by
  show (5 + 16 * a + o) % 133 = _; omega

abbrev bCell (c : Dev nD) : GSem nD τ sig := ((c : Thread nD τ), .reg barrier0)
abbrev cell (c : Dev nD) (a o : ℕ) : GSem nD τ sig := ((c : Thread nD τ), .dma (dsem a o))

/-- The bytes-worth of credit of one piece of kind `k`. -/
def amt : ℕ → ℕ
  | 0 => (rowR 0).view.dmaCredit
  | 1 => (rowRX 0).view.dmaCredit
  | 2 => (rowRW 0).view.dmaCredit
  | _ => (rowRY 0).view.dmaCredit

theorem amt_pos (k : ℕ) : 0 < amt k := by
  unfold amt; split <;> exact View.dmaCredit_pos _ (by decide)

/-- A memref's elements on device `c`, owned at contents `f`. -/
abbrev pts {sh : Shape} {e : EltTy} (c : Dev nD) (m : Memref sig .tc .vmem sh e) (f : Buf (Elt F) (m.view.loc (c : Thread nD τ))) : sProp 𝕄 :=
  m.view.loc (c : Thread nD τ) ↦[m.view.set]{fullShare} f

/-- … at some contents. -/
abbrev anyPts {sh : Shape} {e : EltTy} (c : Dev nD) (m : Memref sig .tc .vmem sh e) : sProp 𝕄 := iprop(∃ f, pts c m f)

/-- … at some contents which read as `P` wants. -/
abbrev okPts {sh : Shape} {e : EltTy} (c : Dev nD) (m : Memref sig .tc .vmem sh e) (P : (sh.Idx → Elt F e) → Prop) : sProp 𝕄 :=
  iprop(∃ f, ⌜P (m.view.read (Elt F) f)⌝ ∗ pts c m f)

/-- The share of the router rows lent to copy `o`. -/
abbrev rpTok (c : Dev nD) (o : ℕ) : sProp 𝕄 :=
  mRp.view.loc (c : Thread nD τ) ↦[mRp.view.set]{Transfers.shareTokN fullShare o} (I.rp c : Buf (Elt F) (mRp.view.loc (c : Thread nD τ)))

/-- The place on `q` which a copy of kind `k` from `c` fills, at some contents. -/
def place (k : ℕ) (c q : Dev nD) : sProp 𝕄 :=
  match k with
  | 0 => anyPts q (rowR c)
  | 1 => anyPts q (rowRX c)
  | 2 => anyPts q (rowRW c)
  | _ => anyPts q (rowRY c)

/-- … filled. -/
def landed (k : ℕ) (c q : Dev nD) : sProp 𝕄 :=
  match k with
  | 0 => okPts q (rowR c) (fun w => w = I.rp c)
  | 1 => okPts q (rowRX c) (SXrow I c q)
  | 2 => okPts q (rowRW c) (SWrow I c q)
  | _ => okPts q (rowRY c) (Yrow I c q)

/-- The source of copy `o` of kind `k` on `c`, ready to be sent. -/
def source (k : ℕ) (c : Dev nD) (o : ℕ) : sProp 𝕄 :=
  match k with
  | 0 => rpTok I c o
  | 1 => okPts c (rowSX (pe c o)) (SXrow I c (pe c o))
  | 2 => okPts c (rowSW (pe c o)) (SWrow I c (pe c o))
  | _ => okPts c (rowY (pe c o)) (Yrow I c (pe c o))

/-- … handed back. -/
def sourceBack (k : ℕ) (c : Dev nD) (o : ℕ) : sProp 𝕄 :=
  match k with
  | 0 => rpTok I c o
  | 1 => anyPts c (rowSX (pe c o))
  | 2 => anyPts c (rowSW (pe c o))
  | _ => anyPts c (rowY (pe c o))

/-- What `pe c d` pays to `c`'s barrier: its places for `c`'s copies, and that its receive cells are open. -/
def barPay (c : Dev nD) (d : ℕ) : sProp 𝕄 :=
  iprop((place 0 c (pe c d) ∗ reached ER (cell (pe c d) 1 d) 0) ∗ (place 1 c (pe c d) ∗ reached ER (cell (pe c d) 3 d) 0)
    ∗ (place 2 c (pe c d) ∗ reached ER (cell (pe c d) 5 d) 0) ∗ (place 3 c (pe c d) ∗ reached ER (cell (pe c d) 7 d) 0))

/-- What DMA semaphore `o` of array `a` hands over on `c`. -/
def dmaPay (c : Dev nD) (a o : ℕ) : sProp 𝕄 :=
  if a % 2 = 0 then sourceBack I (a / 2) c o else landed I (a / 2) (pe c (16 - o)) c

/-- The schedule: one round; on a barrier cell the duties 1 … 15 (duty `d` on `c` paid by `pe c d`), one on every used DMA cell. -/
def talkRd : Rounds.Schedule (GSem nD τ sig) ℕ 𝕄 where
  duties g r :=
    if r = 0 ∧ g.1.2 = .tc then
      match g.2 with
      | .reg _ => Finset.Ico 1 16
      | .dma s => if 5 ≤ s.val ∧ (s.val - 5) % 16 ≠ 0 then {0} else ∅
    else ∅
  unitless _ := False
  amount g _ _ := match g.2 with
    | .reg _ => 1
    | .dma s => amt ((s.val - 5) / 16 / 2)
  payload g _ d := match g.2 with
    | .reg _ => barPay g.1.1 d
    | .dma s => dmaPay I g.1.1 ((s.val - 5) / 16) ((s.val - 5) % 16)
  amount_pos g _ _ _ := by
    cases g.2 with
    | reg s => exact Nat.one_pos
    | dma s => exact amt_pos _

set_option synthInstance.maxHeartbeats 400000

instance place_storable (k : ℕ) (c q : Dev nD) : BI.Storable (upEmb : UEmb _ 𝕄) (place (F := F) k c q) := by
  unfold place; split <;> infer_instance
instance landed_storable (k : ℕ) (c q : Dev nD) : BI.Storable (upEmb : UEmb _ 𝕄) (landed I k c q) := by
  unfold landed; split <;> infer_instance
instance sourceBack_storable (k : ℕ) (c : Dev nD) (o : ℕ) : BI.Storable (upEmb : UEmb _ 𝕄) (sourceBack I k c o) := by
  unfold sourceBack; split <;> infer_instance

instance talkRd_payload_storable (g : GSem nD τ sig) (r : ℕ) (d : ℕ) : BI.Storable (upEmb : UEmb _ 𝕄) ((talkRd I).payload g r d) := by
  unfold talkRd
  dsimp only
  cases g.2 with
  | reg s => dsimp only; unfold barPay; infer_instance
  | dma s => dsimp only; unfold dmaPay; split <;> infer_instance

section Sched

variable (c : Dev nD)

theorem duties_bar : (talkRd I).duties (bCell c) 0 = Finset.Ico 1 16 := by
  dsimp only [talkRd]; exact if_pos ⟨rfl, rfl⟩
theorem duties_cell {a o : ℕ} (ha : a < 8) (h1 : 1 ≤ o) (h2 : o < 16) : (talkRd I).duties (cell c a o) 0 = {0} := by
  dsimp only [talkRd]; rw [if_pos ⟨rfl, rfl⟩, dsem_val ha h2, if_pos (by omega)]
theorem duties_later (g : GSem nD τ sig) : ∀ r, 1 ≤ r → (talkRd I).duties g r = ∅ :=
  fun r hr => by dsimp only [talkRd]; rw [if_neg (fun h => by omega)]

theorem amount_bar (d : ℕ) : (talkRd I).amount (bCell c) 0 d = 1 := rfl
theorem amount_cell {a o : ℕ} (ha : a < 8) (h2 : o < 16) (d : ℕ) : (talkRd I).amount (cell c a o) 0 d = amt (a / 2) := by
  dsimp only [talkRd]; rw [dsem_val ha h2, show (5 + 16 * a + o - 5) / 16 / 2 = a / 2 by omega]

theorem payload_bar (d : ℕ) : (talkRd I).payload (bCell c) 0 d = barPay c d := rfl
theorem payload_cell {a o : ℕ} (ha : a < 8) (h2 : o < 16) (d : ℕ) : (talkRd I).payload (cell c a o) 0 d = dmaPay I c a o := by
  dsimp only [talkRd]; rw [dsem_val ha h2, show (5 + 16 * a + o - 5) / 16 = a by omega, show (5 + 16 * a + o - 5) % 16 = o by omega]

theorem expect_bar : (talkRd I).expect (bCell c) 0 = 15 := by
  unfold Schedule.expect Schedule.amountOf; rw [duties_bar]; rfl
theorem expect_cell {a o : ℕ} (ha : a < 8) (h1 : 1 ≤ o) (h2 : o < 16) : (talkRd I).expect (cell c a o) 0 = amt (a / 2) := by
  unfold Schedule.expect Schedule.amountOf; rw [duties_cell I c ha h1 h2, Finset.sum_singleton, amount_cell I c ha h2]

theorem rest_bar : bigSep ((talkRd I).duties (bCell c) 0 \ ∅) (fun u => (talkRd I).payload (bCell c) 0 u)
    = bigSep (Finset.Ico 1 16) (fun d => barPay (F := F) c d) := by
  rw [Finset.sdiff_empty, duties_bar]; rfl
theorem rest_cell {a o : ℕ} (ha : a < 8) (h1 : 1 ≤ o) (h2 : o < 16) :
    bigSep ((talkRd I).duties (cell c a o) 0 \ ∅) (fun u => (talkRd I).payload (cell c a o) 0 u) = dmaPay I c a o := by
  rw [Finset.sdiff_empty, duties_cell I c ha h1 h2, bigSep_singleton, payload_cell I c ha h2]

end Sched

/-! ## What a device owes, and the levels -/

/-- The units still owed to the other devices' barriers, signals `n`, … , 15 not sent. -/
def owB (c : Dev nD) (n : ℕ) : CellTallies nD τ sig Unit := ∑ o ∈ Finset.Ico n 16, tallyAt (bCell (pe c o)) () 1
/-- The credit still owed to the other devices' receive cells of kind `k`, copies `n`, …, 15 not started. -/
def owR (k : ℕ) (c : Dev nD) (n : ℕ) : CellTallies nD τ sig Unit := ∑ o ∈ Finset.Ico n 16, tallyAt (cell (pe c o) (2 * k + 1) o) () (amt k)

def L (g : GSem nD τ sig) : Finset Unit := if g.1.2 = .tc then {()} else ∅
/-- Barrier cells at 1, receive cells at 2, 3, 3, 4 by kind, the rest at 0. -/
def lvD (a : ℕ) : ℕ := match a with | 1 => 2 | 3 => 3 | 5 => 3 | 7 => 4 | _ => 0
def lv (g : GSem nD τ sig) (_ : Unit) : ℕ := match g.2 with
  | .reg _ => 1
  | .dma s => if s.val < 5 then 0 else lvD ((s.val - 5) / 16)

theorem lv_cell (c : Dev nD) {a o : ℕ} (ha : a < 8) (ho : o < 16) (u : Unit) : lv (cell c a o) u = lvD a := by
  dsimp only [lv]; rw [dsem_val ha ho, if_neg (by omega), show (5 + 16 * a + o - 5) / 16 = a by omega]

theorem L_tc (c : Dev nD) (sm : SemLoc sig) : L ((c : Thread nD τ), sm) = {()} := if_pos rfl
theorem L_of_ne (g : GSem nD τ sig) (h : g.1.2 ≠ .tc) : L g = ∅ := if_neg h

end Cert.KernelIdeal.Exchange
-- ==== Proof.Steps.lean ====
/-
  One step of the exchange at a time: a signal, a wait, a copy. Each lemma takes the resources of a whole group of steps
  (`Snd`, `Wt`, `Sg`: what the remaining steps of the group need, and what the past ones gave) and moves its counter by one.
-/
module

public import proofs.«01_k».proof.Proof.Schedule

@[expose] public section

noncomputable section

set_option maxRecDepth 16384

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F] [Named F]

local notation "𝕄" => MT nD τ sig Unit (Elt F) ℕ UU ℕ

variable (I : Inp F) (K : GSem nD τ sig → ℕ)

abbrev 𝒱₀ : Variants := Variants.none

/-- A program of device `c` runs to `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What is known throughout -/

/-- The used DMA cells, by device, array and number. -/
abbrev cellIx : Finset (Dev nD × ℕ × ℕ) := Finset.univ ×ˢ Finset.range 8 ×ˢ Finset.Ico 1 16

/-- The levels, as far as they are known. -/
def Lev : sProp 𝕄 := levAts L lv

instance Lev_persistent : BI.Persistent (Lev (F := F)) := by unfold Lev; infer_instance

/-- The invariants of all cells, at the names `K`, and the levels. -/
def Ctx : sProp 𝕄 :=
  iprop((bigSep Finset.univ fun c : Dev nD => cellInv ER (talkRd I) (K (bCell c)) (bCell c))
    ∗ (bigSep cellIx fun p => cellInv ER (talkRd I) (K (cell p.1 p.2.1 p.2.2)) (cell p.1 p.2.1 p.2.2))
    ∗ Lev (F := F))

instance Ctx_persistent : BI.Persistent (Ctx I K) := by unfold Ctx; infer_instance

theorem Ctx_bar (c : Dev nD) : Ctx I K ⊢ cellInv ER (talkRd I) (K (bCell c)) (bCell c) := by
  unfold Ctx
  have h : (bigSep Finset.univ (fun c : Dev nD => cellInv ER (talkRd I) (K (bCell c)) (bCell c)) : sProp 𝕄)
      ⊢ cellInv ER (talkRd I) (K (bCell c)) (bCell c) := BI.bigSep_elim (Finset.mem_univ c)
  iintro ⟨H, -⟩
  iapply h $$ H
theorem Ctx_cell (c : Dev nD) {a o : ℕ} (ha : a < 8) (h1 : 1 ≤ o) (h2 : o < 16) :
    Ctx I K ⊢ cellInv ER (talkRd I) (K (cell c a o)) (cell c a o) := by
  unfold Ctx
  iintro ⟨-, H, -⟩
  have h : (bigSep cellIx (fun p => cellInv ER (talkRd I) (K (cell p.1 p.2.1 p.2.2)) (cell p.1 p.2.1 p.2.2)) : sProp 𝕄)
      ⊢ cellInv ER (talkRd I) (K (cell c a o)) (cell c a o) :=
    BI.bigSep_elim (i := (c, a, o)) (by simp only [Finset.mem_product, Finset.mem_univ, Finset.mem_range, Finset.mem_Ico, true_and]; omega)
      (Φ := fun p => cellInv ER (talkRd I) (K (cell p.1 p.2.1 p.2.2)) (cell p.1 p.2.1 p.2.2))
  iapply h $$ H
theorem Ctx_lev : (Ctx I K : sProp 𝕄) ⊢ Lev (F := F) := by
  unfold Ctx
  iintro ⟨-, -, H⟩
  iexact H

/-! ## Owing -/

/-- The device owes `O`. -/
def Owe (c : Dev nD) (O : CellTallies nD τ sig Unit) : sProp 𝕄 := iprop(∃ W, owes (c : Thread nD τ) O W)

/-- What device `c` owes when its signals `n …` and its copies `n0 …`, `n1 …`, `n2 …`, `n3 …` of the four kinds are still to come. -/
def Ow (c : Dev nD) (n n0 n1 n2 n3 : ℕ) : CellTallies nD τ sig Unit :=
  owB c n + owR 0 c n0 + owR 1 c n1 + owR 2 c n2 + owR 3 c n3

theorem owB_step (c : Dev nD) {o : ℕ} (h : o < 16) : owB c o = owB c (o + 1) + tallyAt (bCell (pe c o)) () 1 := by
  unfold owB; rw [Finset.sum_eq_sum_Ico_succ_bot h, add_comm]
theorem owR_step (k : ℕ) (c : Dev nD) {o : ℕ} (h : o < 16) :
    owR k c o = owR k c (o + 1) + tallyAt (cell (pe c o) (2 * k + 1) o) () (amt k) := by
  unfold owR; rw [Finset.sum_eq_sum_Ico_succ_bot h, add_comm]

theorem Ow_stepB (c : Dev nD) {o n0 n1 n2 n3 : ℕ} (h : o < 16) :
    Ow c o n0 n1 n2 n3 = Ow c (o + 1) n0 n1 n2 n3 + tallyAt (bCell (pe c o)) () 1 := by
  unfold Ow; rw [owB_step c h]; abel
theorem Ow_step0 (c : Dev nD) {n o n1 n2 n3 : ℕ} (h : o < 16) :
    Ow c n o n1 n2 n3 = Ow c n (o + 1) n1 n2 n3 + tallyAt (cell (pe c o) (2 * 0 + 1) o) () (amt 0) := by
  unfold Ow; rw [owR_step 0 c h]; abel
theorem Ow_step1 (c : Dev nD) {n n0 o n2 n3 : ℕ} (h : o < 16) :
    Ow c n n0 o n2 n3 = Ow c n n0 (o + 1) n2 n3 + tallyAt (cell (pe c o) (2 * 1 + 1) o) () (amt 1) := by
  unfold Ow; rw [owR_step 1 c h]; abel
theorem Ow_step2 (c : Dev nD) {n n0 n1 o n3 : ℕ} (h : o < 16) :
    Ow c n n0 n1 o n3 = Ow c n n0 n1 (o + 1) n3 + tallyAt (cell (pe c o) (2 * 2 + 1) o) () (amt 2) := by
  unfold Ow; rw [owR_step 2 c h]; abel
theorem Ow_step3 (c : Dev nD) {n n0 n1 n2 o : ℕ} (h : o < 16) :
    Ow c n n0 n1 n2 o = Ow c n n0 n1 n2 (o + 1) + tallyAt (cell (pe c o) (2 * 3 + 1) o) () (amt 3) := by
  unfold Ow; rw [owR_step 3 c h]; abel

theorem Ow_done (c : Dev nD) : Ow c 16 16 16 16 16 = 0 := by
  unfold Ow owB owR; simp only [Finset.Ico_self, Finset.sum_empty, add_zero]

/-- Everything owed lies above level `l`. -/
def Below (l : ℕ) (O : CellTallies nD τ sig Unit) : Prop := ∀ g u, 0 < O g u → u ∈ L g ∧ l < lv g u

theorem Below.zero (l : ℕ) : Below l 0 := fun _ _ h => absurd h (Nat.lt_irrefl 0)
theorem Below.add {l : ℕ} {O O' : CellTallies nD τ sig Unit} (h : Below l O) (h' : Below l O') : Below l (O + O') := fun g u hg => by
  by_cases h0 : 0 < O g u
  · exact h g u h0
  · refine h' g u ?_
    have : (O + O') g u = O g u + O' g u := rfl
    omega
theorem Below.sum {l : ℕ} {f : ℕ → CellTallies nD τ sig Unit} {s : Finset ℕ} (h : ∀ i ∈ s, Below l (f i)) : Below l (∑ i ∈ s, f i) := by
  classical
  induction s using Finset.induction_on with
  | empty => rw [Finset.sum_empty]; exact Below.zero l
  | insert i s hi ih =>
    rw [Finset.sum_insert hi]
    exact (h i (Finset.mem_insert_self i s)).add (ih fun j hj => h j (Finset.mem_insert_of_mem hj))
theorem Below.tally {l n : ℕ} {c : Dev nD} {sm : SemLoc sig} (h : l < lv ((c : Thread nD τ), sm) ()) :
    Below l (tallyAt ((c : Thread nD τ), sm) () n) := fun g u hg => by
  rw [tallyAt_apply] at hg
  by_cases e : g = ((c : Thread nD τ), sm) ∧ u = ()
  · rw [e.1, L_tc]; exact ⟨Finset.mem_singleton_self _, h⟩
  · rw [if_neg e] at hg; exact absurd hg (Nat.lt_irrefl 0)

theorem below_owB (c : Dev nD) {l n : ℕ} (h : l < 1 ∨ 16 ≤ n) : Below l (owB c n) := by
  refine Below.sum fun o ho => Below.tally ?_
  rw [Finset.mem_Ico] at ho
  show l < 1
  omega
theorem below_owR (k : ℕ) (hk : k < 4) (c : Dev nD) {l n : ℕ} (h : l < lvD (2 * k + 1) ∨ 16 ≤ n) : Below l (owR k c n) := by
  refine Below.sum fun o ho => Below.tally ?_
  rw [Finset.mem_Ico] at ho
  have e := lv_cell (pe c o) (a := 2 * k + 1) (by omega) ho.2 ()
  rw [e]; omega
theorem below_Ow (c : Dev nD) {l n n0 n1 n2 n3 : ℕ} (h : l < 1 ∨ 16 ≤ n) (h0 : l < 2 ∨ 16 ≤ n0) (h1 : l < 3 ∨ 16 ≤ n1)
    (h2 : l < 3 ∨ 16 ≤ n2) (h3 : l < 4 ∨ 16 ≤ n3) : Below l (Ow c n n0 n1 n2 n3) :=
  ((((below_owB c h).add (below_owR 0 (by decide) c h0)).add (below_owR 1 (by decide) c h1)).add (below_owR 2 (by decide) c h2)).add
    (below_owR 3 (by decide) c h3)

theorem mayWait (c : Dev nD) (sm : SemLoc sig) (O : CellTallies nD τ sig Unit) (hO : Below (lv ((c : Thread nD τ), sm) ()) O) :
    (Lev (F := F) : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => (hO g u hg).1)
    (fun p hp => by rw [Finset.mem_singleton.mp hp])
    (fun g u hg => (hO g u hg).2)

/-! ## A signal -/

/-- For the signal to `pe c o`: the right to pay it, that its barrier is open, and what is paid. -/
def sg (c : Dev nD) (o : ℕ) : sProp 𝕄 :=
  iprop(dutyTok ER (bCell (pe c o)) 0 (16 - o) ∗ reached ER (bCell (pe c o)) 0 ∗ barPay (pe c o) (16 - o))
/-- … for the signals `n`, …, 15. -/
def Sg (c : Dev nD) (n : ℕ) : sProp 𝕄 := bigSep (Finset.Ico n 16) (sg (F := F) c)

theorem Ico_step {M : Type} [URA M] (Φ : ℕ → sProp M) {o : ℕ} (h : o < 16) :
    bigSep (Finset.Ico o 16) Φ = iprop(Φ o ∗ bigSep (Finset.Ico (o + 1) 16) Φ) := by
  rw [← Finset.insert_Ico_add_one_left_eq_Ico h, BI.bigSep_insert (by simp)]; rfl
theorem Ico_snoc {M : Type} [URA M] (Φ : ℕ → sProp M) {o : ℕ} (h : 1 ≤ o) :
    bigSep (Finset.Ico 1 (o + 1)) Φ = iprop(Φ o ∗ bigSep (Finset.Ico 1 o) Φ) := by
  rw [← Finset.insert_Ico_right_eq_Ico_add_one h, BI.bigSep_insert (by simp)]; rfl

theorem signal_step (c : Dev nD) (o : ℕ) (h1 : 1 ≤ o) (h2 : o < 16) {d : Dev nD} (hd : d = pe c o) {s : Sem sig} (hs : s = barrier0)
    {z : ℤ} (hz : z = ((1 : ℕ) : ℤ)) {α : Type} {k : PUnit → Prog (TpuEff nD τ sig (Elt F) Λ₀ .tc) α} {Q : α → sProp 𝕄} {R : sProp 𝕄}
    {n0 n1 n2 n3 : ℕ}
    (hk : iprop(Ctx I K ∗ Owe c (Ow c (o + 1) n0 n1 n2 n3) ∗ Sg c (o + 1) ∗ R) ⊢ WP c (k ⟨⟩) Q) :
    iprop(Ctx I K ∗ Owe c (Ow c o n0 n1 n2 n3) ∗ Sg c o ∗ R) ⊢ WP c (.op (.semSignal (d, .tc) s z) k) Q := by
  subst hd hs hz
  unfold Sg
  rw [Ico_step _ h2]
  unfold Owe sg
  iintro ⟨#HC, ⟨%W, HO⟩, ⟨⟨Ht, Hr, Hp⟩, HS⟩, HR⟩
  iapply (Rounds.wp_signal 𝒱₀ ER (talkRd I) (c : Thread nD τ) none (dst := (pe c o : Thread nD τ)) (sem := barrier0) (r := 0) (d := 16 - o)
      (κ := K (bCell (pe c o))) (by rw [duties_bar]; exact Finset.mem_Ico.mpr (by omega)) (amount_bar I (pe c o) (16 - o)) ()
      (Ow c (o + 1) n0 n1 n2 n3) (Ow_stepB c h2)) $$ [HO Ht Hr Hp]
  · isplitr; · iapply (Ctx_bar I K (pe c o)) $$ HC
    isplitl [HO]; · iexact HO
    isplitl [Ht]; · iexact Ht
    isplitl [Hp]; · rw [payload_bar]; iexact Hp
    iexact Hr
  iintro HO
  iapply hk
  isplitr; · iexact HC
  isplitl [HO]; · unfold Owe; iexists W; iexact HO
  isplitl [HS]; · unfold Sg; iexact HS
  iexact HR

/-- The wait for the fifteen units of the own barrier. -/
theorem barrier_step (c : Dev nD) {s : Sem sig} (hs : s = barrier0) {z : ℤ} (hz : z = ((15 : ℕ) : ℤ)) {α : Type}
    {k : PUnit → Prog (TpuEff nD τ sig (Elt F) Λ₀ .tc) α} {Q : α → sProp 𝕄} {R : sProp 𝕄} {O : CellTallies nD τ sig Unit} (hO : Below 1 O)
    (hk : iprop(Ctx I K ∗ Owe c O ∗ (bigSep (Finset.Ico 1 16) (fun d => barPay (F := F) c d) ∗ atPos ER (bCell c) 1 ∅ 0) ∗ R) ⊢ WP c (k ⟨⟩) Q) :
    iprop(Ctx I K ∗ Owe c O ∗ (cred (tallyAt (bCell c) () 15) ∗ atPos ER (bCell c) 0 ∅ 0) ∗ R) ⊢ WP c (.op (.semWait s z) k) Q := by
  subst hs hz
  unfold Owe
  iintro ⟨#HC, ⟨%W, HO⟩, ⟨Hc, Ha⟩, HR⟩
  ihave #HL := (Ctx_lev I K) $$ HC
  iapply (Rounds.wp_wait_rest_token 𝒱₀ ER (talkRd I) (c : Thread nD τ) none (κ := K (bCell c))
      (wpE_semWait_eq 𝒱₀ (c : Thread nD τ) none Set.univ) (Set.mem_univ _) () (O := O) (W := W) (R := 0) (m := 0) (T := ∅)
      ((Nat.zero_add 15).trans (expect_bar I c).symm)) $$ [HO Hc Ha]
  · isplitr; · iapply (Ctx_bar I K c) $$ HC
    isplitl [Hc]; · iexact Hc
    isplitl [HO]; · iexact HO
    isplitr
    · iapply (mayWait c (.reg barrier0) O hO)
      iexact HL
    iexact Ha
  iintro ⟨HO, Ha, -, Hp⟩
  ihave Hp := (Entails.of_eq (rest_bar I c)) $$ Hp
  iapply hk
  isplitr; · iexact HC
  isplitl [HO]; · unfold Owe; iexists _; iexact HO
  isplitr [HR]
  · isplitl [Hp]; · iexact Hp
    iexact Ha
  iexact HR

/-! ## A wait on a DMA semaphore -/

/-- What the wait on cell `(a, o)` needs, and what it gives. -/
def wNeed (a : ℕ) (c : Dev nD) (o : ℕ) : sProp 𝕄 := iprop(cred (tallyAt (cell c a o) () (amt (a / 2))) ∗ atPos ER (cell c a o) 0 ∅ 0)
def wGot (a : ℕ) (c : Dev nD) (o : ℕ) : sProp 𝕄 := iprop(dmaPay I c a o ∗ atPos ER (cell c a o) 1 ∅ 0)
/-- Array `a`'s waits, `n` the next. -/
def Wt (a : ℕ) (c : Dev nD) (n : ℕ) : sProp 𝕄 :=
  iprop(bigSep (Finset.Ico n 16) (wNeed (F := F) a c) ∗ bigSep (Finset.Ico 1 n) (wGot I a c))

theorem wait_step (a : ℕ) (ha : a < 8) (c : Dev nD) (o : ℕ) (h1 : 1 ≤ o) (h2 : o < 16) {s : DmaSem sig} (hs : s = dsem a o)
    {O : CellTallies nD τ sig Unit} (hO : Below (lvD a) O)
    {sp sp' : Space} {sh sh' : Shape} {e e' : EltTy} {src : Memref sig .tc sp' sh' e'} {dst : Memref sig .tc sp sh e}
    {hsrc : src.view.WordExact} {hdst : dst.view.WordExact} (hamt : dst.view.dmaCredit = amt (a / 2)) {α : Type}
    {k : PUnit → Prog (TpuEff nD τ sig (Elt F) Λ₀ .tc) α} {Q : α → sProp 𝕄} {R : sProp 𝕄}
    (hk : iprop(Ctx I K ∗ Owe c O ∗ Wt I a c (o + 1) ∗ R) ⊢ WP c (k ⟨⟩) Q) :
    iprop(Ctx I K ∗ Owe c O ∗ Wt I a c o ∗ R) ⊢ WP c (.op (.waitDma2 s src dst hsrc hdst) k) Q := by
  subst hs
  have hO' : Below (lv (cell c a o) ()) O := by rw [lv_cell c ha h2]; exact hO
  unfold Wt at hk ⊢
  rw [Ico_snoc _ h1] at hk
  rw [Ico_step _ h2]
  unfold Owe wNeed at *
  iintro ⟨#HC, ⟨%W, HO⟩, ⟨⟨⟨Hc, Ha⟩, HN⟩, HG⟩, HR⟩
  ihave #HL := (Ctx_lev I K) $$ HC
  iapply (Rounds.wp_wait_rest_token 𝒱₀ ER (talkRd I) (c : Thread nD τ) none (κ := K (cell c a o))
      (wpE_waitDma2_eq (src := src) (dst := dst) 𝒱₀ (c : Thread nD τ) none Set.univ) (Set.mem_univ _) () (O := O) (W := W) (R := 0) (m := 0) (T := ∅)
      (by rw [Nat.zero_add, hamt, expect_cell I c ha h1 h2])) $$ [HO Hc Ha]
  · isplitr; · iapply (Ctx_cell I K c ha h1 h2) $$ HC
    isplitl [Hc]; · rw [hamt]; iexact Hc
    isplitl [HO]; · iexact HO
    isplitr
    · iapply (mayWait c (.dma (dsem a o)) O hO')
      iexact HL
    iexact Ha
  iintro ⟨HO, Ha, -, Hp⟩
  ihave Hp := (Entails.of_eq (rest_cell I c ha h1 h2)) $$ Hp
  iapply hk
  isplitr; · iexact HC
  isplitl [HO]; · iexists _; iexact HO
  isplitr [HR]
  · isplitl [HN]; · iexact HN
    isplitr [HG]
    · unfold wGot
      isplitl [Hp]; · iexact Hp
      iexact Ha
    iexact HG
  iexact HR

/-- … with one more group of resources in between. -/
theorem wait_step' (a : ℕ) (ha : a < 8) (c : Dev nD) (o : ℕ) (h1 : 1 ≤ o) (h2 : o < 16) {s : DmaSem sig} (hs : s = dsem a o)
    {O : CellTallies nD τ sig Unit} (hO : Below (lvD a) O)
    {sp sp' : Space} {sh sh' : Shape} {e e' : EltTy} {src : Memref sig .tc sp' sh' e'} {dst : Memref sig .tc sp sh e}
    {hsrc : src.view.WordExact} {hdst : dst.view.WordExact} (hamt : dst.view.dmaCredit = amt (a / 2)) {α : Type}
    {k : PUnit → Prog (TpuEff nD τ sig (Elt F) Λ₀ .tc) α} {Q : α → sProp 𝕄} {X R : sProp 𝕄}
    (hk : iprop(Ctx I K ∗ Owe c O ∗ X ∗ Wt I a c (o + 1) ∗ R) ⊢ WP c (k ⟨⟩) Q) :
    iprop(Ctx I K ∗ Owe c O ∗ X ∗ Wt I a c o ∗ R) ⊢ WP c (.op (.waitDma2 s src dst hsrc hdst) k) Q := by
  have h := wait_step I K a ha c o h1 h2 hs hO (src := src) (dst := dst) (hsrc := hsrc) (hdst := hdst) hamt (k := k) (Q := Q) (R := iprop(X ∗ R))
    ((sep_mono_right (sep_mono_right sep_left_comm.1)).trans hk)
  exact (sep_mono_right (sep_mono_right sep_left_comm.1)).trans h

/-! ## A copy -/

/-- For copy `o` of kind `k`: the rights to pay its two semaphores, and the place it fills. -/
def ts (k : ℕ) (c : Dev nD) (o : ℕ) : sProp 𝕄 :=
  iprop((dutyTok ER (cell c (2 * k) o) 0 0 ∗ reached ER (cell c (2 * k) o) 0)
    ∗ dutyTok ER (cell (pe c o) (2 * k + 1) o) 0 0 ∗ place k c (pe c o) ∗ reached ER (cell (pe c o) (2 * k + 1) o) 0)
/-- Kind `k`'s copies, `n` the next: what the coming ones need, and the credit of the past ones. -/
def Snd (k : ℕ) (c : Dev nD) (n : ℕ) : sProp 𝕄 :=
  iprop(bigSep (Finset.Ico n 16) (ts (F := F) k c) ∗ bigSep (Finset.Ico n 16) (source I k c)
    ∗ bigSep (Finset.Ico 1 n) (fun o => cred (tallyAt (cell c (2 * k) o) () (amt k))))

theorem send_core (k : ℕ) (hk4 : k < 4) (c : Dev nD) (o : ℕ) (h1 : 1 ≤ o) (h2 : o < 16) {d : Dev nD} (hd : d = pe c o)
    {sh : Shape} {e : EltTy} {src dst : Memref sig .tc .vmem sh e} {sS sR : DmaSem sig} (hsS : sS = dsem (2 * k) o) (hsR : sR = dsem (2 * k + 1) o)
    {q : PosShare TreeShare} {fs : Buf (Elt F) (src.view.loc (c : Thread nD τ))} {fd : Buf (Elt F) (dst.view.loc (pe c o : Thread nD τ))}
    (hamt : dst.view.dmaCredit = amt k)
    (hp1 : (src.view.loc (c : Thread nD τ) ↦[src.view.set]{q} fs) ⊢ sourceBack I k c o)
    (hp2 : pts (pe c o) dst (dst.view.write (Elt F) fd (src.view.read (Elt F) fs) Finset.univ) ⊢ landed I k c (pe c o))
    {O O' : CellTallies nD τ sig Unit} (hO : O = O' + tallyAt (cell (pe c o) (2 * k + 1) o) () (amt k))
    {hsc : dst.view.ref.isScScratch = false} {hsrc : src.view.WordExact} {hdst : dst.view.WordExact}
    {hsem : DmaTarget.Typed .vmem (.dma sR) (.remote (Dev.tc d) dst (.dma sS) hsc)} {α : Type}
    {k' : PUnit → Prog (TpuEff nD τ sig (Elt F) Λ₀ .tc) α} {Q : α → sProp 𝕄} {R : sProp 𝕄}
    (hk : iprop(Ctx I K ∗ Owe c O' ∗ cred (tallyAt (cell c (2 * k) o) () (amt k)) ∗ R) ⊢ WP c (k' ⟨⟩) Q) :
    iprop(Ctx I K ∗ Owe c O ∗ ((dutyTok ER (cell c (2 * k) o) 0 0 ∗ reached ER (cell c (2 * k) o) 0)
        ∗ dutyTok ER (cell (pe c o) (2 * k + 1) o) 0 0 ∗ reached ER (cell (pe c o) (2 * k + 1) o) 0
        ∗ (src.view.loc (c : Thread nD τ) ↦[src.view.set]{q} fs) ∗ pts (pe c o) dst fd) ∗ R)
      ⊢ WP c (.op (.enqueueDma src (.remote (Dev.tc d) dst (.dma sS) hsc) (.dma sR) hsrc hdst hsem) k') Q := by
  subst hd hsS hsR
  unfold Owe
  iintro ⟨#HC, ⟨%W, HO⟩, ⟨⟨HtS, HrS⟩, HtR, HrR, Hs, Hd⟩, HR⟩
  iapply (Rounds.wp_send_pointsTo 𝒱₀ ER (talkRd I) (c : Thread nD τ) none (c' := (pe c o : Thread nD τ)) (src := src) (dst := dst)
      (sS := .dma (dsem (2 * k) o)) (sem := .dma (dsem (2 * k + 1) o)) (q := q) (fs := fs) (κ₁ := K (cell c (2 * k) o))
      (κ₂ := K (cell (pe c o) (2 * k + 1) o)) (r₁ := 0) (r₂ := 0) (d₁ := 0) (d₂ := 0) (fd := fd)
      (by rw [duties_cell I c (by omega) h1 h2]; exact Finset.mem_singleton_self _)
      (by rw [duties_cell I (pe c o) (by omega) h1 h2]; exact Finset.mem_singleton_self _)
      () () (amt k) hamt
      ((amount_cell I c (by omega) h2 0).trans (by rw [show 2 * k / 2 = k by omega]))
      ((amount_cell I (pe c o) (by omega) h2 0).trans (by rw [show (2 * k + 1) / 2 = k by omega])) O' hO (W := W)
      (by rw [payload_cell I c (by omega) h2]; unfold dmaPay; rw [if_pos (by omega), show 2 * k / 2 = k by omega]; exact hp1)
      (by rw [payload_cell I (pe c o) (by omega) h2]; unfold dmaPay
          rw [if_neg (by omega), show (2 * k + 1) / 2 = k by omega, pe_back c (by omega)]; exact hp2)) $$ [HO HtS HrS HtR HrR Hs Hd]
  · isplitr; · iapply (Ctx_cell I K c (a := 2 * k) (by omega) h1 h2) $$ HC
    isplitr; · iapply (Ctx_cell I K (pe c o) (a := 2 * k + 1) (by omega) h1 h2) $$ HC
    isplitl [Hs]; · iexact Hs
    isplitl [Hd]; · iexact Hd
    isplitl [HO]; · iexact HO
    isplitl [HtS]; · iexact HtS
    isplitl [HrS]; · iexact HrS
    isplitl [HtR]; · iexact HtR
    iexact HrR
  iintro ⟨Hc, HO⟩
  iapply hk
  isplitr; · iexact HC
  isplitl [HO]; · unfold Owe; iexists W; iexact HO
  isplitl [Hc]; · iexact Hc
  iexact HR

/-- A landed piece reads as the source did. -/
theorem landed_read {sh : Shape} {e : EltTy} (c q : Dev nD) (src dst : Memref sig .tc .vmem sh e) (P : (sh.Idx → Elt F e) → Prop)
    (fs : Buf (Elt F) (src.view.loc (c : Thread nD τ))) (fd : Buf (Elt F) (dst.view.loc (q : Thread nD τ))) (h : P (src.view.read (Elt F) fs)) :
    (pts q dst (dst.view.write (Elt F) fd (src.view.read (Elt F) fs) Finset.univ) : sProp 𝕄) ⊢ okPts q dst P := by
  iintro H
  iexists _
  isplitr
  · ipureintro
    exact (show P (dst.view.read (Elt F) (dst.view.write (Elt F) fd (src.view.read (Elt F) fs) Finset.univ)) by
      rw [View.read_write_univ]; exact h)
  iexact H

/-- A copy of a piece of one of the send buffers (kinds 1, 2, 3). -/
theorem send_piece (k : ℕ) (hk4 : k < 4) (c : Dev nD) (o : ℕ) (h1 : 1 ≤ o) (h2 : o < 16) {d : Dev nD} (hd : d = pe c o)
    {sh : Shape} {e : EltTy} {src dst : Memref sig .tc .vmem sh e} (P : (sh.Idx → Elt F e) → Prop)
    (hplace : place (F := F) k c (pe c o) = anyPts (pe c o) dst) (hland : landed I k c (pe c o) = okPts (pe c o) dst P)
    (hsource : source I k c o = okPts c src P) (hback : sourceBack I k c o = anyPts c src)
    {sS sR : DmaSem sig} (hsS : sS = dsem (2 * k) o) (hsR : sR = dsem (2 * k + 1) o)
    (hamt : dst.view.dmaCredit = amt k)
    {O O' : CellTallies nD τ sig Unit} (hO : O = O' + tallyAt (cell (pe c o) (2 * k + 1) o) () (amt k))
    {hsc : dst.view.ref.isScScratch = false} {hsrc : src.view.WordExact} {hdst : dst.view.WordExact}
    {hsem : DmaTarget.Typed .vmem (.dma sR) (.remote (Dev.tc d) dst (.dma sS) hsc)} {α : Type}
    {k' : PUnit → Prog (TpuEff nD τ sig (Elt F) Λ₀ .tc) α} {Q : α → sProp 𝕄} {R : sProp 𝕄}
    (hk : iprop(Ctx I K ∗ Owe c O' ∗ Snd I k c (o + 1) ∗ R) ⊢ WP c (k' ⟨⟩) Q) :
    iprop(Ctx I K ∗ Owe c O ∗ Snd I k c o ∗ R)
      ⊢ WP c (.op (.enqueueDma src (.remote (Dev.tc d) dst (.dma sS) hsc) (.dma sR) hsrc hdst hsem) k') Q := by
  unfold Snd at hk ⊢
  rw [Ico_snoc _ h1] at hk
  rw [Ico_step _ h2, Ico_step _ h2, hsource]
  unfold ts
  rw [hplace]
  iintro ⟨#HC, HO, ⟨⟨⟨HtS, HtR, ⟨%fd, Hd⟩, HrR⟩, HT⟩, ⟨⟨%fs, %hfs, Hs⟩, HS⟩, HD⟩, HR⟩
  iapply (send_core I K k hk4 c o h1 h2 hd (src := src) (dst := dst) hsS hsR (q := fullShare) (fs := fs) (fd := fd) hamt
    (by rw [hback]; iintro H; iexists fs; iexact H) (by rw [hland]; exact landed_read c (pe c o) src dst P fs fd hfs) hO
    (R := iprop((bigSep (Finset.Ico (o + 1) 16) (ts (F := F) k c) ∗ bigSep (Finset.Ico (o + 1) 16) (source I k c)
      ∗ bigSep (Finset.Ico 1 o) (fun o => cred (tallyAt (cell c (2 * k) o) () (amt k)))) ∗ R)) ?_)
  · iintro ⟨#HC, HO, Hc, ⟨HT, HS, HD⟩, HR⟩
    iapply hk
    isplitr; · iexact HC
    isplitl [HO]; · iexact HO
    isplitr [HR]
    · isplitl [HT]; · iexact HT
      isplitl [HS]; · iexact HS
      isplitl [Hc]; · iexact Hc
      iexact HD
    iexact HR
  isplitr; · iexact HC
  isplitl [HO]; · iexact HO
  isplitl [HtS HtR Hd HrR Hs]
  · isplitl [HtS]; · iexact HtS
    isplitl [HtR]; · iexact HtR
    isplitl [HrR]; · iexact HrR
    isplitl [Hs]; · iexact Hs
    iexact Hd
  isplitr [HR]
  · isplitl [HT]; · iexact HT
    isplitl [HS]; · iexact HS
    iexact HD
  iexact HR

/-- A copy of the router rows (kind 0). -/
theorem send_0 (c : Dev nD) (o : ℕ) (h1 : 1 ≤ o) (h2 : o < 16) {d : Dev nD} (hd : d = pe c o)
    {off : Fin 3 → ℕ} (hoff : off = ![c.val, 0, 0]) {inb : ∀ a, off a + S1x2x512.size a ≤ S16x8x512.size a} {hu}
    {sS sR : DmaSem sig} (hsS : sS = dsem 0 o) (hsR : sR = dsem 1 o) {n n1 n2 n3 : ℕ} {hsc} {hsrc} {hdst} {hsem} {α : Type}
    {k' : PUnit → Prog (TpuEff nD τ sig (Elt F) Λ₀ .tc) α} {Q : α → sProp 𝕄} {R : sProp 𝕄}
    (hk : iprop(Ctx I K ∗ Owe c (Ow c n (o + 1) n1 n2 n3) ∗ Snd I 0 c (o + 1) ∗ R) ⊢ WP c (k' ⟨⟩) Q) :
    iprop(Ctx I K ∗ Owe c (Ow c n o n1 n2 n3) ∗ Snd I 0 c o ∗ R)
      ⊢ WP c (.op (.enqueueDma mRp (.remote (Dev.tc d) (mRb.slice (Rect.unit (s := S16x8x512) off S1x2x512.size inb) hu) (.dma sS) hsc)
          (.dma sR) hsrc hdst hsem) k') Q := by
  subst hoff
  unfold Snd at hk ⊢
  rw [Ico_snoc _ h1] at hk
  rw [Ico_step _ h2, Ico_step _ h2]
  rw [show source I 0 c o = rpTok I c o from rfl]
  unfold ts
  rw [show place (F := F) 0 c (pe c o) = anyPts (pe c o) (rowR c) from rfl]
  iintro ⟨#HC, HO, ⟨⟨⟨HtS, HtR, ⟨%fd, Hd⟩, HrR⟩, HT⟩, ⟨Hs, HS⟩, HD⟩, HR⟩
  iapply (send_core I K 0 (by decide) c o h1 h2 hd (src := mRp) (dst := rowR c) hsS hsR (q := Transfers.shareTokN fullShare o) (fs := I.rp c) (fd := fd) rfl
    (BI.Entails.refl _)
    (by unfold landed; exact landed_read c (pe c o) mRp (rowR c) _ (I.rp c) fd (View.read_whole _ _)) (Ow_step0 c h2)
    (R := iprop((bigSep (Finset.Ico (o + 1) 16) (ts (F := F) 0 c) ∗ bigSep (Finset.Ico (o + 1) 16) (source I 0 c)
      ∗ bigSep (Finset.Ico 1 o) (fun o => cred (tallyAt (cell c (2 * 0) o) () (amt 0)))) ∗ R)) ?_)
  · iintro ⟨#HC, HO, Hc, ⟨HT, HS, HD⟩, HR⟩
    iapply hk
    isplitr; · iexact HC
    isplitl [HO]; · iexact HO
    isplitr [HR]
    · isplitl [HT]; · iexact HT
      isplitl [HS]; · iexact HS
      isplitl [Hc]; · iexact Hc
      iexact HD
    iexact HR
  isplitr; · iexact HC
  isplitl [HO]; · iexact HO
  isplitl [HtS HtR Hd HrR Hs]
  · isplitl [HtS]; · iexact HtS
    isplitl [HtR]; · iexact HtR
    isplitl [HrR]; · iexact HrR
    isplitl [Hs]; · iexact Hs
    iexact Hd
  isplitr [HR]
  · isplitl [HT]; · iexact HT
    isplitl [HS]; · iexact HS
    iexact HD
  iexact HR

/-- A copy of token rows (kind 1). -/
theorem send_1 (c : Dev nD) (o : ℕ) (h1 : 1 ≤ o) (h2 : o < 16) {d : Dev nD} (hd : d = pe c o)
    {off off' : Fin 3 → ℕ} (hoff : off = ![c.val, 0, 0]) (hoff' : off' = ![(pe c o).val, 0, 0])
    {inb : ∀ a, off a + S1x16x512.size a ≤ S16x16x512.size a} {inb' : ∀ a, off' a + S1x16x512.size a ≤ S16x16x512.size a} {hu hu'}
    {sS sR : DmaSem sig} (hsS : sS = dsem 2 o) (hsR : sR = dsem 3 o) {n n0 n2 n3 : ℕ} {hsc} {hsrc} {hdst} {hsem} {α : Type}
    {k' : PUnit → Prog (TpuEff nD τ sig (Elt F) Λ₀ .tc) α} {Q : α → sProp 𝕄} {R : sProp 𝕄}
    (hk : iprop(Ctx I K ∗ Owe c (Ow c n n0 (o + 1) n2 n3) ∗ Snd I 1 c (o + 1) ∗ R) ⊢ WP c (k' ⟨⟩) Q) :
    iprop(Ctx I K ∗ Owe c (Ow c n n0 o n2 n3) ∗ Snd I 1 c o ∗ R)
      ⊢ WP c (.op (.enqueueDma (mSX.slice (Rect.unit (s := S16x16x512) off' S1x16x512.size inb') hu')
          (.remote (Dev.tc d) (mRX.slice (Rect.unit (s := S16x16x512) off S1x16x512.size inb) hu) (.dma sS) hsc)
          (.dma sR) hsrc hdst hsem) k') Q := by
  subst hoff hoff'
  exact send_piece I K 1 (by decide) c o h1 h2 hd (src := rowSX (pe c o)) (dst := rowRX c) (SXrow I c (pe c o)) rfl rfl rfl rfl hsS hsR rfl
    (Ow_step1 c h2) hk

/-- A copy of weight rows (kind 2), the token rows' resources standing before. -/
theorem send_2 (c : Dev nD) (o : ℕ) (h1 : 1 ≤ o) (h2 : o < 16) {d : Dev nD} (hd : d = pe c o)
    {off off' : Fin 3 → ℕ} (hoff : off = ![c.val, 0, 0]) (hoff' : off' = ![(pe c o).val, 0, 0])
    {inb : ∀ a, off a + S1x16x128.size a ≤ S16x16x128.size a} {inb' : ∀ a, off' a + S1x16x128.size a ≤ S16x16x128.size a} {hu hu'}
    {sS sR : DmaSem sig} (hsS : sS = dsem 4 o) (hsR : sR = dsem 5 o) {n n0 n1 n3 : ℕ} {hsc} {hsrc} {hdst} {hsem} {α : Type}
    {k' : PUnit → Prog (TpuEff nD τ sig (Elt F) Λ₀ .tc) α} {Q : α → sProp 𝕄} {X R : sProp 𝕄}
    (hk : iprop(Ctx I K ∗ Owe c (Ow c n n0 n1 (o + 1) n3) ∗ X ∗ Snd I 2 c (o + 1) ∗ R) ⊢ WP c (k' ⟨⟩) Q) :
    iprop(Ctx I K ∗ Owe c (Ow c n n0 n1 o n3) ∗ X ∗ Snd I 2 c o ∗ R)
      ⊢ WP c (.op (.enqueueDma (mSW.slice (Rect.unit (s := S16x16x128) off' S1x16x128.size inb') hu')
          (.remote (Dev.tc d) (mRW.slice (Rect.unit (s := S16x16x128) off S1x16x128.size inb) hu) (.dma sS) hsc)
          (.dma sR) hsrc hdst hsem) k') Q := by
  subst hoff hoff'
  have h := send_piece I K 2 (by decide) c o h1 h2 hd (src := rowSW (pe c o)) (dst := rowRW c) (SWrow I c (pe c o)) rfl rfl rfl rfl hsS hsR rfl
    (Ow_step2 c (n := n) (n0 := n0) (n1 := n1) (n3 := n3) h2) (hsc := hsc) (hsrc := hsrc) (hdst := hdst) (hsem := hsem) (k' := k') (Q := Q) (R := iprop(X ∗ R))
    ((sep_mono_right (sep_mono_right sep_left_comm.1)).trans hk)
  exact (sep_mono_right (sep_mono_right sep_left_comm.1)).trans h

/-- A copy of result rows (kind 3). -/
theorem send_3 (c : Dev nD) (o : ℕ) (h1 : 1 ≤ o) (h2 : o < 16) {d : Dev nD} (hd : d = pe c o)
    {off off' : Fin 3 → ℕ} (hoff : off = ![c.val, 0, 0]) (hoff' : off' = ![(pe c o).val, 0, 0])
    {inb : ∀ a, off a + S1x16x512.size a ≤ S16x16x512.size a} {inb' : ∀ a, off' a + S1x16x512.size a ≤ S16x16x512.size a} {hu hu'}
    {sS sR : DmaSem sig} (hsS : sS = dsem 6 o) (hsR : sR = dsem 7 o) {n n0 n1 n2 : ℕ} {hsc} {hsrc} {hdst} {hsem} {α : Type}
    {k' : PUnit → Prog (TpuEff nD τ sig (Elt F) Λ₀ .tc) α} {Q : α → sProp 𝕄} {R : sProp 𝕄}
    (hk : iprop(Ctx I K ∗ Owe c (Ow c n n0 n1 n2 (o + 1)) ∗ Snd I 3 c (o + 1) ∗ R) ⊢ WP c (k' ⟨⟩) Q) :
    iprop(Ctx I K ∗ Owe c (Ow c n n0 n1 n2 o) ∗ Snd I 3 c o ∗ R)
      ⊢ WP c (.op (.enqueueDma (mY.slice (Rect.unit (s := S16x16x512) off' S1x16x512.size inb') hu')
          (.remote (Dev.tc d) (mRY.slice (Rect.unit (s := S16x16x512) off S1x16x512.size inb) hu) (.dma sS) hsc)
          (.dma sR) hsrc hdst hsem) k') Q := by
  subst hoff hoff'
  exact send_piece I K 3 (by decide) c o h1 h2 hd (src := rowY (pe c o)) (dst := rowRY c) (Yrow I c (pe c o)) rfl rfl rfl rfl hsS hsR rfl
    (Ow_step3 c h2) hk

end Cert.KernelIdeal.Exchange
-- ==== Proof.Parts.lean ====
/-
  The printed body, one part at a time: what each of its parts needs of the exchange's resources and what it leaves,
  the steps of its signals, waits and copies taken from Steps.lean.
-/
module

public import proofs.«01_k».proof.Proof.Steps

@[expose] public section

noncomputable section

set_option maxRecDepth 16384

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F] [Named F]

local notation "𝕄" => MT nD τ sig Unit (Elt F) ℕ UU ℕ

variable (I : Inp F) (K : GSem nD τ sig → ℕ) (c : Dev nD)

/-! The stretches of the body which only signal, copy and wait: each does its steps and hands on what is left, whatever follows. -/

theorem part1 {α : Type} {k : _ → Prog (TpuEff nD τ sig (Elt F) Λ₀ .tc) α} {Q : α → sProp 𝕄} {R : sProp 𝕄}
    (hk : ∀ v2 v24, iprop(Ctx I K ∗ Owe c (Ow c 6 1 1 1 1) ∗ Sg c 6 ∗ R) ⊢ WP c (k ⟨c, v2, SemArray.scalar (sig.barrier 0 rfl), v24, 16#32⟩) Q) :
    iprop(Ctx I K ∗ Owe c (Ow c 1 1 1 1 1) ∗ Sg c 1 ∗ R) ⊢ WP c (k0_part1 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 >>= k) Q := by
  rw [k0_part1_eq_skeleton]; unfold k0_part1_skel
  simp only [semSignalWord, Prog.lift, Prog.bind_op, Prog.bind_ret, Prog.pure_eq_ret, wp_deviceId]
  refine signal_step I K c 1 (by decide) (by decide) (Fin.ext (k0_dev1_eq c)) rfl rfl ?_
  refine signal_step I K c 2 (by decide) (by decide) (Fin.ext (k0_dev2_eq c)) rfl rfl ?_
  refine signal_step I K c 3 (by decide) (by decide) (Fin.ext (k0_dev3_eq c)) rfl rfl ?_
  refine signal_step I K c 4 (by decide) (by decide) (Fin.ext (k0_dev4_eq c)) rfl rfl ?_
  refine signal_step I K c 5 (by decide) (by decide) (Fin.ext (k0_dev5_eq c)) rfl rfl ?_
  exact hk _ _

theorem part2 (v2 v24 c16_i32_20 : BitVec 32) {α : Type} {k : _ → Prog (TpuEff nD τ sig (Elt F) Λ₀ .tc) α} {Q : α → sProp 𝕄} {R : sProp 𝕄}
    (hk : ∀ r, iprop(Ctx I K ∗ Owe c (Ow c 12 1 1 1 1) ∗ Sg c 12 ∗ R) ⊢ WP c (k r) Q) :
    iprop(Ctx I K ∗ Owe c (Ow c 6 1 1 1 1) ∗ Sg c 6 ∗ R) ⊢ WP c (k0_part2 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 c v2 (SemArray.scalar (sig.barrier 0 rfl)) v24 c16_i32_20 >>= k) Q := by
  rw [k0_part2_eq_skeleton]; unfold k0_part2_skel
  simp only [semSignalWord, Prog.lift, Prog.bind_op, Prog.bind_ret, Prog.pure_eq_ret]
  refine signal_step I K c 6 (by decide) (by decide) (Fin.ext (k0_dev6_eq c)) rfl rfl ?_
  refine signal_step I K c 7 (by decide) (by decide) (Fin.ext (k0_dev7_eq c)) rfl rfl ?_
  refine signal_step I K c 8 (by decide) (by decide) (Fin.ext (k0_dev8_eq c)) rfl rfl ?_
  refine signal_step I K c 9 (by decide) (by decide) (Fin.ext (k0_dev9_eq c)) rfl rfl ?_
  refine signal_step I K c 10 (by decide) (by decide) (Fin.ext (k0_dev10_eq c)) rfl rfl ?_
  refine signal_step I K c 11 (by decide) (by decide) (Fin.ext (k0_dev11_eq c)) rfl rfl ?_
  exact hk _

theorem part4 (v2 v72 : BitVec 32) {α : Type} {k : _ → Prog (TpuEff nD τ sig (Elt F) Λ₀ .tc) α} {Q : α → sProp 𝕄} {R : sProp 𝕄}
    (hk : ∀ r, iprop(Ctx I K ∗ Owe c (Ow c 16 4 1 1 1) ∗ Snd I 0 c 4 ∗ R) ⊢ WP c (k r) Q) :
    iprop(Ctx I K ∗ Owe c (Ow c 16 1 1 1 1) ∗ Snd I 0 c 1 ∗ R) ⊢ WP c (k0_part4 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 c v2 v72 >>= k) Q := by
  rw [k0_part4_eq_skeleton]; unfold k0_part4_skel
  simp only [semSignalWord, Prog.lift, Prog.bind_op, Prog.bind_ret, Prog.pure_eq_ret]
  refine send_0 I K c 1 (by decide) (by decide) (Fin.ext (k0_dev16_eq c)) (k0_off2_eq c) rfl rfl ?_
  refine send_0 I K c 2 (by decide) (by decide) (Fin.ext (k0_dev17_eq c)) (k0_off2_eq c) rfl rfl ?_
  refine send_0 I K c 3 (by decide) (by decide) (Fin.ext (k0_dev18_eq c)) (k0_off2_eq c) rfl rfl ?_
  exact hk _

theorem part5 (v2 : BitVec 32) {α : Type} {k : _ → Prog (TpuEff nD τ sig (Elt F) Λ₀ .tc) α} {Q : α → sProp 𝕄} {R : sProp 𝕄}
    (hk : ∀ r, iprop(Ctx I K ∗ Owe c (Ow c 16 8 1 1 1) ∗ Snd I 0 c 8 ∗ R) ⊢ WP c (k r) Q) :
    iprop(Ctx I K ∗ Owe c (Ow c 16 4 1 1 1) ∗ Snd I 0 c 4 ∗ R) ⊢ WP c (k0_part5 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 c v2 >>= k) Q := by
  rw [k0_part5_eq_skeleton]; unfold k0_part5_skel
  simp only [semSignalWord, Prog.lift, Prog.bind_op, Prog.bind_ret, Prog.pure_eq_ret]
  refine send_0 I K c 4 (by decide) (by decide) (Fin.ext (k0_dev19_eq c)) (k0_off2_eq c) rfl rfl ?_
  refine send_0 I K c 5 (by decide) (by decide) (Fin.ext (k0_dev20_eq c)) (k0_off2_eq c) rfl rfl ?_
  refine send_0 I K c 6 (by decide) (by decide) (Fin.ext (k0_dev21_eq c)) (k0_off2_eq c) rfl rfl ?_
  refine send_0 I K c 7 (by decide) (by decide) (Fin.ext (k0_dev22_eq c)) (k0_off2_eq c) rfl rfl ?_
  exact hk _

theorem part6 (v2 v133 : BitVec 32) {α : Type} {k : _ → Prog (TpuEff nD τ sig (Elt F) Λ₀ .tc) α} {Q : α → sProp 𝕄} {R : sProp 𝕄}
    (hk : ∀ r, iprop(Ctx I K ∗ Owe c (Ow c 16 11 1 1 1) ∗ Snd I 0 c 11 ∗ R) ⊢ WP c (k r) Q) :
    iprop(Ctx I K ∗ Owe c (Ow c 16 8 1 1 1) ∗ Snd I 0 c 8 ∗ R) ⊢ WP c (k0_part6 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 c v2 v133 >>= k) Q := by
  rw [k0_part6_eq_skeleton]; unfold k0_part6_skel
  simp only [semSignalWord, Prog.lift, Prog.bind_op, Prog.bind_ret, Prog.pure_eq_ret]
  refine send_0 I K c 8 (by decide) (by decide) (Fin.ext (k0_dev23_eq c)) (k0_off2_eq c) rfl rfl ?_
  refine send_0 I K c 9 (by decide) (by decide) (Fin.ext (k0_dev24_eq c)) (k0_off2_eq c) rfl rfl ?_
  refine send_0 I K c 10 (by decide) (by decide) (Fin.ext (k0_dev25_eq c)) (k0_off2_eq c) rfl rfl ?_
  exact hk _

theorem part7 (v2 v162 : BitVec 32) {α : Type} {k : _ → Prog (TpuEff nD τ sig (Elt F) Λ₀ .tc) α} {Q : α → sProp 𝕄} {R : sProp 𝕄}
    (hk : ∀ r, iprop(Ctx I K ∗ Owe c (Ow c 16 14 1 1 1) ∗ Snd I 0 c 14 ∗ R) ⊢ WP c (k r) Q) :
    iprop(Ctx I K ∗ Owe c (Ow c 16 11 1 1 1) ∗ Snd I 0 c 11 ∗ R) ⊢ WP c (k0_part7 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 c v2 v162 >>= k) Q := by
  rw [k0_part7_eq_skeleton]; unfold k0_part7_skel
  simp only [semSignalWord, Prog.lift, Prog.bind_op, Prog.bind_ret, Prog.pure_eq_ret]
  refine send_0 I K c 11 (by decide) (by decide) (Fin.ext (k0_dev26_eq c)) (k0_off2_eq c) rfl rfl ?_
  refine send_0 I K c 12 (by decide) (by decide) (Fin.ext (k0_dev27_eq c)) (k0_off2_eq c) rfl rfl ?_
  refine send_0 I K c 13 (by decide) (by decide) (Fin.ext (k0_dev28_eq c)) (k0_off2_eq c) rfl rfl ?_
  exact hk _

theorem part8 (v2 : BitVec 32) {α : Type} {k : _ → Prog (TpuEff nD τ sig (Elt F) Λ₀ .tc) α} {Q : α → sProp 𝕄} {R : sProp 𝕄}
    (hk : ∀ r, iprop(Ctx I K ∗ Owe c (Ow c 16 16 1 1 1) ∗ Snd I 0 c 16 ∗ Wt I 1 c 3 ∗ R) ⊢ WP c (k r) Q) :
    iprop(Ctx I K ∗ Owe c (Ow c 16 14 1 1 1) ∗ Snd I 0 c 14 ∗ Wt I 1 c 1 ∗ R) ⊢ WP c (k0_part8 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 c v2 >>= k) Q := by
  rw [k0_part8_eq_skeleton]; unfold k0_part8_skel
  simp only [semSignalWord, Prog.lift, Prog.bind_op, Prog.bind_ret, Prog.pure_eq_ret]
  refine send_0 I K c 14 (by decide) (by decide) (Fin.ext (k0_dev29_eq c)) (k0_off2_eq c) rfl rfl ?_
  refine send_0 I K c 15 (by decide) (by decide) (Fin.ext (k0_dev30_eq c)) (k0_off2_eq c) rfl rfl ?_
  refine wait_step' I K 1 (by decide) c 1 (by decide) (by decide) rfl (below_Ow c (by decide) (by decide) (by decide) (by decide) (by decide)) (by exact rfl) ?_
  refine wait_step' I K 1 (by decide) c 2 (by decide) (by decide) rfl (below_Ow c (by decide) (by decide) (by decide) (by decide) (by decide)) (by exact rfl) ?_
  exact hk _

theorem part9 (v2 v220 : BitVec 32) {α : Type} {k : _ → Prog (TpuEff nD τ sig (Elt F) Λ₀ .tc) α} {Q : α → sProp 𝕄} {R : sProp 𝕄}
    (hk : ∀ r, iprop(Ctx I K ∗ Owe c (Ow c 16 16 1 1 1) ∗ Wt I 1 c 7 ∗ R) ⊢ WP c (k r) Q) :
    iprop(Ctx I K ∗ Owe c (Ow c 16 16 1 1 1) ∗ Wt I 1 c 3 ∗ R) ⊢ WP c (k0_part9 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 c v2 v220 >>= k) Q := by
  rw [k0_part9_eq_skeleton]; unfold k0_part9_skel
  simp only [semSignalWord, Prog.lift, Prog.bind_op, Prog.bind_ret, Prog.pure_eq_ret]
  refine wait_step I K 1 (by decide) c 3 (by decide) (by decide) rfl (below_Ow c (by decide) (by decide) (by decide) (by decide) (by decide)) (by exact rfl) ?_
  refine wait_step I K 1 (by decide) c 4 (by decide) (by decide) rfl (below_Ow c (by decide) (by decide) (by decide) (by decide) (by decide)) (by exact rfl) ?_
  refine wait_step I K 1 (by decide) c 5 (by decide) (by decide) rfl (below_Ow c (by decide) (by decide) (by decide) (by decide) (by decide)) (by exact rfl) ?_
  refine wait_step I K 1 (by decide) c 6 (by decide) (by decide) rfl (below_Ow c (by decide) (by decide) (by decide) (by decide) (by decide)) (by exact rfl) ?_
  exact hk _

theorem part10 (v2 v247 : BitVec 32) {α : Type} {k : _ → Prog (TpuEff nD τ sig (Elt F) Λ₀ .tc) α} {Q : α → sProp 𝕄} {R : sProp 𝕄}
    (hk : ∀ r, iprop(Ctx I K ∗ Owe c (Ow c 16 16 1 1 1) ∗ Wt I 1 c 10 ∗ R) ⊢ WP c (k r) Q) :
    iprop(Ctx I K ∗ Owe c (Ow c 16 16 1 1 1) ∗ Wt I 1 c 7 ∗ R) ⊢ WP c (k0_part10 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 c v2 v247 >>= k) Q := by
  rw [k0_part10_eq_skeleton]; unfold k0_part10_skel
  simp only [semSignalWord, Prog.lift, Prog.bind_op, Prog.bind_ret, Prog.pure_eq_ret]
  refine wait_step I K 1 (by decide) c 7 (by decide) (by decide) rfl (below_Ow c (by decide) (by decide) (by decide) (by decide) (by decide)) (by exact rfl) ?_
  refine wait_step I K 1 (by decide) c 8 (by decide) (by decide) rfl (below_Ow c (by decide) (by decide) (by decide) (by decide) (by decide)) (by exact rfl) ?_
  refine wait_step I K 1 (by decide) c 9 (by decide) (by decide) rfl (below_Ow c (by decide) (by decide) (by decide) (by decide) (by decide)) (by exact rfl) ?_
  exact hk _

theorem part11 (v2 : BitVec 32) {α : Type} {k : _ → Prog (TpuEff nD τ sig (Elt F) Λ₀ .tc) α} {Q : α → sProp 𝕄} {R : sProp 𝕄}
    (hk : ∀ r, iprop(Ctx I K ∗ Owe c (Ow c 16 16 1 1 1) ∗ Wt I 1 c 14 ∗ R) ⊢ WP c (k r) Q) :
    iprop(Ctx I K ∗ Owe c (Ow c 16 16 1 1 1) ∗ Wt I 1 c 10 ∗ R) ⊢ WP c (k0_part11 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 c v2 >>= k) Q := by
  rw [k0_part11_eq_skeleton]; unfold k0_part11_skel
  simp only [semSignalWord, Prog.lift, Prog.bind_op, Prog.bind_ret, Prog.pure_eq_ret]
  refine wait_step I K 1 (by decide) c 10 (by decide) (by decide) rfl (below_Ow c (by decide) (by decide) (by decide) (by decide) (by decide)) (by exact rfl) ?_
  refine wait_step I K 1 (by decide) c 11 (by decide) (by decide) rfl (below_Ow c (by decide) (by decide) (by decide) (by decide) (by decide)) (by exact rfl) ?_
  refine wait_step I K 1 (by decide) c 12 (by decide) (by decide) rfl (below_Ow c (by decide) (by decide) (by decide) (by decide) (by decide)) (by exact rfl) ?_
  refine wait_step I K 1 (by decide) c 13 (by decide) (by decide) rfl (below_Ow c (by decide) (by decide) (by decide) (by decide) (by decide)) (by exact rfl) ?_
  exact hk _

theorem part16 (v2 v449 : BitVec 32) {α : Type} {k : _ → Prog (TpuEff nD τ sig (Elt F) Λ₀ .tc) α} {Q : α → sProp 𝕄} {R : sProp 𝕄}
    (hk : ∀ r, iprop(Ctx I K ∗ Owe c (Ow c 16 16 4 3 1) ∗ Snd I 1 c 4 ∗ Snd I 2 c 3 ∗ R) ⊢ WP c (k r) Q) :
    iprop(Ctx I K ∗ Owe c (Ow c 16 16 2 2 1) ∗ Snd I 1 c 2 ∗ Snd I 2 c 2 ∗ R) ⊢ WP c (k0_part16 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 c v2 v449 >>= k) Q := by
  rw [k0_part16_eq_skeleton]; unfold k0_part16_skel
  simp only [semSignalWord, Prog.lift, Prog.bind_op, Prog.bind_ret, Prog.pure_eq_ret]
  refine send_1 I K c 2 (by decide) (by decide) (Fin.ext (k0_dev33_eq c)) (k0_off6_eq c) (k0_off7_eq c 1) rfl rfl ?_
  refine send_2 I K c 2 (by decide) (by decide) (Fin.ext (k0_dev34_eq c)) (k0_off8_eq c) (k0_off9_eq c 1) rfl rfl ?_
  refine send_1 I K c 3 (by decide) (by decide) (Fin.ext (k0_dev35_eq c)) (k0_off6_eq c) (k0_off7_eq c 2) rfl rfl ?_
  exact hk _

theorem part17 (v2 : BitVec 32) {α : Type} {k : _ → Prog (TpuEff nD τ sig (Elt F) Λ₀ .tc) α} {Q : α → sProp 𝕄} {R : sProp 𝕄}
    (hk : ∀ r, iprop(Ctx I K ∗ Owe c (Ow c 16 16 5 5 1) ∗ Snd I 1 c 5 ∗ Snd I 2 c 5 ∗ R) ⊢ WP c (k r) Q) :
    iprop(Ctx I K ∗ Owe c (Ow c 16 16 4 3 1) ∗ Snd I 1 c 4 ∗ Snd I 2 c 3 ∗ R) ⊢ WP c (k0_part17 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 c v2 >>= k) Q := by
  rw [k0_part17_eq_skeleton]; unfold k0_part17_skel
  simp only [semSignalWord, Prog.lift, Prog.bind_op, Prog.bind_ret, Prog.pure_eq_ret]
  refine send_2 I K c 3 (by decide) (by decide) (Fin.ext (k0_dev36_eq c)) (k0_off8_eq c) (k0_off9_eq c 2) rfl rfl ?_
  refine send_1 I K c 4 (by decide) (by decide) (Fin.ext (k0_dev37_eq c)) (k0_off6_eq c) (k0_off7_eq c 3) rfl rfl ?_
  refine send_2 I K c 4 (by decide) (by decide) (Fin.ext (k0_dev38_eq c)) (k0_off8_eq c) (k0_off9_eq c 3) rfl rfl ?_
  exact hk _

theorem part18 (v2 v503 : BitVec 32) {α : Type} {k : _ → Prog (TpuEff nD τ sig (Elt F) Λ₀ .tc) α} {Q : α → sProp 𝕄} {R : sProp 𝕄}
    (hk : ∀ r, iprop(Ctx I K ∗ Owe c (Ow c 16 16 7 7 1) ∗ Snd I 1 c 7 ∗ Snd I 2 c 7 ∗ R) ⊢ WP c (k r) Q) :
    iprop(Ctx I K ∗ Owe c (Ow c 16 16 5 5 1) ∗ Snd I 1 c 5 ∗ Snd I 2 c 5 ∗ R) ⊢ WP c (k0_part18 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 c v2 v503 >>= k) Q := by
  rw [k0_part18_eq_skeleton]; unfold k0_part18_skel
  simp only [semSignalWord, Prog.lift, Prog.bind_op, Prog.bind_ret, Prog.pure_eq_ret]
  refine send_1 I K c 5 (by decide) (by decide) (Fin.ext (k0_dev39_eq c)) (k0_off6_eq c) (k0_off7_eq c 4) rfl rfl ?_
  refine send_2 I K c 5 (by decide) (by decide) (Fin.ext (k0_dev40_eq c)) (k0_off8_eq c) (k0_off9_eq c 4) rfl rfl ?_
  refine send_1 I K c 6 (by decide) (by decide) (Fin.ext (k0_dev41_eq c)) (k0_off6_eq c) (k0_off7_eq c 5) rfl rfl ?_
  refine send_2 I K c 6 (by decide) (by decide) (Fin.ext (k0_dev42_eq c)) (k0_off8_eq c) (k0_off9_eq c 5) rfl rfl ?_
  exact hk _

theorem part19 (v2 v538 c16_i32_456 : BitVec 32) {α : Type} {k : _ → Prog (TpuEff nD τ sig (Elt F) Λ₀ .tc) α} {Q : α → sProp 𝕄} {R : sProp 𝕄}
    (hk : ∀ r, iprop(Ctx I K ∗ Owe c (Ow c 16 16 9 8 1) ∗ Snd I 1 c 9 ∗ Snd I 2 c 8 ∗ R) ⊢ WP c (k r) Q) :
    iprop(Ctx I K ∗ Owe c (Ow c 16 16 7 7 1) ∗ Snd I 1 c 7 ∗ Snd I 2 c 7 ∗ R) ⊢ WP c (k0_part19 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 c v2 v538 c16_i32_456 >>= k) Q := by
  rw [k0_part19_eq_skeleton]; unfold k0_part19_skel
  simp only [semSignalWord, Prog.lift, Prog.bind_op, Prog.bind_ret, Prog.pure_eq_ret]
  refine send_1 I K c 7 (by decide) (by decide) (Fin.ext (k0_dev43_eq c)) (k0_off6_eq c) (k0_off7_eq c 6) rfl rfl ?_
  refine send_2 I K c 7 (by decide) (by decide) (Fin.ext (k0_dev44_eq c)) (k0_off8_eq c) (k0_off9_eq c 6) rfl rfl ?_
  refine send_1 I K c 8 (by decide) (by decide) (Fin.ext (k0_dev45_eq c)) (k0_off6_eq c) (k0_off7_eq c 7) rfl rfl ?_
  exact hk _

theorem part20 (v2 v566 : BitVec 32) {α : Type} {k : _ → Prog (TpuEff nD τ sig (Elt F) Λ₀ .tc) α} {Q : α → sProp 𝕄} {R : sProp 𝕄}
    (hk : ∀ r, iprop(Ctx I K ∗ Owe c (Ow c 16 16 10 10 1) ∗ Snd I 1 c 10 ∗ Snd I 2 c 10 ∗ R) ⊢ WP c (k r) Q) :
    iprop(Ctx I K ∗ Owe c (Ow c 16 16 9 8 1) ∗ Snd I 1 c 9 ∗ Snd I 2 c 8 ∗ R) ⊢ WP c (k0_part20 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 c v2 v566 >>= k) Q := by
  rw [k0_part20_eq_skeleton]; unfold k0_part20_skel
  simp only [semSignalWord, Prog.lift, Prog.bind_op, Prog.bind_ret, Prog.pure_eq_ret]
  refine send_2 I K c 8 (by decide) (by decide) (Fin.ext (k0_dev46_eq c)) (k0_off8_eq c) (k0_off9_eq c 7) rfl rfl ?_
  refine send_1 I K c 9 (by decide) (by decide) (Fin.ext (k0_dev47_eq c)) (k0_off6_eq c) (k0_off7_eq c 8) rfl rfl ?_
  refine send_2 I K c 9 (by decide) (by decide) (Fin.ext (k0_dev48_eq c)) (k0_off8_eq c) (k0_off9_eq c 8) rfl rfl ?_
  exact hk _

theorem part21 (v2 v593 v594 c0_i32_514 : BitVec 32) {α : Type} {k : _ → Prog (TpuEff nD τ sig (Elt F) Λ₀ .tc) α} {Q : α → sProp 𝕄} {R : sProp 𝕄}
    (hk : ∀ r, iprop(Ctx I K ∗ Owe c (Ow c 16 16 12 11 1) ∗ Snd I 1 c 12 ∗ Snd I 2 c 11 ∗ R) ⊢ WP c (k r) Q) :
    iprop(Ctx I K ∗ Owe c (Ow c 16 16 10 10 1) ∗ Snd I 1 c 10 ∗ Snd I 2 c 10 ∗ R) ⊢ WP c (k0_part21 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 c v2 v593 v594 c0_i32_514 >>= k) Q := by
  rw [k0_part21_eq_skeleton]; unfold k0_part21_skel
  simp only [semSignalWord, Prog.lift, Prog.bind_op, Prog.bind_ret, Prog.pure_eq_ret]
  refine send_1 I K c 10 (by decide) (by decide) (Fin.ext (k0_dev49_eq c)) (k0_off6_eq c) (k0_off7_eq c 9) rfl rfl ?_
  refine send_2 I K c 10 (by decide) (by decide) (Fin.ext (k0_dev50_eq c)) (k0_off8_eq c) (k0_off9_eq c 9) rfl rfl ?_
  refine send_1 I K c 11 (by decide) (by decide) (Fin.ext (k0_dev51_eq c)) (k0_off6_eq c) (k0_off7_eq c 10) rfl rfl ?_
  exact hk _

theorem part22 (v2 : BitVec 32) {α : Type} {k : _ → Prog (TpuEff nD τ sig (Elt F) Λ₀ .tc) α} {Q : α → sProp 𝕄} {R : sProp 𝕄}
    (hk : ∀ r, iprop(Ctx I K ∗ Owe c (Ow c 16 16 13 13 1) ∗ Snd I 1 c 13 ∗ Snd I 2 c 13 ∗ R) ⊢ WP c (k r) Q) :
    iprop(Ctx I K ∗ Owe c (Ow c 16 16 12 11 1) ∗ Snd I 1 c 12 ∗ Snd I 2 c 11 ∗ R) ⊢ WP c (k0_part22 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 c v2 >>= k) Q := by
  rw [k0_part22_eq_skeleton]; unfold k0_part22_skel
  simp only [semSignalWord, Prog.lift, Prog.bind_op, Prog.bind_ret, Prog.pure_eq_ret]
  refine send_2 I K c 11 (by decide) (by decide) (Fin.ext (k0_dev52_eq c)) (k0_off8_eq c) (k0_off9_eq c 10) rfl rfl ?_
  refine send_1 I K c 12 (by decide) (by decide) (Fin.ext (k0_dev53_eq c)) (k0_off6_eq c) (k0_off7_eq c 11) rfl rfl ?_
  refine send_2 I K c 12 (by decide) (by decide) (Fin.ext (k0_dev54_eq c)) (k0_off8_eq c) (k0_off9_eq c 11) rfl rfl ?_
  exact hk _

theorem part23 (v2 v647 : BitVec 32) {α : Type} {k : _ → Prog (TpuEff nD τ sig (Elt F) Λ₀ .tc) α} {Q : α → sProp 𝕄} {R : sProp 𝕄}
    (hk : ∀ r, iprop(Ctx I K ∗ Owe c (Ow c 16 16 15 14 1) ∗ Snd I 1 c 15 ∗ Snd I 2 c 14 ∗ R) ⊢ WP c (k r) Q) :
    iprop(Ctx I K ∗ Owe c (Ow c 16 16 13 13 1) ∗ Snd I 1 c 13 ∗ Snd I 2 c 13 ∗ R) ⊢ WP c (k0_part23 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 c v2 v647 >>= k) Q := by
  rw [k0_part23_eq_skeleton]; unfold k0_part23_skel
  simp only [semSignalWord, Prog.lift, Prog.bind_op, Prog.bind_ret, Prog.pure_eq_ret]
  refine send_1 I K c 13 (by decide) (by decide) (Fin.ext (k0_dev55_eq c)) (k0_off6_eq c) (k0_off7_eq c 12) rfl rfl ?_
  refine send_2 I K c 13 (by decide) (by decide) (Fin.ext (k0_dev56_eq c)) (k0_off8_eq c) (k0_off9_eq c 12) rfl rfl ?_
  refine send_1 I K c 14 (by decide) (by decide) (Fin.ext (k0_dev57_eq c)) (k0_off6_eq c) (k0_off7_eq c 13) rfl rfl ?_
  exact hk _

theorem part26 (v2 v734 : BitVec 32) {α : Type} {k : _ → Prog (TpuEff nD τ sig (Elt F) Λ₀ .tc) α} {Q : α → sProp 𝕄} {R : sProp 𝕄}
    (hk : ∀ r, iprop(Ctx I K ∗ Owe c (Ow c 16 16 16 16 1) ∗ Wt I 3 c 4 ∗ Wt I 5 c 4 ∗ R) ⊢ WP c (k r) Q) :
    iprop(Ctx I K ∗ Owe c (Ow c 16 16 16 16 1) ∗ Wt I 3 c 3 ∗ Wt I 5 c 2 ∗ R) ⊢ WP c (k0_part26 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 c v2 v734 >>= k) Q := by
  rw [k0_part26_eq_skeleton]; unfold k0_part26_skel
  simp only [semSignalWord, Prog.lift, Prog.bind_op, Prog.bind_ret, Prog.pure_eq_ret]
  refine wait_step' I K 5 (by decide) c 2 (by decide) (by decide) rfl (below_Ow c (by decide) (by decide) (by decide) (by decide) (by decide)) (by exact rfl) ?_
  refine wait_step I K 3 (by decide) c 3 (by decide) (by decide) rfl (below_Ow c (by decide) (by decide) (by decide) (by decide) (by decide)) (by exact rfl) ?_
  refine wait_step' I K 5 (by decide) c 3 (by decide) (by decide) rfl (below_Ow c (by decide) (by decide) (by decide) (by decide) (by decide)) (by exact rfl) ?_
  exact hk _

theorem part27 (v2 v755 : BitVec 32) {α : Type} {k : _ → Prog (TpuEff nD τ sig (Elt F) Λ₀ .tc) α} {Q : α → sProp 𝕄} {R : sProp 𝕄}
    (hk : ∀ r, iprop(Ctx I K ∗ Owe c (Ow c 16 16 16 16 1) ∗ Wt I 3 c 6 ∗ Wt I 5 c 6 ∗ R) ⊢ WP c (k r) Q) :
    iprop(Ctx I K ∗ Owe c (Ow c 16 16 16 16 1) ∗ Wt I 3 c 4 ∗ Wt I 5 c 4 ∗ R) ⊢ WP c (k0_part27 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 c v2 v755 >>= k) Q := by
  rw [k0_part27_eq_skeleton]; unfold k0_part27_skel
  simp only [semSignalWord, Prog.lift, Prog.bind_op, Prog.bind_ret, Prog.pure_eq_ret]
  refine wait_step I K 3 (by decide) c 4 (by decide) (by decide) rfl (below_Ow c (by decide) (by decide) (by decide) (by decide) (by decide)) (by exact rfl) ?_
  refine wait_step' I K 5 (by decide) c 4 (by decide) (by decide) rfl (below_Ow c (by decide) (by decide) (by decide) (by decide) (by decide)) (by exact rfl) ?_
  refine wait_step I K 3 (by decide) c 5 (by decide) (by decide) rfl (below_Ow c (by decide) (by decide) (by decide) (by decide) (by decide)) (by exact rfl) ?_
  refine wait_step' I K 5 (by decide) c 5 (by decide) (by decide) rfl (below_Ow c (by decide) (by decide) (by decide) (by decide) (by decide)) (by exact rfl) ?_
  exact hk _

theorem part28 (v2 v783 c1_i32_722 : BitVec 32) {α : Type} {k : _ → Prog (TpuEff nD τ sig (Elt F) Λ₀ .tc) α} {Q : α → sProp 𝕄} {R : sProp 𝕄}
    (hk : ∀ r, iprop(Ctx I K ∗ Owe c (Ow c 16 16 16 16 1) ∗ Wt I 3 c 8 ∗ Wt I 5 c 7 ∗ R) ⊢ WP c (k r) Q) :
    iprop(Ctx I K ∗ Owe c (Ow c 16 16 16 16 1) ∗ Wt I 3 c 6 ∗ Wt I 5 c 6 ∗ R) ⊢ WP c (k0_part28 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 c v2 v783 c1_i32_722 >>= k) Q := by
  rw [k0_part28_eq_skeleton]; unfold k0_part28_skel
  simp only [semSignalWord, Prog.lift, Prog.bind_op, Prog.bind_ret, Prog.pure_eq_ret]
  refine wait_step I K 3 (by decide) c 6 (by decide) (by decide) rfl (below_Ow c (by decide) (by decide) (by decide) (by decide) (by decide)) (by exact rfl) ?_
  refine wait_step' I K 5 (by decide) c 6 (by decide) (by decide) rfl (below_Ow c (by decide) (by decide) (by decide) (by decide) (by decide)) (by exact rfl) ?_
  refine wait_step I K 3 (by decide) c 7 (by decide) (by decide) rfl (below_Ow c (by decide) (by decide) (by decide) (by decide) (by decide)) (by exact rfl) ?_
  exact hk _

theorem part29 (v2 : BitVec 32) {α : Type} {k : _ → Prog (TpuEff nD τ sig (Elt F) Λ₀ .tc) α} {Q : α → sProp 𝕄} {R : sProp 𝕄}
    (hk : ∀ r, iprop(Ctx I K ∗ Owe c (Ow c 16 16 16 16 1) ∗ Wt I 3 c 10 ∗ Wt I 5 c 9 ∗ R) ⊢ WP c (k r) Q) :
    iprop(Ctx I K ∗ Owe c (Ow c 16 16 16 16 1) ∗ Wt I 3 c 8 ∗ Wt I 5 c 7 ∗ R) ⊢ WP c (k0_part29 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 c v2 >>= k) Q := by
  rw [k0_part29_eq_skeleton]; unfold k0_part29_skel
  simp only [semSignalWord, Prog.lift, Prog.bind_op, Prog.bind_ret, Prog.pure_eq_ret]
  refine wait_step' I K 5 (by decide) c 7 (by decide) (by decide) rfl (below_Ow c (by decide) (by decide) (by decide) (by decide) (by decide)) (by exact rfl) ?_
  refine wait_step I K 3 (by decide) c 8 (by decide) (by decide) rfl (below_Ow c (by decide) (by decide) (by decide) (by decide) (by decide)) (by exact rfl) ?_
  refine wait_step' I K 5 (by decide) c 8 (by decide) (by decide) rfl (below_Ow c (by decide) (by decide) (by decide) (by decide) (by decide)) (by exact rfl) ?_
  refine wait_step I K 3 (by decide) c 9 (by decide) (by decide) rfl (below_Ow c (by decide) (by decide) (by decide) (by decide) (by decide)) (by exact rfl) ?_
  exact hk _

theorem part30 (v2 : BitVec 32) {α : Type} {k : _ → Prog (TpuEff nD τ sig (Elt F) Λ₀ .tc) α} {Q : α → sProp 𝕄} {R : sProp 𝕄}
    (hk : ∀ r, iprop(Ctx I K ∗ Owe c (Ow c 16 16 16 16 1) ∗ Wt I 3 c 11 ∗ Wt I 5 c 11 ∗ R) ⊢ WP c (k r) Q) :
    iprop(Ctx I K ∗ Owe c (Ow c 16 16 16 16 1) ∗ Wt I 3 c 10 ∗ Wt I 5 c 9 ∗ R) ⊢ WP c (k0_part30 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 c v2 >>= k) Q := by
  rw [k0_part30_eq_skeleton]; unfold k0_part30_skel
  simp only [semSignalWord, Prog.lift, Prog.bind_op, Prog.bind_ret, Prog.pure_eq_ret]
  refine wait_step' I K 5 (by decide) c 9 (by decide) (by decide) rfl (below_Ow c (by decide) (by decide) (by decide) (by decide) (by decide)) (by exact rfl) ?_
  refine wait_step I K 3 (by decide) c 10 (by decide) (by decide) rfl (below_Ow c (by decide) (by decide) (by decide) (by decide) (by decide)) (by exact rfl) ?_
  refine wait_step' I K 5 (by decide) c 10 (by decide) (by decide) rfl (below_Ow c (by decide) (by decide) (by decide) (by decide) (by decide)) (by exact rfl) ?_
  exact hk _

theorem part31 (v2 v853 : BitVec 32) {α : Type} {k : _ → Prog (TpuEff nD τ sig (Elt F) Λ₀ .tc) α} {Q : α → sProp 𝕄} {R : sProp 𝕄}
    (hk : ∀ r, iprop(Ctx I K ∗ Owe c (Ow c 16 16 16 16 1) ∗ Wt I 3 c 13 ∗ Wt I 5 c 13 ∗ R) ⊢ WP c (k r) Q) :
    iprop(Ctx I K ∗ Owe c (Ow c 16 16 16 16 1) ∗ Wt I 3 c 11 ∗ Wt I 5 c 11 ∗ R) ⊢ WP c (k0_part31 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 c v2 v853 >>= k) Q := by
  rw [k0_part31_eq_skeleton]; unfold k0_part31_skel
  simp only [semSignalWord, Prog.lift, Prog.bind_op, Prog.bind_ret, Prog.pure_eq_ret]
  refine wait_step I K 3 (by decide) c 11 (by decide) (by decide) rfl (below_Ow c (by decide) (by decide) (by decide) (by decide) (by decide)) (by exact rfl) ?_
  refine wait_step' I K 5 (by decide) c 11 (by decide) (by decide) rfl (below_Ow c (by decide) (by decide) (by decide) (by decide) (by decide)) (by exact rfl) ?_
  refine wait_step I K 3 (by decide) c 12 (by decide) (by decide) rfl (below_Ow c (by decide) (by decide) (by decide) (by decide) (by decide)) (by exact rfl) ?_
  refine wait_step' I K 5 (by decide) c 12 (by decide) (by decide) rfl (below_Ow c (by decide) (by decide) (by decide) (by decide) (by decide)) (by exact rfl) ?_
  exact hk _

theorem part32 (v2 v881 v882 c0_i32_849 : BitVec 32) {α : Type} {k : _ → Prog (TpuEff nD τ sig (Elt F) Λ₀ .tc) α} {Q : α → sProp 𝕄} {R : sProp 𝕄}
    (hk : ∀ r, iprop(Ctx I K ∗ Owe c (Ow c 16 16 16 16 1) ∗ Wt I 3 c 15 ∗ Wt I 5 c 15 ∗ R) ⊢ WP c (k r) Q) :
    iprop(Ctx I K ∗ Owe c (Ow c 16 16 16 16 1) ∗ Wt I 3 c 13 ∗ Wt I 5 c 13 ∗ R) ⊢ WP c (k0_part32 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 c v2 v881 v882 c0_i32_849 >>= k) Q := by
  rw [k0_part32_eq_skeleton]; unfold k0_part32_skel
  simp only [semSignalWord, Prog.lift, Prog.bind_op, Prog.bind_ret, Prog.pure_eq_ret]
  refine wait_step I K 3 (by decide) c 13 (by decide) (by decide) rfl (below_Ow c (by decide) (by decide) (by decide) (by decide) (by decide)) (by exact rfl) ?_
  refine wait_step' I K 5 (by decide) c 13 (by decide) (by decide) rfl (below_Ow c (by decide) (by decide) (by decide) (by decide) (by decide)) (by exact rfl) ?_
  refine wait_step I K 3 (by decide) c 14 (by decide) (by decide) rfl (below_Ow c (by decide) (by decide) (by decide) (by decide) (by decide)) (by exact rfl) ?_
  refine wait_step' I K 5 (by decide) c 14 (by decide) (by decide) rfl (below_Ow c (by decide) (by decide) (by decide) (by decide) (by decide)) (by exact rfl) ?_
  exact hk _

theorem part35 (v2 v970 : BitVec 32) {α : Type} {k : _ → Prog (TpuEff nD τ sig (Elt F) Λ₀ .tc) α} {Q : α → sProp 𝕄} {R : sProp 𝕄}
    (hk : ∀ r, iprop(Ctx I K ∗ Owe c (Ow c 16 16 16 16 5) ∗ Snd I 3 c 5 ∗ R) ⊢ WP c (k r) Q) :
    iprop(Ctx I K ∗ Owe c (Ow c 16 16 16 16 2) ∗ Snd I 3 c 2 ∗ R) ⊢ WP c (k0_part35 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 c v2 v970 >>= k) Q := by
  rw [k0_part35_eq_skeleton]; unfold k0_part35_skel
  simp only [semSignalWord, Prog.lift, Prog.bind_op, Prog.bind_ret, Prog.pure_eq_ret]
  refine send_3 I K c 2 (by decide) (by decide) (Fin.ext (k0_dev62_eq c)) (k0_off6_eq c) (k0_off7_eq c 1) rfl rfl ?_
  refine send_3 I K c 3 (by decide) (by decide) (Fin.ext (k0_dev63_eq c)) (k0_off6_eq c) (k0_off7_eq c 2) rfl rfl ?_
  refine send_3 I K c 4 (by decide) (by decide) (Fin.ext (k0_dev64_eq c)) (k0_off6_eq c) (k0_off7_eq c 3) rfl rfl ?_
  exact hk _

theorem part36 (v2 v999 : BitVec 32) {α : Type} {k : _ → Prog (TpuEff nD τ sig (Elt F) Λ₀ .tc) α} {Q : α → sProp 𝕄} {R : sProp 𝕄}
    (hk : ∀ r, iprop(Ctx I K ∗ Owe c (Ow c 16 16 16 16 8) ∗ Snd I 3 c 8 ∗ R) ⊢ WP c (k r) Q) :
    iprop(Ctx I K ∗ Owe c (Ow c 16 16 16 16 5) ∗ Snd I 3 c 5 ∗ R) ⊢ WP c (k0_part36 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 c v2 v999 >>= k) Q := by
  rw [k0_part36_eq_skeleton]; unfold k0_part36_skel
  simp only [semSignalWord, Prog.lift, Prog.bind_op, Prog.bind_ret, Prog.pure_eq_ret]
  refine send_3 I K c 5 (by decide) (by decide) (Fin.ext (k0_dev65_eq c)) (k0_off6_eq c) (k0_off7_eq c 4) rfl rfl ?_
  refine send_3 I K c 6 (by decide) (by decide) (Fin.ext (k0_dev66_eq c)) (k0_off6_eq c) (k0_off7_eq c 5) rfl rfl ?_
  refine send_3 I K c 7 (by decide) (by decide) (Fin.ext (k0_dev67_eq c)) (k0_off6_eq c) (k0_off7_eq c 6) rfl rfl ?_
  exact hk _

theorem part37 (v2 v1028 : BitVec 32) {α : Type} {k : _ → Prog (TpuEff nD τ sig (Elt F) Λ₀ .tc) α} {Q : α → sProp 𝕄} {R : sProp 𝕄}
    (hk : ∀ r, iprop(Ctx I K ∗ Owe c (Ow c 16 16 16 16 10) ∗ Snd I 3 c 10 ∗ R) ⊢ WP c (k r) Q) :
    iprop(Ctx I K ∗ Owe c (Ow c 16 16 16 16 8) ∗ Snd I 3 c 8 ∗ R) ⊢ WP c (k0_part37 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 c v2 v1028 >>= k) Q := by
  rw [k0_part37_eq_skeleton]; unfold k0_part37_skel
  simp only [semSignalWord, Prog.lift, Prog.bind_op, Prog.bind_ret, Prog.pure_eq_ret]
  refine send_3 I K c 8 (by decide) (by decide) (Fin.ext (k0_dev68_eq c)) (k0_off6_eq c) (k0_off7_eq c 7) rfl rfl ?_
  refine send_3 I K c 9 (by decide) (by decide) (Fin.ext (k0_dev69_eq c)) (k0_off6_eq c) (k0_off7_eq c 8) rfl rfl ?_
  exact hk _

theorem part38 (v2 : BitVec 32) {α : Type} {k : _ → Prog (TpuEff nD τ sig (Elt F) Λ₀ .tc) α} {Q : α → sProp 𝕄} {R : sProp 𝕄}
    (hk : ∀ r, iprop(Ctx I K ∗ Owe c (Ow c 16 16 16 16 13) ∗ Snd I 3 c 13 ∗ R) ⊢ WP c (k r) Q) :
    iprop(Ctx I K ∗ Owe c (Ow c 16 16 16 16 10) ∗ Snd I 3 c 10 ∗ R) ⊢ WP c (k0_part38 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 c v2 >>= k) Q := by
  rw [k0_part38_eq_skeleton]; unfold k0_part38_skel
  simp only [semSignalWord, Prog.lift, Prog.bind_op, Prog.bind_ret, Prog.pure_eq_ret]
  refine send_3 I K c 10 (by decide) (by decide) (Fin.ext (k0_dev70_eq c)) (k0_off6_eq c) (k0_off7_eq c 9) rfl rfl ?_
  refine send_3 I K c 11 (by decide) (by decide) (Fin.ext (k0_dev71_eq c)) (k0_off6_eq c) (k0_off7_eq c 10) rfl rfl ?_
  refine send_3 I K c 12 (by decide) (by decide) (Fin.ext (k0_dev72_eq c)) (k0_off6_eq c) (k0_off7_eq c 11) rfl rfl ?_
  exact hk _

theorem part39 (v2 : BitVec 32) {α : Type} {k : _ → Prog (TpuEff nD τ sig (Elt F) Λ₀ .tc) α} {Q : α → sProp 𝕄} {R : sProp 𝕄}
    (hk : ∀ r, iprop(Ctx I K ∗ Owe c (Ow c 16 16 16 16 16) ∗ Snd I 3 c 16 ∗ R) ⊢ WP c (k r) Q) :
    iprop(Ctx I K ∗ Owe c (Ow c 16 16 16 16 13) ∗ Snd I 3 c 13 ∗ R) ⊢ WP c (k0_part39 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 c v2 >>= k) Q := by
  rw [k0_part39_eq_skeleton]; unfold k0_part39_skel
  simp only [semSignalWord, Prog.lift, Prog.bind_op, Prog.bind_ret, Prog.pure_eq_ret]
  refine send_3 I K c 13 (by decide) (by decide) (Fin.ext (k0_dev73_eq c)) (k0_off6_eq c) (k0_off7_eq c 12) rfl rfl ?_
  refine send_3 I K c 14 (by decide) (by decide) (Fin.ext (k0_dev74_eq c)) (k0_off6_eq c) (k0_off7_eq c 13) rfl rfl ?_
  refine send_3 I K c 15 (by decide) (by decide) (Fin.ext (k0_dev75_eq c)) (k0_off6_eq c) (k0_off7_eq c 14) rfl rfl ?_
  exact hk _

theorem part40 (v2 : BitVec 32) {α : Type} {k : _ → Prog (TpuEff nD τ sig (Elt F) Λ₀ .tc) α} {Q : α → sProp 𝕄} {R : sProp 𝕄}
    (hk : ∀ r, iprop(Ctx I K ∗ Owe c (Ow c 16 16 16 16 16) ∗ Wt I 7 c 4 ∗ R) ⊢ WP c (k r) Q) :
    iprop(Ctx I K ∗ Owe c (Ow c 16 16 16 16 16) ∗ Wt I 7 c 1 ∗ R) ⊢ WP c (k0_part40 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 c v2 >>= k) Q := by
  rw [k0_part40_eq_skeleton]; unfold k0_part40_skel
  simp only [semSignalWord, Prog.lift, Prog.bind_op, Prog.bind_ret, Prog.pure_eq_ret]
  refine wait_step I K 7 (by decide) c 1 (by decide) (by decide) rfl (below_Ow c (by decide) (by decide) (by decide) (by decide) (by decide)) (by exact rfl) ?_
  refine wait_step I K 7 (by decide) c 2 (by decide) (by decide) rfl (below_Ow c (by decide) (by decide) (by decide) (by decide) (by decide)) (by exact rfl) ?_
  refine wait_step I K 7 (by decide) c 3 (by decide) (by decide) rfl (below_Ow c (by decide) (by decide) (by decide) (by decide) (by decide)) (by exact rfl) ?_
  exact hk _

theorem part41 (v2 : BitVec 32) {α : Type} {k : _ → Prog (TpuEff nD τ sig (Elt F) Λ₀ .tc) α} {Q : α → sProp 𝕄} {R : sProp 𝕄}
    (hk : ∀ r, iprop(Ctx I K ∗ Owe c (Ow c 16 16 16 16 16) ∗ Wt I 7 c 8 ∗ R) ⊢ WP c (k r) Q) :
    iprop(Ctx I K ∗ Owe c (Ow c 16 16 16 16 16) ∗ Wt I 7 c 4 ∗ R) ⊢ WP c (k0_part41 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 c v2 >>= k) Q := by
  rw [k0_part41_eq_skeleton]; unfold k0_part41_skel
  simp only [semSignalWord, Prog.lift, Prog.bind_op, Prog.bind_ret, Prog.pure_eq_ret]
  refine wait_step I K 7 (by decide) c 4 (by decide) (by decide) rfl (below_Ow c (by decide) (by decide) (by decide) (by decide) (by decide)) (by exact rfl) ?_
  refine wait_step I K 7 (by decide) c 5 (by decide) (by decide) rfl (below_Ow c (by decide) (by decide) (by decide) (by decide) (by decide)) (by exact rfl) ?_
  refine wait_step I K 7 (by decide) c 6 (by decide) (by decide) rfl (below_Ow c (by decide) (by decide) (by decide) (by decide) (by decide)) (by exact rfl) ?_
  refine wait_step I K 7 (by decide) c 7 (by decide) (by decide) rfl (below_Ow c (by decide) (by decide) (by decide) (by decide) (by decide)) (by exact rfl) ?_
  exact hk _

theorem part42 (v2 c8_i32_1138 : BitVec 32) {α : Type} {k : _ → Prog (TpuEff nD τ sig (Elt F) Λ₀ .tc) α} {Q : α → sProp 𝕄} {R : sProp 𝕄}
    (hk : ∀ r, iprop(Ctx I K ∗ Owe c (Ow c 16 16 16 16 16) ∗ Wt I 7 c 11 ∗ R) ⊢ WP c (k r) Q) :
    iprop(Ctx I K ∗ Owe c (Ow c 16 16 16 16 16) ∗ Wt I 7 c 8 ∗ R) ⊢ WP c (k0_part42 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 c v2 c8_i32_1138 >>= k) Q := by
  rw [k0_part42_eq_skeleton]; unfold k0_part42_skel
  simp only [semSignalWord, Prog.lift, Prog.bind_op, Prog.bind_ret, Prog.pure_eq_ret]
  refine wait_step I K 7 (by decide) c 8 (by decide) (by decide) rfl (below_Ow c (by decide) (by decide) (by decide) (by decide) (by decide)) (by exact rfl) ?_
  refine wait_step I K 7 (by decide) c 9 (by decide) (by decide) rfl (below_Ow c (by decide) (by decide) (by decide) (by decide) (by decide)) (by exact rfl) ?_
  refine wait_step I K 7 (by decide) c 10 (by decide) (by decide) rfl (below_Ow c (by decide) (by decide) (by decide) (by decide) (by decide)) (by exact rfl) ?_
  exact hk _

theorem part43 (v2 v1189 : BitVec 32) {α : Type} {k : _ → Prog (TpuEff nD τ sig (Elt F) Λ₀ .tc) α} {Q : α → sProp 𝕄} {R : sProp 𝕄}
    (hk : ∀ r, iprop(Ctx I K ∗ Owe c (Ow c 16 16 16 16 16) ∗ Wt I 7 c 14 ∗ R) ⊢ WP c (k r) Q) :
    iprop(Ctx I K ∗ Owe c (Ow c 16 16 16 16 16) ∗ Wt I 7 c 11 ∗ R) ⊢ WP c (k0_part43 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 c v2 v1189 >>= k) Q := by
  rw [k0_part43_eq_skeleton]; unfold k0_part43_skel
  simp only [semSignalWord, Prog.lift, Prog.bind_op, Prog.bind_ret, Prog.pure_eq_ret]
  refine wait_step I K 7 (by decide) c 11 (by decide) (by decide) rfl (below_Ow c (by decide) (by decide) (by decide) (by decide) (by decide)) (by exact rfl) ?_
  refine wait_step I K 7 (by decide) c 12 (by decide) (by decide) rfl (below_Ow c (by decide) (by decide) (by decide) (by decide) (by decide)) (by exact rfl) ?_
  refine wait_step I K 7 (by decide) c 13 (by decide) (by decide) rfl (below_Ow c (by decide) (by decide) (by decide) (by decide) (by decide)) (by exact rfl) ?_
  exact hk _

theorem part45 {α : Type} {k : _ → Prog (TpuEff nD τ sig (Elt F) Λ₀ .tc) α} {Q : α → sProp 𝕄} {R : sProp 𝕄}
    (hk : ∀ r, iprop(Ctx I K ∗ Owe c (Ow c 16 16 16 16 16) ∗ Wt I 0 c 9 ∗ R) ⊢ WP c (k r) Q) :
    iprop(Ctx I K ∗ Owe c (Ow c 16 16 16 16 16) ∗ Wt I 0 c 2 ∗ R) ⊢ WP c (k0_part45 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 c >>= k) Q := by
  rw [k0_part45_eq_skeleton]; unfold k0_part45_skel
  simp only [semSignalWord, Prog.lift, Prog.bind_op, Prog.bind_ret, Prog.pure_eq_ret]
  refine wait_step I K 0 (by decide) c 2 (by decide) (by decide) rfl (below_Ow c (by decide) (by decide) (by decide) (by decide) (by decide)) (by exact rfl) ?_
  refine wait_step I K 0 (by decide) c 3 (by decide) (by decide) rfl (below_Ow c (by decide) (by decide) (by decide) (by decide) (by decide)) (by exact rfl) ?_
  refine wait_step I K 0 (by decide) c 4 (by decide) (by decide) rfl (below_Ow c (by decide) (by decide) (by decide) (by decide) (by decide)) (by exact rfl) ?_
  refine wait_step I K 0 (by decide) c 5 (by decide) (by decide) rfl (below_Ow c (by decide) (by decide) (by decide) (by decide) (by decide)) (by exact rfl) ?_
  refine wait_step I K 0 (by decide) c 6 (by decide) (by decide) rfl (below_Ow c (by decide) (by decide) (by decide) (by decide) (by decide)) (by exact rfl) ?_
  refine wait_step I K 0 (by decide) c 7 (by decide) (by decide) rfl (below_Ow c (by decide) (by decide) (by decide) (by decide) (by decide)) (by exact rfl) ?_
  refine wait_step I K 0 (by decide) c 8 (by decide) (by decide) rfl (below_Ow c (by decide) (by decide) (by decide) (by decide) (by decide)) (by exact rfl) ?_
  exact hk _

theorem part46 {α : Type} {k : _ → Prog (TpuEff nD τ sig (Elt F) Λ₀ .tc) α} {Q : α → sProp 𝕄} {R : sProp 𝕄}
    (hk : ∀ r, iprop(Ctx I K ∗ Owe c (Ow c 16 16 16 16 16) ∗ Wt I 0 c 16 ∗ R) ⊢ WP c (k r) Q) :
    iprop(Ctx I K ∗ Owe c (Ow c 16 16 16 16 16) ∗ Wt I 0 c 9 ∗ R) ⊢ WP c (k0_part46 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 c >>= k) Q := by
  rw [k0_part46_eq_skeleton]; unfold k0_part46_skel
  simp only [semSignalWord, Prog.lift, Prog.bind_op, Prog.bind_ret, Prog.pure_eq_ret]
  refine wait_step I K 0 (by decide) c 9 (by decide) (by decide) rfl (below_Ow c (by decide) (by decide) (by decide) (by decide) (by decide)) (by exact rfl) ?_
  refine wait_step I K 0 (by decide) c 10 (by decide) (by decide) rfl (below_Ow c (by decide) (by decide) (by decide) (by decide) (by decide)) (by exact rfl) ?_
  refine wait_step I K 0 (by decide) c 11 (by decide) (by decide) rfl (below_Ow c (by decide) (by decide) (by decide) (by decide) (by decide)) (by exact rfl) ?_
  refine wait_step I K 0 (by decide) c 12 (by decide) (by decide) rfl (below_Ow c (by decide) (by decide) (by decide) (by decide) (by decide)) (by exact rfl) ?_
  refine wait_step I K 0 (by decide) c 13 (by decide) (by decide) rfl (below_Ow c (by decide) (by decide) (by decide) (by decide) (by decide)) (by exact rfl) ?_
  refine wait_step I K 0 (by decide) c 14 (by decide) (by decide) rfl (below_Ow c (by decide) (by decide) (by decide) (by decide) (by decide)) (by exact rfl) ?_
  refine wait_step I K 0 (by decide) c 15 (by decide) (by decide) rfl (below_Ow c (by decide) (by decide) (by decide) (by decide) (by decide)) (by exact rfl) ?_
  exact hk _

theorem part47 {α : Type} {k : _ → Prog (TpuEff nD τ sig (Elt F) Λ₀ .tc) α} {Q : α → sProp 𝕄} {R : sProp 𝕄}
    (hk : ∀ r, iprop(Ctx I K ∗ Owe c (Ow c 16 16 16 16 16) ∗ Wt I 2 c 4 ∗ Wt I 4 c 3 ∗ R) ⊢ WP c (k r) Q) :
    iprop(Ctx I K ∗ Owe c (Ow c 16 16 16 16 16) ∗ Wt I 2 c 1 ∗ Wt I 4 c 1 ∗ R) ⊢ WP c (k0_part47 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 c >>= k) Q := by
  rw [k0_part47_eq_skeleton]; unfold k0_part47_skel
  simp only [semSignalWord, Prog.lift, Prog.bind_op, Prog.bind_ret, Prog.pure_eq_ret]
  refine wait_step I K 2 (by decide) c 1 (by decide) (by decide) rfl (below_Ow c (by decide) (by decide) (by decide) (by decide) (by decide)) (by exact rfl) ?_
  refine wait_step' I K 4 (by decide) c 1 (by decide) (by decide) rfl (below_Ow c (by decide) (by decide) (by decide) (by decide) (by decide)) (by exact rfl) ?_
  refine wait_step I K 2 (by decide) c 2 (by decide) (by decide) rfl (below_Ow c (by decide) (by decide) (by decide) (by decide) (by decide)) (by exact rfl) ?_
  refine wait_step' I K 4 (by decide) c 2 (by decide) (by decide) rfl (below_Ow c (by decide) (by decide) (by decide) (by decide) (by decide)) (by exact rfl) ?_
  refine wait_step I K 2 (by decide) c 3 (by decide) (by decide) rfl (below_Ow c (by decide) (by decide) (by decide) (by decide) (by decide)) (by exact rfl) ?_
  exact hk _

theorem part48 {α : Type} {k : _ → Prog (TpuEff nD τ sig (Elt F) Λ₀ .tc) α} {Q : α → sProp 𝕄} {R : sProp 𝕄}
    (hk : ∀ r, iprop(Ctx I K ∗ Owe c (Ow c 16 16 16 16 16) ∗ Wt I 2 c 6 ∗ Wt I 4 c 6 ∗ R) ⊢ WP c (k r) Q) :
    iprop(Ctx I K ∗ Owe c (Ow c 16 16 16 16 16) ∗ Wt I 2 c 4 ∗ Wt I 4 c 3 ∗ R) ⊢ WP c (k0_part48 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 c >>= k) Q := by
  rw [k0_part48_eq_skeleton]; unfold k0_part48_skel
  simp only [semSignalWord, Prog.lift, Prog.bind_op, Prog.bind_ret, Prog.pure_eq_ret]
  refine wait_step' I K 4 (by decide) c 3 (by decide) (by decide) rfl (below_Ow c (by decide) (by decide) (by decide) (by decide) (by decide)) (by exact rfl) ?_
  refine wait_step I K 2 (by decide) c 4 (by decide) (by decide) rfl (below_Ow c (by decide) (by decide) (by decide) (by decide) (by decide)) (by exact rfl) ?_
  refine wait_step' I K 4 (by decide) c 4 (by decide) (by decide) rfl (below_Ow c (by decide) (by decide) (by decide) (by decide) (by decide)) (by exact rfl) ?_
  refine wait_step I K 2 (by decide) c 5 (by decide) (by decide) rfl (below_Ow c (by decide) (by decide) (by decide) (by decide) (by decide)) (by exact rfl) ?_
  refine wait_step' I K 4 (by decide) c 5 (by decide) (by decide) rfl (below_Ow c (by decide) (by decide) (by decide) (by decide) (by decide)) (by exact rfl) ?_
  exact hk _

theorem part49 {α : Type} {k : _ → Prog (TpuEff nD τ sig (Elt F) Λ₀ .tc) α} {Q : α → sProp 𝕄} {R : sProp 𝕄}
    (hk : ∀ r, iprop(Ctx I K ∗ Owe c (Ow c 16 16 16 16 16) ∗ Wt I 2 c 9 ∗ Wt I 4 c 8 ∗ R) ⊢ WP c (k r) Q) :
    iprop(Ctx I K ∗ Owe c (Ow c 16 16 16 16 16) ∗ Wt I 2 c 6 ∗ Wt I 4 c 6 ∗ R) ⊢ WP c (k0_part49 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 c >>= k) Q := by
  rw [k0_part49_eq_skeleton]; unfold k0_part49_skel
  simp only [semSignalWord, Prog.lift, Prog.bind_op, Prog.bind_ret, Prog.pure_eq_ret]
  refine wait_step I K 2 (by decide) c 6 (by decide) (by decide) rfl (below_Ow c (by decide) (by decide) (by decide) (by decide) (by decide)) (by exact rfl) ?_
  refine wait_step' I K 4 (by decide) c 6 (by decide) (by decide) rfl (below_Ow c (by decide) (by decide) (by decide) (by decide) (by decide)) (by exact rfl) ?_
  refine wait_step I K 2 (by decide) c 7 (by decide) (by decide) rfl (below_Ow c (by decide) (by decide) (by decide) (by decide) (by decide)) (by exact rfl) ?_
  refine wait_step' I K 4 (by decide) c 7 (by decide) (by decide) rfl (below_Ow c (by decide) (by decide) (by decide) (by decide) (by decide)) (by exact rfl) ?_
  refine wait_step I K 2 (by decide) c 8 (by decide) (by decide) rfl (below_Ow c (by decide) (by decide) (by decide) (by decide) (by decide)) (by exact rfl) ?_
  exact hk _

theorem part50 {α : Type} {k : _ → Prog (TpuEff nD τ sig (Elt F) Λ₀ .tc) α} {Q : α → sProp 𝕄} {R : sProp 𝕄}
    (hk : ∀ r, iprop(Ctx I K ∗ Owe c (Ow c 16 16 16 16 16) ∗ Wt I 2 c 11 ∗ Wt I 4 c 11 ∗ R) ⊢ WP c (k r) Q) :
    iprop(Ctx I K ∗ Owe c (Ow c 16 16 16 16 16) ∗ Wt I 2 c 9 ∗ Wt I 4 c 8 ∗ R) ⊢ WP c (k0_part50 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 c >>= k) Q := by
  rw [k0_part50_eq_skeleton]; unfold k0_part50_skel
  simp only [semSignalWord, Prog.lift, Prog.bind_op, Prog.bind_ret, Prog.pure_eq_ret]
  refine wait_step' I K 4 (by decide) c 8 (by decide) (by decide) rfl (below_Ow c (by decide) (by decide) (by decide) (by decide) (by decide)) (by exact rfl) ?_
  refine wait_step I K 2 (by decide) c 9 (by decide) (by decide) rfl (below_Ow c (by decide) (by decide) (by decide) (by decide) (by decide)) (by exact rfl) ?_
  refine wait_step' I K 4 (by decide) c 9 (by decide) (by decide) rfl (below_Ow c (by decide) (by decide) (by decide) (by decide) (by decide)) (by exact rfl) ?_
  refine wait_step I K 2 (by decide) c 10 (by decide) (by decide) rfl (below_Ow c (by decide) (by decide) (by decide) (by decide) (by decide)) (by exact rfl) ?_
  refine wait_step' I K 4 (by decide) c 10 (by decide) (by decide) rfl (below_Ow c (by decide) (by decide) (by decide) (by decide) (by decide)) (by exact rfl) ?_
  exact hk _

theorem part51 {α : Type} {k : _ → Prog (TpuEff nD τ sig (Elt F) Λ₀ .tc) α} {Q : α → sProp 𝕄} {R : sProp 𝕄}
    (hk : ∀ r, iprop(Ctx I K ∗ Owe c (Ow c 16 16 16 16 16) ∗ Wt I 2 c 14 ∗ Wt I 4 c 13 ∗ R) ⊢ WP c (k r) Q) :
    iprop(Ctx I K ∗ Owe c (Ow c 16 16 16 16 16) ∗ Wt I 2 c 11 ∗ Wt I 4 c 11 ∗ R) ⊢ WP c (k0_part51 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 c >>= k) Q := by
  rw [k0_part51_eq_skeleton]; unfold k0_part51_skel
  simp only [semSignalWord, Prog.lift, Prog.bind_op, Prog.bind_ret, Prog.pure_eq_ret]
  refine wait_step I K 2 (by decide) c 11 (by decide) (by decide) rfl (below_Ow c (by decide) (by decide) (by decide) (by decide) (by decide)) (by exact rfl) ?_
  refine wait_step' I K 4 (by decide) c 11 (by decide) (by decide) rfl (below_Ow c (by decide) (by decide) (by decide) (by decide) (by decide)) (by exact rfl) ?_
  refine wait_step I K 2 (by decide) c 12 (by decide) (by decide) rfl (below_Ow c (by decide) (by decide) (by decide) (by decide) (by decide)) (by exact rfl) ?_
  refine wait_step' I K 4 (by decide) c 12 (by decide) (by decide) rfl (below_Ow c (by decide) (by decide) (by decide) (by decide) (by decide)) (by exact rfl) ?_
  refine wait_step I K 2 (by decide) c 13 (by decide) (by decide) rfl (below_Ow c (by decide) (by decide) (by decide) (by decide) (by decide)) (by exact rfl) ?_
  exact hk _

theorem part52 {α : Type} {k : _ → Prog (TpuEff nD τ sig (Elt F) Λ₀ .tc) α} {Q : α → sProp 𝕄} {R : sProp 𝕄}
    (hk : ∀ r, iprop(Ctx I K ∗ Owe c (Ow c 16 16 16 16 16) ∗ Wt I 2 c 16 ∗ Wt I 4 c 16 ∗ R) ⊢ WP c (k r) Q) :
    iprop(Ctx I K ∗ Owe c (Ow c 16 16 16 16 16) ∗ Wt I 2 c 14 ∗ Wt I 4 c 13 ∗ R) ⊢ WP c (k0_part52 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 c >>= k) Q := by
  rw [k0_part52_eq_skeleton]; unfold k0_part52_skel
  simp only [semSignalWord, Prog.lift, Prog.bind_op, Prog.bind_ret, Prog.pure_eq_ret]
  refine wait_step' I K 4 (by decide) c 13 (by decide) (by decide) rfl (below_Ow c (by decide) (by decide) (by decide) (by decide) (by decide)) (by exact rfl) ?_
  refine wait_step I K 2 (by decide) c 14 (by decide) (by decide) rfl (below_Ow c (by decide) (by decide) (by decide) (by decide) (by decide)) (by exact rfl) ?_
  refine wait_step' I K 4 (by decide) c 14 (by decide) (by decide) rfl (below_Ow c (by decide) (by decide) (by decide) (by decide) (by decide)) (by exact rfl) ?_
  refine wait_step I K 2 (by decide) c 15 (by decide) (by decide) rfl (below_Ow c (by decide) (by decide) (by decide) (by decide) (by decide)) (by exact rfl) ?_
  refine wait_step' I K 4 (by decide) c 15 (by decide) (by decide) rfl (below_Ow c (by decide) (by decide) (by decide) (by decide) (by decide)) (by exact rfl) ?_
  exact hk _

theorem part53 {α : Type} {k : _ → Prog (TpuEff nD τ sig (Elt F) Λ₀ .tc) α} {Q : α → sProp 𝕄} {R : sProp 𝕄}
    (hk : ∀ r, iprop(Ctx I K ∗ Owe c (Ow c 16 16 16 16 16) ∗ Wt I 6 c 6 ∗ R) ⊢ WP c (k r) Q) :
    iprop(Ctx I K ∗ Owe c (Ow c 16 16 16 16 16) ∗ Wt I 6 c 1 ∗ R) ⊢ WP c (k0_part53 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 c >>= k) Q := by
  rw [k0_part53_eq_skeleton]; unfold k0_part53_skel
  simp only [semSignalWord, Prog.lift, Prog.bind_op, Prog.bind_ret, Prog.pure_eq_ret]
  refine wait_step I K 6 (by decide) c 1 (by decide) (by decide) rfl (below_Ow c (by decide) (by decide) (by decide) (by decide) (by decide)) (by exact rfl) ?_
  refine wait_step I K 6 (by decide) c 2 (by decide) (by decide) rfl (below_Ow c (by decide) (by decide) (by decide) (by decide) (by decide)) (by exact rfl) ?_
  refine wait_step I K 6 (by decide) c 3 (by decide) (by decide) rfl (below_Ow c (by decide) (by decide) (by decide) (by decide) (by decide)) (by exact rfl) ?_
  refine wait_step I K 6 (by decide) c 4 (by decide) (by decide) rfl (below_Ow c (by decide) (by decide) (by decide) (by decide) (by decide)) (by exact rfl) ?_
  refine wait_step I K 6 (by decide) c 5 (by decide) (by decide) rfl (below_Ow c (by decide) (by decide) (by decide) (by decide) (by decide)) (by exact rfl) ?_
  exact hk _

theorem part54 {α : Type} {k : _ → Prog (TpuEff nD τ sig (Elt F) Λ₀ .tc) α} {Q : α → sProp 𝕄} {R : sProp 𝕄}
    (hk : ∀ r, iprop(Ctx I K ∗ Owe c (Ow c 16 16 16 16 16) ∗ Wt I 6 c 11 ∗ R) ⊢ WP c (k r) Q) :
    iprop(Ctx I K ∗ Owe c (Ow c 16 16 16 16 16) ∗ Wt I 6 c 6 ∗ R) ⊢ WP c (k0_part54 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 c >>= k) Q := by
  rw [k0_part54_eq_skeleton]; unfold k0_part54_skel
  simp only [semSignalWord, Prog.lift, Prog.bind_op, Prog.bind_ret, Prog.pure_eq_ret]
  refine wait_step I K 6 (by decide) c 6 (by decide) (by decide) rfl (below_Ow c (by decide) (by decide) (by decide) (by decide) (by decide)) (by exact rfl) ?_
  refine wait_step I K 6 (by decide) c 7 (by decide) (by decide) rfl (below_Ow c (by decide) (by decide) (by decide) (by decide) (by decide)) (by exact rfl) ?_
  refine wait_step I K 6 (by decide) c 8 (by decide) (by decide) rfl (below_Ow c (by decide) (by decide) (by decide) (by decide) (by decide)) (by exact rfl) ?_
  refine wait_step I K 6 (by decide) c 9 (by decide) (by decide) rfl (below_Ow c (by decide) (by decide) (by decide) (by decide) (by decide)) (by exact rfl) ?_
  refine wait_step I K 6 (by decide) c 10 (by decide) (by decide) rfl (below_Ow c (by decide) (by decide) (by decide) (by decide) (by decide)) (by exact rfl) ?_
  exact hk _

end Cert.KernelIdeal.Exchange
-- ==== Proof.Memory.lean ====
/-
  The buffers in pieces: a buffer held whole and its sixteen blocks, one for each device.
-/
module

public import proofs.«01_k».proof.Proof.Steps

@[expose] public section

noncomputable section

set_option maxRecDepth 16384

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F] [Named F]

local notation "𝕄" => MT nD τ sig Unit (Elt F) ℕ UU ℕ

/-! ## Devices around a device -/

/-- Over all devices: `c`, and the devices 1 … 15 places after it; -/
theorem around (c : Dev nD) (Φ : Dev nD → sProp 𝕄) :
    bigSep Finset.univ Φ = iprop(Φ c ∗ bigSep (Finset.Ico 1 16) (fun o => Φ (pe c o))) := by
  have hn : nD = 16 := rfl
  have hinj : Set.InjOn (pe c) (Finset.Ico 1 16 : Finset ℕ) := by
    intro a ha b hb h
    have h := congrArg Fin.val h
    rw [Finset.mem_coe, Finset.mem_Ico] at ha hb
    change (c.val + a) % 16 = (c.val + b) % 16 at h
    omega
  have hmem : c ∉ (Finset.Ico 1 16).image (pe c) := by
    rw [Finset.mem_image]
    rintro ⟨a, ha, h⟩
    have h := congrArg Fin.val h
    rw [Finset.mem_Ico] at ha
    have := c.isLt
    change (c.val + a) % 16 = c.val at h
    omega
  have hU : (Finset.univ : Finset (Dev nD)) = insert c ((Finset.Ico 1 16).image (pe c)) := by
    refine (Finset.eq_univ_of_forall fun q => ?_).symm
    rw [Finset.mem_insert, Finset.mem_image]
    by_cases h : q = c
    · exact .inl h
    · have h' : q.val ≠ c.val := fun e => h (Fin.ext e)
      have := c.isLt
      have := q.isLt
      refine .inr ⟨(q.val + 16 - c.val) % 16, ?_, ?_⟩
      · rw [Finset.mem_Ico]; omega
      · apply Fin.ext; show (c.val + (q.val + 16 - c.val) % 16) % 16 = q.val; omega
  rw [hU, BI.bigSep_insert hmem, bigSep_image_of_injOn hinj]
  rfl

/-- or those 15 … 1 places after it. -/
theorem around' (c : Dev nD) (Φ : Dev nD → sProp 𝕄) :
    bigSep Finset.univ Φ = iprop(Φ c ∗ bigSep (Finset.Ico 1 16) (fun o => Φ (pe c (16 - o)))) := by
  have hinj : Set.InjOn (fun o => 16 - o) (Finset.Ico 1 16 : Finset ℕ) := by
    intro a ha b hb h
    rw [Finset.mem_coe, Finset.mem_Ico] at ha hb
    change 16 - a = 16 - b at h
    omega
  have hU : Finset.Ico 1 16 = (Finset.Ico 1 16).image (fun o => 16 - o) := by decide
  rw [around c Φ]
  conv_lhs => rw [hU]
  rw [bigSep_image_of_injOn hinj]

/-! ## A buffer in sixteen pieces -/

section Pieces

variable {ℓ : Loc nD τ sig} (J : Dev nD → Finset (Idx ℓ)) (hd : ∀ b b', b ≠ b' → Disjoint (J b) (J b'))

include hd in
/-- What is held of a family of pieces at one contents, device `c`'s piece apart. -/
theorem pieces_split (c : Dev nD) (f : Buf (Elt F) ℓ) :
    (ℓ ↦[Finset.univ.biUnion J]{fullShare} f : sProp 𝕄)
      = iprop((ℓ ↦[J c]{fullShare} f) ∗ bigSep (Finset.Ico 1 16) (fun o => ℓ ↦[J (pe c o)]{fullShare} f)) := by
  rw [pointsTo_biUnion Finset.univ J (fun b _ b' _ h => hd b b' h), around c]

include hd in
/-- Pieces each at some contents of which something is known join to contents of which all of it is known. -/
theorem pieces_join (c : Dev nD) (r : ℕ → Dev nD)
    (hr : ∀ Φ : Dev nD → sProp 𝕄, bigSep Finset.univ Φ = iprop(Φ c ∗ bigSep (Finset.Ico 1 16) (fun o => Φ (r o))))
    (P : Dev nD → Buf (Elt F) ℓ → Prop) (hP : ∀ q f g, (∀ i ∈ J q, g i = f i) → P q f → P q g) :
    iprop((∃ f, ⌜P c f⌝ ∗ ℓ ↦[J c]{fullShare} f) ∗ bigSep (Finset.Ico 1 16) (fun o => iprop(∃ f, ⌜P (r o) f⌝ ∗ ℓ ↦[J (r o)]{fullShare} f)))
      ⊢ (iprop(∃ g, ⌜∀ q, P q g⌝ ∗ ℓ ↦[Finset.univ.biUnion J]{fullShare} g) : sProp 𝕄) := by
  have h : ∀ f₀ : Buf (Elt F) ℓ, (bigSep Finset.univ (fun q => iprop(∃ f, ⌜P q f⌝ ∗ ℓ ↦[J q]{fullShare} f)) : sProp 𝕄)
      ⊢ iprop(∃ g, ⌜∀ q, P q g⌝ ∗ ℓ ↦[Finset.univ.biUnion J]{fullShare} g) := by
    intro f₀
    have : Nonempty (Buf (Elt F) ℓ) := ⟨f₀⟩
    iintro H
    ihave H := (BI.bigSep_exists_pi Finset.univ (fun q (f : Buf (Elt F) ℓ) => iprop(⌜P q f⌝ ∗ ℓ ↦[J q]{fullShare} f))) $$ H
    icases H with ⟨%fs, H⟩
    ihave H := (bigSep_pure_sep Finset.univ (fun q => P q (fs q)) (fun q => iprop(ℓ ↦[J q]{fullShare} fs q))) $$ H
    icases H with ⟨%hp, H⟩
    ihave H := (pointsTo_biUnion_join Finset.univ J fs f₀ (fun b _ b' _ h => hd b b' h)) $$ H
    icases H with ⟨%g, %hg, H⟩
    iexists g
    isplitr
    · ipureintro; exact fun q => hP q (fs q) g (hg q (Finset.mem_univ q)) (hp q (Finset.mem_univ q))
    iexact H
  iintro ⟨⟨%f₀, %h₀, Hc⟩, H⟩
  iapply (h f₀)
  rw [hr (fun q => iprop(∃ f, ⌜P q f⌝ ∗ ℓ ↦[J q]{fullShare} f))]
  isplitl [Hc]
  · iexists f₀
    isplitr; · ipureintro; exact h₀
    iexact Hc
  iexact H

end Pieces

/-! ## Blocks of the buffers -/

theorem recR_disj (q q' : Dev nD) (h : q ≠ q') : Disjoint (recR q).set (recR q').set := by
  refine Rect.unit_disjoint (0 : Fin 3) ?_
  have : q.val ≠ q'.val := fun e => h (Fin.ext e)
  show q.val + 1 ≤ q'.val ∨ q'.val + 1 ≤ q.val
  omega
theorem recX_disj (q q' : Dev nD) (h : q ≠ q') : Disjoint (recX q).set (recX q').set := by
  refine Rect.unit_disjoint (0 : Fin 3) ?_
  have : q.val ≠ q'.val := fun e => h (Fin.ext e)
  show q.val + 1 ≤ q'.val ∨ q'.val + 1 ≤ q.val
  omega
theorem recW_disj (q q' : Dev nD) (h : q ≠ q') : Disjoint (recW q).set (recW q').set := by
  refine Rect.unit_disjoint (0 : Fin 3) ?_
  have : q.val ≠ q'.val := fun e => h (Fin.ext e)
  show q.val + 1 ≤ q'.val ∨ q'.val + 1 ≤ q.val
  omega
theorem recX_cover : Finset.univ.biUnion (fun q => (recX q).set) = Finset.univ := by
  refine Finset.eq_univ_of_forall fun i => ?_
  rw [Finset.mem_biUnion]
  refine ⟨i 0, Finset.mem_univ _, ?_⟩
  rw [Rect.mem_set_unit]
  intro a
  fin_cases a
  · exact ⟨le_refl _, Nat.lt_succ_self _⟩
  · exact ⟨Nat.zero_le _, by have := (i 1).isLt; simpa using this⟩
  · exact ⟨Nat.zero_le _, by have := (i 2).isLt; simpa using this⟩
theorem recW_cover : Finset.univ.biUnion (fun q => (recW q).set) = Finset.univ := by
  refine Finset.eq_univ_of_forall fun i => ?_
  rw [Finset.mem_biUnion]
  refine ⟨i 0, Finset.mem_univ _, ?_⟩
  rw [Rect.mem_set_unit]
  intro a
  fin_cases a
  · exact ⟨le_refl _, Nat.lt_succ_self _⟩
  · exact ⟨Nat.zero_le _, by have := (i 1).isLt; simpa using this⟩
  · exact ⟨Nat.zero_le _, by have := (i 2).isLt; simpa using this⟩

theorem rowR_disj (q q' : Dev nD) (h : q ≠ q') : Disjoint (rowR q).view.set (rowR q').view.set := by
  have e : ∀ q, (rowR q).view.set = (recR q).set := fun q => View.set_slice_whole _ _
  rw [e, e]; exact recR_disj q q' h

theorem rowSX_disj (q q' : Dev nD) (h : q ≠ q') : Disjoint (rowSX q).view.set (rowSX q').view.set := by
  have e : ∀ q, (rowSX q).view.set = (recX q).set := fun q => View.set_slice_whole _ _
  rw [e, e]; exact recX_disj q q' h
theorem rowSX_cover : Finset.univ.biUnion (fun q => (rowSX q).view.set) = mSX.view.set := by
  have e : ∀ q, (rowSX q).view.set = (recX q).set := fun q => View.set_slice_whole _ _
  rw [show mSX.view.set = Finset.univ from View.set_whole _, ← recX_cover]
  exact congrArg _ (funext e)

theorem rowRX_disj (q q' : Dev nD) (h : q ≠ q') : Disjoint (rowRX q).view.set (rowRX q').view.set := by
  have e : ∀ q, (rowRX q).view.set = (recX q).set := fun q => View.set_slice_whole _ _
  rw [e, e]; exact recX_disj q q' h
theorem rowRX_cover : Finset.univ.biUnion (fun q => (rowRX q).view.set) = mRX.view.set := by
  have e : ∀ q, (rowRX q).view.set = (recX q).set := fun q => View.set_slice_whole _ _
  rw [show mRX.view.set = Finset.univ from View.set_whole _, ← recX_cover]
  exact congrArg _ (funext e)

theorem rowSW_disj (q q' : Dev nD) (h : q ≠ q') : Disjoint (rowSW q).view.set (rowSW q').view.set := by
  have e : ∀ q, (rowSW q).view.set = (recW q).set := fun q => View.set_slice_whole _ _
  rw [e, e]; exact recW_disj q q' h
theorem rowSW_cover : Finset.univ.biUnion (fun q => (rowSW q).view.set) = mSW.view.set := by
  have e : ∀ q, (rowSW q).view.set = (recW q).set := fun q => View.set_slice_whole _ _
  rw [show mSW.view.set = Finset.univ from View.set_whole _, ← recW_cover]
  exact congrArg _ (funext e)

theorem rowRW_disj (q q' : Dev nD) (h : q ≠ q') : Disjoint (rowRW q).view.set (rowRW q').view.set := by
  have e : ∀ q, (rowRW q).view.set = (recW q).set := fun q => View.set_slice_whole _ _
  rw [e, e]; exact recW_disj q q' h
theorem rowRW_cover : Finset.univ.biUnion (fun q => (rowRW q).view.set) = mRW.view.set := by
  have e : ∀ q, (rowRW q).view.set = (recW q).set := fun q => View.set_slice_whole _ _
  rw [show mRW.view.set = Finset.univ from View.set_whole _, ← recW_cover]
  exact congrArg _ (funext e)

theorem rowY_disj (q q' : Dev nD) (h : q ≠ q') : Disjoint (rowY q).view.set (rowY q').view.set := by
  have e : ∀ q, (rowY q).view.set = (recX q).set := fun q => View.set_slice_whole _ _
  rw [e, e]; exact recX_disj q q' h
theorem rowY_cover : Finset.univ.biUnion (fun q => (rowY q).view.set) = mY.view.set := by
  have e : ∀ q, (rowY q).view.set = (recX q).set := fun q => View.set_slice_whole _ _
  rw [show mY.view.set = Finset.univ from View.set_whole _, ← recX_cover]
  exact congrArg _ (funext e)

theorem rowRY_disj (q q' : Dev nD) (h : q ≠ q') : Disjoint (rowRY q).view.set (rowRY q').view.set := by
  have e : ∀ q, (rowRY q).view.set = (recX q).set := fun q => View.set_slice_whole _ _
  rw [e, e]; exact recX_disj q q' h
theorem rowRY_cover : Finset.univ.biUnion (fun q => (rowRY q).view.set) = mRY.view.set := by
  have e : ∀ q, (rowRY q).view.set = (recX q).set := fun q => View.set_slice_whole _ _
  rw [show mRY.view.set = Finset.univ from View.set_whole _, ← recX_cover]
  exact congrArg _ (funext e)

/-! ## The send buffers: cut into what the copies read, and put together again -/

theorem source_split1 (I : Inp F) (c : Dev nD) (g : Buf (Elt F) (mSX.view.loc (c : Thread nD τ))) (h : SXok I c g) :
    (pts c mSX g : sProp 𝕄) ⊢ iprop(anyPts c (rowSX c) ∗ bigSep (Finset.Ico 1 16) (source I 1 c)) := by
  have e := pieces_split (F := F) (ℓ := mSX.view.loc (c : Thread nD τ)) (fun q => (rowSX q).view.set) rowSX_disj c g
  rw [rowSX_cover] at e
  refine (Entails.of_eq e).trans (BI.sep_mono ?_ (bigSep_mono fun o _ => ?_))
  · show (_ : sProp 𝕄) ⊢ _; iintro H; iexists g; iexact H
  · show _ ⊢ okPts c (rowSX (pe c o)) (SXrow I c (pe c o))
    iintro H; iexists g
    isplitr; · ipureintro; exact ⟨g, h, rfl⟩
    iexact H
theorem source_join1 (I : Inp F) (c : Dev nD) :
    iprop(anyPts c (rowSX c) ∗ bigSep (Finset.Ico 1 16) (sourceBack I 1 c)) ⊢ (anyPts c mSX : sProp 𝕄) := by
  have e := pieces_join (F := F) (ℓ := mSX.view.loc (c : Thread nD τ)) (fun q => (rowSX q).view.set) rowSX_disj c (pe c) (around c)
    (fun _ _ => True) (fun _ _ _ _ _ => trivial)
  rw [rowSX_cover] at e
  refine (BI.sep_mono ?_ (bigSep_mono fun o _ => ?_)).trans (e.trans ?_)
  · show (_ : sProp 𝕄) ⊢ _; iintro ⟨%f, H⟩; iexists f; isplitr; · ipureintro; trivial
    iexact H
  · show anyPts c (rowSX (pe c o)) ⊢ _
    iintro ⟨%f, H⟩; iexists f; isplitr; · ipureintro; trivial
    iexact H
  · iintro ⟨%f, -, H⟩; iexists f; iexact H

theorem source_split2 (I : Inp F) (c : Dev nD) (g : Buf (Elt F) (mSW.view.loc (c : Thread nD τ))) (h : SWok I c g) :
    (pts c mSW g : sProp 𝕄) ⊢ iprop(anyPts c (rowSW c) ∗ bigSep (Finset.Ico 1 16) (source I 2 c)) := by
  have e := pieces_split (F := F) (ℓ := mSW.view.loc (c : Thread nD τ)) (fun q => (rowSW q).view.set) rowSW_disj c g
  rw [rowSW_cover] at e
  refine (Entails.of_eq e).trans (BI.sep_mono ?_ (bigSep_mono fun o _ => ?_))
  · show (_ : sProp 𝕄) ⊢ _; iintro H; iexists g; iexact H
  · show _ ⊢ okPts c (rowSW (pe c o)) (SWrow I c (pe c o))
    iintro H; iexists g
    isplitr; · ipureintro; exact ⟨g, h, rfl⟩
    iexact H
theorem source_join2 (I : Inp F) (c : Dev nD) :
    iprop(anyPts c (rowSW c) ∗ bigSep (Finset.Ico 1 16) (sourceBack I 2 c)) ⊢ (anyPts c mSW : sProp 𝕄) := by
  have e := pieces_join (F := F) (ℓ := mSW.view.loc (c : Thread nD τ)) (fun q => (rowSW q).view.set) rowSW_disj c (pe c) (around c)
    (fun _ _ => True) (fun _ _ _ _ _ => trivial)
  rw [rowSW_cover] at e
  refine (BI.sep_mono ?_ (bigSep_mono fun o _ => ?_)).trans (e.trans ?_)
  · show (_ : sProp 𝕄) ⊢ _; iintro ⟨%f, H⟩; iexists f; isplitr; · ipureintro; trivial
    iexact H
  · show anyPts c (rowSW (pe c o)) ⊢ _
    iintro ⟨%f, H⟩; iexists f; isplitr; · ipureintro; trivial
    iexact H
  · iintro ⟨%f, -, H⟩; iexists f; iexact H

theorem source_split3 (I : Inp F) (c : Dev nD) (g : Buf (Elt F) (mY.view.loc (c : Thread nD τ))) (h : Yok I c g) :
    (pts c mY g : sProp 𝕄) ⊢ iprop(anyPts c (rowY c) ∗ bigSep (Finset.Ico 1 16) (source I 3 c)) := by
  have e := pieces_split (F := F) (ℓ := mY.view.loc (c : Thread nD τ)) (fun q => (rowY q).view.set) rowY_disj c g
  rw [rowY_cover] at e
  refine (Entails.of_eq e).trans (BI.sep_mono ?_ (bigSep_mono fun o _ => ?_))
  · show (_ : sProp 𝕄) ⊢ _; iintro H; iexists g; iexact H
  · show _ ⊢ okPts c (rowY (pe c o)) (Yrow I c (pe c o))
    iintro H; iexists g
    isplitr; · ipureintro; exact ⟨g, h, rfl⟩
    iexact H
theorem source_join3 (I : Inp F) (c : Dev nD) :
    iprop(anyPts c (rowY c) ∗ bigSep (Finset.Ico 1 16) (sourceBack I 3 c)) ⊢ (anyPts c mY : sProp 𝕄) := by
  have e := pieces_join (F := F) (ℓ := mY.view.loc (c : Thread nD τ)) (fun q => (rowY q).view.set) rowY_disj c (pe c) (around c)
    (fun _ _ => True) (fun _ _ _ _ _ => trivial)
  rw [rowY_cover] at e
  refine (BI.sep_mono ?_ (bigSep_mono fun o _ => ?_)).trans (e.trans ?_)
  · show (_ : sProp 𝕄) ⊢ _; iintro ⟨%f, H⟩; iexists f; isplitr; · ipureintro; trivial
    iexact H
  · show anyPts c (rowY (pe c o)) ⊢ _
    iintro ⟨%f, H⟩; iexists f; isplitr; · ipureintro; trivial
    iexact H
  · iintro ⟨%f, -, H⟩; iexists f; iexact H

/-! ## The receive buffers: cut into the places the copies fill, and read when everything has landed -/

theorem place_split1 (c : Dev nD) :
    (anyPts c mRX : sProp 𝕄) ⊢ iprop(anyPts c (rowRX c) ∗ bigSep (Finset.Ico 1 16) (fun o => place 1 (pe c o) c)) := by
  iintro ⟨%g, H⟩
  have e := pieces_split (F := F) (ℓ := mRX.view.loc (c : Thread nD τ)) (fun q => (rowRX q).view.set) rowRX_disj c g
  rw [rowRX_cover] at e
  ihave H := (Entails.of_eq e) $$ H
  icases H with ⟨Hc, H⟩
  isplitl [Hc]; · iexists g; iexact Hc
  have h : (bigSep (Finset.Ico 1 16) (fun o => iprop(mRX.view.loc (c : Thread nD τ) ↦[(rowRX (pe c o)).view.set]{fullShare} g)) : sProp 𝕄)
      ⊢ bigSep (Finset.Ico 1 16) (fun o => place 1 (pe c o) c) := bigSep_mono fun o _ => by
    show _ ⊢ anyPts c (rowRX (pe c o))
    iintro H; iexists g; iexact H
  iapply h $$ H
theorem landed_join1 (I : Inp F) (c : Dev nD) :
    iprop(okPts c (rowRX c) (SXrow I c c) ∗ bigSep (Finset.Ico 1 16) (fun o => landed I 1 (pe c (16 - o)) c))
      ⊢ (iprop(∃ g, ⌜RXok I c g⌝ ∗ pts c mRX g) : sProp 𝕄) := by
  have e := pieces_join (F := F) (ℓ := mRX.view.loc (c : Thread nD τ)) (fun q => (rowRX q).view.set) rowRX_disj c (fun o => pe c (16 - o)) (around' c)
    (fun q f => SXrow I q c ((rowRX q).view.read (Elt F) f))
    (fun q f g hfg h => by rw [View.read_congr (v := (rowRX q).view) hfg]; exact h)
  rw [rowRX_cover] at e
  exact e

theorem place_split2 (c : Dev nD) :
    (anyPts c mRW : sProp 𝕄) ⊢ iprop(anyPts c (rowRW c) ∗ bigSep (Finset.Ico 1 16) (fun o => place 2 (pe c o) c)) := by
  iintro ⟨%g, H⟩
  have e := pieces_split (F := F) (ℓ := mRW.view.loc (c : Thread nD τ)) (fun q => (rowRW q).view.set) rowRW_disj c g
  rw [rowRW_cover] at e
  ihave H := (Entails.of_eq e) $$ H
  icases H with ⟨Hc, H⟩
  isplitl [Hc]; · iexists g; iexact Hc
  have h : (bigSep (Finset.Ico 1 16) (fun o => iprop(mRW.view.loc (c : Thread nD τ) ↦[(rowRW (pe c o)).view.set]{fullShare} g)) : sProp 𝕄)
      ⊢ bigSep (Finset.Ico 1 16) (fun o => place 2 (pe c o) c) := bigSep_mono fun o _ => by
    show _ ⊢ anyPts c (rowRW (pe c o))
    iintro H; iexists g; iexact H
  iapply h $$ H
theorem landed_join2 (I : Inp F) (c : Dev nD) :
    iprop(okPts c (rowRW c) (SWrow I c c) ∗ bigSep (Finset.Ico 1 16) (fun o => landed I 2 (pe c (16 - o)) c))
      ⊢ (iprop(∃ g, ⌜RWok I c g⌝ ∗ pts c mRW g) : sProp 𝕄) := by
  have e := pieces_join (F := F) (ℓ := mRW.view.loc (c : Thread nD τ)) (fun q => (rowRW q).view.set) rowRW_disj c (fun o => pe c (16 - o)) (around' c)
    (fun q f => SWrow I q c ((rowRW q).view.read (Elt F) f))
    (fun q f g hfg h => by rw [View.read_congr (v := (rowRW q).view) hfg]; exact h)
  rw [rowRW_cover] at e
  exact e

theorem place_split3 (c : Dev nD) :
    (anyPts c mRY : sProp 𝕄) ⊢ iprop(anyPts c (rowRY c) ∗ bigSep (Finset.Ico 1 16) (fun o => place 3 (pe c o) c)) := by
  iintro ⟨%g, H⟩
  have e := pieces_split (F := F) (ℓ := mRY.view.loc (c : Thread nD τ)) (fun q => (rowRY q).view.set) rowRY_disj c g
  rw [rowRY_cover] at e
  ihave H := (Entails.of_eq e) $$ H
  icases H with ⟨Hc, H⟩
  isplitl [Hc]; · iexists g; iexact Hc
  have h : (bigSep (Finset.Ico 1 16) (fun o => iprop(mRY.view.loc (c : Thread nD τ) ↦[(rowRY (pe c o)).view.set]{fullShare} g)) : sProp 𝕄)
      ⊢ bigSep (Finset.Ico 1 16) (fun o => place 3 (pe c o) c) := bigSep_mono fun o _ => by
    show _ ⊢ anyPts c (rowRY (pe c o))
    iintro H; iexists g; iexact H
  iapply h $$ H
theorem landed_join3 (I : Inp F) (c : Dev nD) :
    iprop(okPts c (rowRY c) (Yrow I c c) ∗ bigSep (Finset.Ico 1 16) (fun o => landed I 3 (pe c (16 - o)) c))
      ⊢ (iprop(∃ g, ⌜RYok I c g⌝ ∗ pts c mRY g) : sProp 𝕄) := by
  have e := pieces_join (F := F) (ℓ := mRY.view.loc (c : Thread nD τ)) (fun q => (rowRY q).view.set) rowRY_disj c (fun o => pe c (16 - o)) (around' c)
    (fun q f => Yrow I q c ((rowRY q).view.read (Elt F) f))
    (fun q f g hfg h => by rw [View.read_congr (v := (rowRY q).view) hfg]; exact h)
  rw [rowRY_cover] at e
  exact e

/-- The rows of a router buffer which no device fills. -/
abbrev restR : Finset mRb.view.ref.ty.shape.Idx := mRb.view.set \ Finset.univ.biUnion (fun q => (rowR q).view.set)
theorem rowR_sub : Finset.univ.biUnion (fun q => (rowR q).view.set) ⊆ mRb.view.set := by
  rw [show mRb.view.set = Finset.univ from View.set_whole _]; exact Finset.subset_univ _
abbrev restPts (c : Dev nD) : sProp 𝕄 := iprop(∃ f, mRb.view.loc (c : Thread nD τ) ↦[restR]{fullShare} f)

theorem place_split0 (c : Dev nD) :
    (anyPts c mRb : sProp 𝕄) ⊢ iprop(anyPts c (rowR c) ∗ bigSep (Finset.Ico 1 16) (fun o => place 0 (pe c o) c) ∗ restPts c) := by
  iintro ⟨%g, H⟩
  have e := pieces_split (F := F) (ℓ := mRb.view.loc (c : Thread nD τ)) (fun q => (rowR q).view.set) rowR_disj c g
  have hs := (pointsTo_split_subset (Ix := Unit) (Name := ℕ) (U := UU) (Lvl := ℕ) (ℓ := mRb.view.loc (c : Thread nD τ)) (q := fullShare) (f := g)
    (S := mRb.view.set) (I := Finset.univ.biUnion (fun q => (rowR q).view.set)) rowR_sub).1
  ihave H := hs $$ H
  icases H with ⟨H, Hr⟩
  ihave H := (Entails.of_eq e) $$ H
  icases H with ⟨Hc, H⟩
  isplitl [Hc]; · iexists g; iexact Hc
  isplitl [H]
  · have h : (bigSep (Finset.Ico 1 16) (fun o => iprop(mRb.view.loc (c : Thread nD τ) ↦[(rowR (pe c o)).view.set]{fullShare} g)) : sProp 𝕄)
        ⊢ bigSep (Finset.Ico 1 16) (fun o => place 0 (pe c o) c) := bigSep_mono fun o _ => by
      show _ ⊢ anyPts c (rowR (pe c o))
      iintro H; iexists g; iexact H
    iapply h $$ H
  iexists g; iexact Hr

theorem landed_join0 (I : Inp F) (c : Dev nD) :
    iprop(okPts c (rowR c) (fun w => w = I.rp c) ∗ bigSep (Finset.Ico 1 16) (fun o => landed I 0 (pe c (16 - o)) c) ∗ restPts c)
      ⊢ (iprop(∃ g, ⌜RbOK I g⌝ ∗ pts c mRb g) : sProp 𝕄) := by
  have e := pieces_join (F := F) (ℓ := mRb.view.loc (c : Thread nD τ)) (fun q => (rowR q).view.set) rowR_disj c (fun o => pe c (16 - o)) (around' c)
    (fun q f => (rowR q).view.read (Elt F) f = I.rp q)
    (fun q f g hfg h => by rw [View.read_congr (v := (rowR q).view) hfg]; exact h)
  iintro ⟨Hc, H, ⟨%f, Hr⟩⟩
  ihave H := e $$ [Hc H]
  · isplitl [Hc]; · iexact Hc
    iexact H
  icases H with ⟨%g, %hg, H⟩
  ihave H := (pointsTo_join (ℓ := mRb.view.loc (c : Thread nD τ)) (I := Finset.univ.biUnion (fun q => (rowR q).view.set)) (J := restR) (f := g) (g := f)
    Finset.disjoint_sdiff) $$ [H Hr]
  · isplitl [H]; · iexact H
    iexact Hr
  iexists _
  isplitr
  · ipureintro
    exact (show RbOK I (restR.piecewise f g) from fun q => by
      rw [← hg q]
      refine View.read_congr fun i hi => Finset.piecewise_eq_of_notMem _ _ _ fun h => ?_
      exact (Finset.mem_sdiff.mp h).2 (Finset.mem_biUnion.mpr ⟨q, Finset.mem_univ q, hi⟩))
  have hU : Finset.univ.biUnion (fun q => (rowR q).view.set) ∪ restR = mRb.view.set := Finset.union_sdiff_of_subset rowR_sub
  rw [hU]
  iexact H

/-! ## The router rows, lent to the copies -/

/-- What a device keeps of its router rows while they are lent. -/
abbrev rpKeep (I : Inp F) (c : Dev nD) : sProp 𝕄 :=
  iprop((mRp.view.loc (c : Thread nD τ) ↦[mRp.view.set]{Transfers.shareDrop fullShare 16} (I.rp c : Buf (Elt F) (mRp.view.loc (c : Thread nD τ))))
    ∗ rpTok I c 0)

theorem rp_lend (I : Inp F) (c : Dev nD) :
    (pts c mRp (I.rp c) : sProp 𝕄) ⊣⊢ iprop(rpKeep I c ∗ bigSep (Finset.Ico 1 16) (source I 0 c)) := by
  have h := Transfers.pointsTo_toks_range (Ix := Unit) (Name := ℕ) (U := UU) (Lvl := ℕ) (ℓ := mRp.view.loc (c : Thread nD τ)) (S := mRp.view.set)
    (f := (I.rp c : Buf (Elt F) (mRp.view.loc (c : Thread nD τ)))) fullShare 16
  have e : (Finset.range 16) = insert 0 (Finset.Ico 1 16) := by decide
  rw [e, BI.bigSep_insert (by decide)] at h
  exact h.trans ⟨sep_assoc.2, sep_assoc.1⟩

end Cert.KernelIdeal.Exchange
-- ==== Proof.Compute.lean ====
/-
  The stretches of the body which load and store.
-/
module

public import proofs.«01_k».proof.Proof.Parts
public import proofs.«01_k».proof.Proof.Memory
public import Idealize.ShloMosaic.Lib.Pointwise.Reshape

@[expose] public section

noncomputable section

set_option maxRecDepth 16384

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F] [Named F]

local notation "𝕄" => MT nD τ sig Unit (Elt F) ℕ UU ℕ

variable (I : Inp F) (K : GSem nD τ sig → ℕ) (c : Dev nD)

/-! ## Loads and stores -/

section Mem

/-- Resources in another order. -/
theorem bring2 {A B C D R W : sProp 𝕄} (h : iprop(C ∗ D ∗ B ∗ A ∗ R) ⊢ W) : iprop(C ∗ D ∗ A ∗ B ∗ R) ⊢ W :=
  (sep_mono_right (sep_mono_right sep_left_comm.1)).trans h
theorem bring3 {A A' B C D R W : sProp 𝕄} (h : iprop(C ∗ D ∗ A' ∗ A ∗ B ∗ R) ⊢ W) : iprop(C ∗ D ∗ A ∗ B ∗ A' ∗ R) ⊢ W :=
  (sep_mono_right (sep_mono_right ((sep_mono_right sep_left_comm.1).trans sep_left_comm.1))).trans h

/-- A load through a rectangle of a buffer, of which at least the rectangle is held. -/
theorem load_step {α : Type} {Q : α → sProp 𝕄} {R : sProp 𝕄} {O : CellTallies nD τ sig Unit} {s : Shape} {e : EltTy} {m : Memref sig .tc .vmem s e} {r : Rect s} {hl : m.view.LoadsAt r.toLoadRect}
    {k : (r.shape.Idx → Elt F e) → Prog (TpuEff nD τ sig (Elt F) Λ₀ .tc) α} {S : Finset (Idx (m.view.loc (c : Thread nD τ)))} {q : PosShare TreeShare}
    {f : Buf (Elt F) (m.view.loc (c : Thread nD τ))} (hS : (m.access r).set ⊆ S)
    (hk : iprop(Ctx I K ∗ Owe c O ∗ (m.view.loc (c : Thread nD τ) ↦[S]{q} f) ∗ R) ⊢ WP c (k ((m.access r).read (Elt F) f)) Q) :
    iprop(Ctx I K ∗ Owe c O ∗ (m.view.loc (c : Thread nD τ) ↦[S]{q} f) ∗ R) ⊢ WP c (.op (.load m r.toLoadRect hl) k) Q := by
  iintro ⟨#HC, HO, H, HR⟩
  iapply (wp_load_rect 𝒱₀ (c : Thread nD τ) none Set.univ (m := m) (r := r) (hl := hl) (k := k) (S := S) (q := q) (f := f) hS) $$ H
  iintro H
  iapply hk
  isplitr; · iexact HC
  isplitl [HO]; · iexact HO
  isplitl [H]; · iexact H
  iexact HR

/-- The pair which a store to a block of a buffer is made of: a load of what the block held, which nobody reads, and the store. -/
theorem block_step {α : Type} {Q : α → sProp 𝕄} {R : sProp 𝕄} {O : CellTallies nD τ sig Unit} {s : Shape} {e : EltTy} {m : Memref sig .tc .vmem s e} {r : Rect s} {hu : ∀ a, r.stride a = 1} {hl : m.view.LoadsAt r.toLoadRect}
    {w : r.shape.Idx → Elt F e} {hx : (m.access r).Stores Finset.univ} {hm : (Finset.univ : Finset r.shape.Idx) = Finset.univ ∨ ∀ a, r.stride a = 1}
    {k : PUnit → Prog (TpuEff nD τ sig (Elt F) Λ₀ .tc) α}
    (hk : iprop(Ctx I K ∗ Owe c O ∗ okPts c (m.slice r hu) (fun w' => w' = w) ∗ R) ⊢ WP c (k ⟨⟩) Q) :
    iprop(Ctx I K ∗ Owe c O ∗ anyPts c (m.slice r hu) ∗ R)
      ⊢ WP c (.op (.load m r.toLoadRect hl) fun _ => .op (.store m r w Finset.univ hx hm) k) Q := by
  iintro ⟨#HC, HO, ⟨%f, H⟩, HR⟩
  iapply (wp_load_rect 𝒱₀ (c : Thread nD τ) none Set.univ (m := m) (r := r) (hl := hl) (k := fun _ => .op (.store m r w Finset.univ hx hm) k)
    (S := (m.slice r hu).view.set) (q := fullShare) (f := f) (Finset.Subset.refl _)) $$ H
  iintro H
  iapply (wp_store 𝒱₀ (c : Thread nD τ) none Set.univ (m := m) (r := r) (w := w) (Mk := Finset.univ) (hx := hx) (hm := hm) (k := k)
    (S := (m.slice r hu).view.set) (f := f) (by rw [View.setOn_univ])) $$ H
  iintro H
  iapply hk
  isplitr; · iexact HC
  isplitl [HO]; · iexact HO
  isplitl [H]
  · iexists _
    isplitr
    · ipureintro
      exact (show (m.access r).read (Elt F) ((m.access r).write (Elt F) f w Finset.univ) = w from View.read_write_univ ..)
    iexact H
  iexact HR

/-- The same where more is held than the block, and the new contents are told by the write. -/
theorem store_step {α : Type} {Q : α → sProp 𝕄} {R : sProp 𝕄} {O : CellTallies nD τ sig Unit} {s : Shape} {e : EltTy} {m : Memref sig .tc .vmem s e} {r : Rect s} {hl : m.view.LoadsAt r.toLoadRect}
    {w : r.shape.Idx → Elt F e} {hx : (m.access r).Stores Finset.univ} {hm : (Finset.univ : Finset r.shape.Idx) = Finset.univ ∨ ∀ a, r.stride a = 1}
    {k : PUnit → Prog (TpuEff nD τ sig (Elt F) Λ₀ .tc) α} {w' : Buf (Elt F) (m.view.loc (c : Thread nD τ))} (hS : (m.access r).set ⊆ m.view.set)
    (hw : ∀ f : Buf (Elt F) (m.view.loc (c : Thread nD τ)), (m.access r).write (Elt F) f w Finset.univ = w')
    (hk : iprop(Ctx I K ∗ Owe c O ∗ pts c m w' ∗ R) ⊢ WP c (k ⟨⟩) Q) :
    iprop(Ctx I K ∗ Owe c O ∗ anyPts c m ∗ R)
      ⊢ WP c (.op (.load m r.toLoadRect hl) fun _ => .op (.store m r w Finset.univ hx hm) k) Q := by
  iintro ⟨#HC, HO, ⟨%f, H⟩, HR⟩
  iapply (wp_load_rect 𝒱₀ (c : Thread nD τ) none Set.univ (m := m) (r := r) (hl := hl) (k := fun _ => .op (.store m r w Finset.univ hx hm) k)
    (S := m.view.set) (q := fullShare) (f := f) hS) $$ H
  iintro H
  iapply (wp_store 𝒱₀ (c : Thread nD τ) none Set.univ (m := m) (r := r) (w := w) (Mk := Finset.univ) (hx := hx) (hm := hm) (k := k)
    (S := m.view.set) (f := f) (by rw [View.setOn_univ]; exact hS)) $$ H
  iintro H
  iapply hk
  isplitr; · iexact HC
  isplitl [HO]; · iexact HO
  isplitl [H]
  · rw [← hw f]
    iexact H
  iexact HR

end Mem

/-! ## A group of waits, opened and closed -/

/-- A group of copies not begun. -/
theorem Snd_intro (k : ℕ) :
    iprop(bigSep (Finset.Ico 1 16) (ts (F := F) k c) ∗ bigSep (Finset.Ico 1 16) (source I k c)) ⊢ Snd I k c 1 := by
  unfold Snd
  rw [Finset.Ico_self 1, BI.bigSep_empty]
  iintro ⟨HT, HS⟩
  isplitl [HT]; · iexact HT
  isplitl [HS]; · iexact HS
  iempintro

/-- All of them begun: the credit for the waits. -/
theorem Snd_done (k : ℕ) :
    Snd I k c 16 ⊢ (bigSep (Finset.Ico 1 16) (fun o => cred (tallyAt (cell c (2 * k) o) () (amt k))) : sProp 𝕄) := by
  unfold Snd
  iintro ⟨-, -, H⟩
  iexact H

/-- The places of array `a`'s cells. -/
abbrev ats (a : ℕ) (r : ℕ) : sProp 𝕄 := bigSep (Finset.Ico 1 16) (fun o => atPos ER (cell c a o) r ∅ 0)

/-- A group of waits not begun, -/
theorem Wt_intro (a k : ℕ) (hk : a / 2 = k) :
    iprop(bigSep (Finset.Ico 1 16) (fun o => cred (tallyAt (cell c a o) () (amt k))) ∗ ats (F := F) c a 0) ⊢ Wt I a c 1 := by
  unfold Wt
  rw [Finset.Ico_self 1, BI.bigSep_empty]
  subst hk
  iintro H
  isplitl [H]
  · unfold wNeed
    rw [bigSep_sep']
    iexact H
  iempintro
/-- and over. -/
theorem Wt_done (a : ℕ) :
    Wt I a c 16 ⊢ iprop(bigSep (Finset.Ico 1 16) (dmaPay I c a) ∗ ats (F := F) c a 1) := by
  unfold Wt wGot
  rw [bigSep_sep']
  iintro ⟨-, H⟩
  iexact H

theorem zero2 : (![0, 0] : Fin 2 → ℕ) = fun _ => 0 := by decide
theorem zero3 : (![0, 0, 0] : Fin 3 → ℕ) = fun _ => 0 := by decide

/-- A block of a buffer, named by two equal offsets. -/
theorem block_at {α : Type} {Q : α → sProp 𝕄} {R : sProp 𝕄} {O : CellTallies nD τ sig Unit} {s : Shape} {e : EltTy} {m : Memref sig .tc .vmem s e}
    {off off' size : Fin s.rank → ℕ} (ho : off = off') {inb : ∀ a, off a + size a ≤ s.size a} {inb' : ∀ a, off' a + size a ≤ s.size a}
    {hl : m.view.LoadsAt (Rect.unit (s := s) off size inb).toLoadRect} {w : (Rect.unit (s := s) off size inb).shape.Idx → Elt F e}
    {hx : (m.access (Rect.unit (s := s) off size inb)).Stores Finset.univ} {hm}
    {P : ((Rect.unit (s := s) off' size inb').shape.Idx → Elt F e) → Prop} (hP : P w) {k : PUnit → Prog (TpuEff nD τ sig (Elt F) Λ₀ .tc) α}
    (hk : iprop(Ctx I K ∗ Owe c O ∗ okPts c (m.slice (Rect.unit (s := s) off' size inb') (fun _ => rfl)) P ∗ R) ⊢ WP c (k ⟨⟩) Q) :
    iprop(Ctx I K ∗ Owe c O ∗ anyPts c (m.slice (Rect.unit (s := s) off' size inb') (fun _ => rfl)) ∗ R)
      ⊢ WP c (.op (.load m (Rect.unit (s := s) off size inb).toLoadRect hl) fun _ => .op (.store m (Rect.unit (s := s) off size inb) w Finset.univ hx hm) k) Q := by
  subst ho
  refine block_step I K c (hu := fun _ => rfl) ?_
  refine BI.Entails.trans ?_ hk
  show (_ : sProp 𝕄) ⊢ _
  iintro ⟨HC, HO, ⟨%f, %hf, H⟩, HR⟩
  isplitl [HC]; · iexact HC
  isplitl [HO]; · iexact HO
  isplitl [H]
  · iexists f
    isplitr
    · ipureintro
      rw [hf]
      exact hP
    iexact H
  iexact HR

/-! ## The stretches -/

/-- The last signals, the barrier wait, and the own router rows put in place. -/
theorem part3 (v2 v48 c16_i32_44 : BitVec 32) {α : Type} {k : _ → Prog (TpuEff nD τ sig (Elt F) Λ₀ .tc) α} {Q : α → sProp 𝕄} {R : sProp 𝕄}
    (hk : ∀ r, iprop(Ctx I K ∗ Owe c (Ow c 16 1 1 1 1) ∗ okPts c (rowR c) (fun w => w = I.rp c) ∗ rpKeep I c
        ∗ (bigSep (Finset.Ico 1 16) (fun d => barPay (F := F) c d) ∗ atPos ER (bCell c) 1 ∅ 0) ∗ R) ⊢ WP c (k r) Q) :
    iprop(Ctx I K ∗ Owe c (Ow c 12 1 1 1 1) ∗ Sg c 12 ∗ (cred (tallyAt (bCell c) () 15) ∗ atPos ER (bCell c) 0 ∅ 0) ∗ rpKeep I c
        ∗ anyPts c (rowR c) ∗ R)
      ⊢ WP c (k0_part3 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 c v2 (SemArray.scalar (sig.barrier 0 rfl)) v48 c16_i32_44 >>= k) Q := by
  rw [k0_part3_eq_skeleton]; unfold k0_part3_skel
  simp only [semSignalWord, semWaitWord, Prog.lift, Prog.bind_op, Prog.bind_ret, Prog.pure_eq_ret]
  refine signal_step I K c 12 (by decide) (by decide) (Fin.ext (k0_dev12_eq c)) rfl rfl ?_
  refine signal_step I K c 13 (by decide) (by decide) (Fin.ext (k0_dev13_eq c)) rfl rfl ?_
  refine signal_step I K c 14 (by decide) (by decide) (Fin.ext (k0_dev14_eq c)) rfl rfl ?_
  refine signal_step I K c 15 (by decide) (by decide) (Fin.ext (k0_dev15_eq c)) rfl rfl ?_
  refine (show iprop(Ctx I K ∗ Owe c (Ow c 16 1 1 1 1) ∗ Sg (F := F) c 16 ∗ (cred (tallyAt (bCell c) () 15) ∗ atPos ER (bCell c) 0 ∅ 0) ∗ rpKeep I c
        ∗ anyPts c (rowR c) ∗ R) ⊢ iprop(Ctx I K ∗ Owe c (Ow c 16 1 1 1 1) ∗ (cred (tallyAt (bCell c) () 15) ∗ atPos ER (bCell c) 0 ∅ 0) ∗ rpKeep I c
        ∗ anyPts c (rowR c) ∗ R) from by
    iintro ⟨HC, HO, -, H⟩
    isplitl [HC]; · iexact HC
    isplitl [HO]; · iexact HO
    iexact H).trans ?_
  refine barrier_step I K c rfl rfl (below_Ow c (by decide) (by decide) (by decide) (by decide) (by decide)) ?_
  iintro ⟨HC, HO, HB, ⟨HD, HT⟩, HA, HR⟩
  iapply (load_step I K c (m := mRp) (S := mRp.view.set) (q := Transfers.shareDrop fullShare 16) (f := I.rp c) (O := Ow c 16 1 1 1 1)
    (R := iprop((bigSep (Finset.Ico 1 16) (fun d => barPay (F := F) c d) ∗ atPos ER (bCell c) 1 ∅ 0) ∗ rpTok I c 0 ∗ anyPts c (rowR c) ∗ R))
    (by rw [show mRp.view.set = Finset.univ from View.set_whole _]; exact Finset.subset_univ _) ?_)
  · rw [show (mRp.access (Rect.unit (s := S1x2x512) ![0, 0, 0] S1x2x512.size inb_S1x2x512_S1x2x512_0_0_0)).read (Elt F) (I.rp c) = I.rp c from
      Memref.read_access_unit_zero (Elt F) _ zero3 _ _]
    iintro ⟨HC, HO, HD, HB, HT, HA, HR⟩
    iapply (block_at I K c (m := mRb) (off' := ![c.val, 0, 0]) (inb' := inbR c) (P := fun w => w = I.rp c) (k0_off1_eq c)
      (by show k0_pay1 (I.rp c) = I.rp c; unfold k0_pay1; simp only [shapeCast_id])
      (O := Ow c 16 1 1 1 1) (R := iprop(rpKeep I c ∗ (bigSep (Finset.Ico 1 16) (fun d => barPay (F := F) c d) ∗ atPos ER (bCell c) 1 ∅ 0) ∗ R)) (hk _))
    isplitl [HC]; · iexact HC
    isplitl [HO]; · iexact HO
    isplitl [HA]; · iexact HA
    isplitl [HD HT]
    · isplitl [HD]; · iexact HD
      iexact HT
    isplitl [HB]; · iexact HB
    iexact HR
  isplitl [HC]; · iexact HC
  isplitl [HO]; · iexact HO
  isplitl [HD]; · iexact HD
  isplitl [HB]; · iexact HB
  isplitl [HT]; · iexact HT
  isplitl [HA]; · iexact HA
  iexact HR

/-- Reading through a rectangle and through the block it cuts, at equal offsets. -/
theorem read_at {s : Shape} {e : EltTy} {m : Memref sig .tc .vmem s e} {off off' size : Fin s.rank → ℕ} (ho : off = off')
    {inb : ∀ a, off a + size a ≤ s.size a} {inb' : ∀ a, off' a + size a ≤ s.size a} (f : Buf (Elt F) (m.view.loc (c : Thread nD τ))) :
    (m.access (Rect.unit (s := s) off size inb)).read (Elt F) f
      = (m.slice (Rect.unit (s := s) off' size inb') (fun _ => rfl)).view.read (Elt F) f := by
  subst ho
  rfl

theorem set_at {s : Shape} {e : EltTy} (m : Memref sig .tc .vmem s e) (r : Rect s) : (m.access r).set ⊆ m.view.set :=
  View.set_slice_subset ..

/-- The router rows gathered, and the gates computed from them. -/
theorem part12 (v2 : BitVec 32) {α : Type} {k : _ → Prog (TpuEff nD τ sig (Elt F) Λ₀ .tc) α} {Q : α → sProp 𝕄} {R : sProp 𝕄}
    (hk : ∀ rb, RbOK I rb → iprop(Ctx I K ∗ Owe c (Ow c 16 16 1 1 1) ∗ pts c mRb rb ∗ pts c mX (I.x c) ∗ ats (F := F) c 1 1 ∗ R)
      ⊢ WP c (k ⟨k0_pay2 (I.x c), k0_pay3 rb (I.x c), k0_pay4, low⟩) Q) :
    iprop(Ctx I K ∗ Owe c (Ow c 16 16 1 1 1) ∗ Wt I 1 c 14 ∗ okPts c (rowR c) (fun w => w = I.rp c) ∗ restPts (F := F) c ∗ pts c mX (I.x c) ∗ R)
      ⊢ WP c (k0_part12 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 c v2 >>= k) Q := by
  rw [k0_part12_eq_skeleton]; unfold k0_part12_skel
  simp only [semSignalWord, semWaitWord, Prog.lift, Prog.bind_op, Prog.bind_ret, Prog.pure_eq_ret]
  refine wait_step I K 1 (by decide) c 14 (by decide) (by decide) rfl (below_Ow c (by decide) (by decide) (by decide) (by decide) (by decide)) (by exact rfl) ?_
  refine wait_step I K 1 (by decide) c 15 (by decide) (by decide) rfl (below_Ow c (by decide) (by decide) (by decide) (by decide) (by decide)) (by exact rfl) ?_
  iintro ⟨HC, HO, HW, HA, HB, HX, HR⟩
  ihave ⟨HW, HT⟩ := (Wt_done I c 1) $$ HW
  ihave ⟨%rb, %hrb, HG⟩ := (landed_join0 I c) $$ [HA HW HB]
  · isplitl [HA]; · iexact HA
    isplitl [HW]; · iexact HW
    iexact HB
  iapply (load_step I K c (m := mRb) (S := mRb.view.set) (q := fullShare) (f := rb) (O := Ow c 16 16 1 1 1)
    (R := iprop(pts c mX (I.x c) ∗ ats (F := F) c 1 1 ∗ R)) (set_at mRb _) ?_)
  · rw [show (mRb.access (Rect.unit (s := S16x8x512) ![0, 0, 0] S16x8x512.size inb_S16x8x512_S16x8x512_0_0_0)).read (Elt F) rb = rb from
      Memref.read_access_unit_zero (Elt F) _ zero3 _ _]
    iintro ⟨HC, HO, HG, HX, HT, HR⟩
    iapply (load_step I K c (m := mX) (S := mX.view.set) (q := fullShare) (f := I.x c) (O := Ow c 16 16 1 1 1)
      (R := iprop(pts c mRb rb ∗ ats (F := F) c 1 1 ∗ R)) (set_at mX _) ?_)
    · rw [show (mX.access (Rect.unit (s := S32x512) ![0, 0] S32x512.size inb_S32x512_S32x512_0_0)).read (Elt F) (I.x c) = I.x c from
        Memref.read_access_unit_zero (Elt F) _ zero2 _ _]
      iintro ⟨HC, HO, HX, HG, HT, HR⟩
      iapply (hk rb hrb)
      isplitl [HC]; · iexact HC
      isplitl [HO]; · iexact HO
      isplitl [HG]; · iexact HG
      isplitl [HX]; · iexact HX
      isplitl [HT]; · iexact HT
      iexact HR
    isplitl [HC]; · iexact HC
    isplitl [HO]; · iexact HO
    isplitl [HX]; · iexact HX
    isplitl [HG]; · iexact HG
    isplitl [HT]; · iexact HT
    iexact HR
  isplitl [HC]; · iexact HC
  isplitl [HO]; · iexact HO
  isplitl [HG]; · iexact HG
  isplitl [HX]; · iexact HX
  isplitl [HT]; · iexact HT
  iexact HR

/-- The pure step after it. -/
theorem part13 (v314 : FVec F S32x128 .f32) (v333 : IVec S32x128 1) (cst : F .f32) {α : Type} {k : _ → Prog (TpuEff nD τ sig (Elt F) Λ₀ .tc) α} {Q : α → sProp 𝕄}
    {X : sProp 𝕄} (hk : X ⊢ WP c (k ⟨iotaP, iotaL, k0_pay6 v314 v333 cst, k0_pay7 v314 v333 cst, k0_pay8 v314 v333 cst, k0_pay9 v314 v333 cst⟩) Q) :
    X ⊢ WP c (k0_part13 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 v314 v333 cst >>= k) Q := by
  rw [k0_part13_eq_skeleton]; unfold k0_part13_skel
  exact hk

/-- The token rows and the weight rows stored, and the own block of token rows put in place. -/
theorem part14 (v2 : BitVec 32) (v313 : FVec F S32x512 .f32) (v372 : IVec S16x16x32 32) (v373 : IVec S16x16x128 32) (v376 v378 v383 v384 : FVec F S16x32 .f32) {α : Type} {k : _ → Prog (TpuEff nD τ sig (Elt F) Λ₀ .tc) α} {Q : α → sProp 𝕄} {R : sProp 𝕄} {O : CellTallies nD τ sig Unit}
    (hk : iprop(Ctx I K ∗ Owe c O ∗ pts c mSX (k0_pay11 v313 v372 v383 v384) ∗ pts c mSW (k0_pay12 v372 v373 v376 v378 v383 v384)
        ∗ okPts c (rowRX c) (fun w => w = (rowSX c).view.read (Elt F) (k0_pay11 v313 v372 v383 v384)) ∗ R) ⊢ WP c (k (k0_pay10 v372 v383 v384)) Q) :
    iprop(Ctx I K ∗ Owe c O ∗ anyPts c mSX ∗ anyPts c mSW ∗ anyPts c (rowRX c) ∗ R)
      ⊢ WP c (k0_part14 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 c v2 v313 v372 v373 v376 v378 v383 v384 >>= k) Q := by
  rw [k0_part14_eq_skeleton]; unfold k0_part14_skel
  simp only [semSignalWord, semWaitWord, Prog.lift, Prog.bind_op, Prog.bind_ret, Prog.pure_eq_ret]
  refine store_step I K c (m := mSX) (w' := k0_pay11 v313 v372 v383 v384) (set_at mSX _)
    (fun f => Memref.write_access_unit_zero_univ (Elt F) cc0_scratch1 zero3 _ f _) ?_
  iintro ⟨HC, HO, HA, HB, HD, HR⟩
  iapply (store_step I K c (m := mSW) (w' := k0_pay12 v372 v373 v376 v378 v383 v384) (set_at mSW _)
    (fun f => Memref.write_access_unit_zero_univ (Elt F) cc0_scratch3 zero3 _ f _) (O := O)
    (R := iprop(pts c mSX (k0_pay11 v313 v372 v383 v384) ∗ anyPts c (rowRX c) ∗ R)) ?_)
  · iintro ⟨HC, HO, HB, HA, HD, HR⟩
    iapply (load_step I K c (m := mSX) (S := mSX.view.set) (q := fullShare) (f := k0_pay11 v313 v372 v383 v384) (O := O)
      (R := iprop(pts c mSW (k0_pay12 v372 v373 v376 v378 v383 v384) ∗ anyPts c (rowRX c) ∗ R)) (set_at mSX _) ?_)
    · iintro ⟨HC, HO, HA, HB, HD, HR⟩
      iapply (block_at I K c (m := mRX) (off' := ![c.val, 0, 0]) (inb' := inbX c)
        (P := fun w => w = (rowSX c).view.read (Elt F) (k0_pay11 v313 v372 v383 v384)) (k0_off4_eq c)
        (by
          show k0_pay13 (F := F) _ = _
          unfold k0_pay13
          simp only [shapeCast_id]
          exact read_at c (m := mSX) (k0_off4_eq c) _)
        (O := O) (R := iprop(pts c mSX (k0_pay11 v313 v372 v383 v384) ∗ pts c mSW (k0_pay12 v372 v373 v376 v378 v383 v384) ∗ R)) ?_)
      · iintro ⟨HC, HO, HD, HA, HB, HR⟩
        iapply hk
        isplitl [HC]; · iexact HC
        isplitl [HO]; · iexact HO
        isplitl [HA]; · iexact HA
        isplitl [HB]; · iexact HB
        isplitl [HD]; · iexact HD
        iexact HR
      isplitl [HC]; · iexact HC
      isplitl [HO]; · iexact HO
      isplitl [HD]; · iexact HD
      isplitl [HA]; · iexact HA
      isplitl [HB]; · iexact HB
      iexact HR
    isplitl [HC]; · iexact HC
    isplitl [HO]; · iexact HO
    isplitl [HA]; · iexact HA
    isplitl [HB]; · iexact HB
    isplitl [HD]; · iexact HD
    iexact HR
  isplitl [HC]; · iexact HC
  isplitl [HO]; · iexact HO
  isplitl [HB]; · iexact HB
  isplitl [HA]; · iexact HA
  isplitl [HD]; · iexact HD
  iexact HR

/-- The own block of weight rows put in place, and the first two copies of the second exchange. -/
theorem part15 (v2 : BitVec 32) (g : Vec F S16x16x128 .bf16) (hg : SWok I c g) {α : Type} {k : _ → Prog (TpuEff nD τ sig (Elt F) Λ₀ .tc) α} {Q : α → sProp 𝕄} {R : sProp 𝕄}
    (hk : ∀ r, iprop(Ctx I K ∗ Owe c (Ow c 16 16 2 2 1) ∗ Snd I 1 c 2 ∗ Snd I 2 c 2 ∗ anyPts c (rowSW c) ∗ okPts c (rowRW c) (SWrow I c c) ∗ R)
      ⊢ WP c (k r) Q) :
    iprop(Ctx I K ∗ Owe c (Ow c 16 16 1 1 1) ∗ Snd I 1 c 1 ∗ bigSep (Finset.Ico 1 16) (ts (F := F) 2 c) ∗ pts c mSW g ∗ anyPts c (rowRW c) ∗ R)
      ⊢ WP c (k0_part15 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 c v2 >>= k) Q := by
  rw [k0_part15_eq_skeleton]; unfold k0_part15_skel
  simp only [semSignalWord, semWaitWord, Prog.lift, Prog.bind_op, Prog.bind_ret, Prog.pure_eq_ret]
  iintro ⟨HC, HO, HS, HU, HB, HD, HR⟩
  iapply (load_step I K c (m := mSW) (S := mSW.view.set) (q := fullShare) (f := g) (O := Ow c 16 16 1 1 1)
    (R := iprop(anyPts c (rowRW c) ∗ Snd I 1 c 1 ∗ bigSep (Finset.Ico 1 16) (ts (F := F) 2 c) ∗ R)) (set_at mSW _) ?_)
  · iintro ⟨HC, HO, HB, HD, HS, HU, HR⟩
    iapply (block_at I K c (m := mRW) (off' := ![c.val, 0, 0]) (inb' := inbW c) (P := SWrow I c c) (k0_off5_eq c)
      (by
        refine ⟨g, hg, ?_⟩
        show k0_pay14 (F := F) _ = _
        unfold k0_pay14
        simp only [shapeCast_id]
        exact read_at c (m := mSW) (k0_off5_eq c) _)
      (O := Ow c 16 16 1 1 1) (R := iprop(pts c mSW g ∗ Snd I 1 c 1 ∗ bigSep (Finset.Ico 1 16) (ts (F := F) 2 c) ∗ R)) ?_)
    · iintro ⟨HC, HO, HD, HB, HS, HU, HR⟩
      ihave ⟨HB, HP⟩ := (source_split2 I c g hg) $$ HB
      ihave HU := (Snd_intro I c 2) $$ [HU HP]
      · isplitl [HU]; · iexact HU
        iexact HP
      iapply (show iprop(Ctx I K ∗ Owe c (Ow c 16 16 1 1 1) ∗ Snd I 1 c 1 ∗ Snd I 2 c 1 ∗ anyPts c (rowSW c) ∗ okPts c (rowRW c) (SWrow I c c) ∗ R) ⊢ _ from ?_)
      · refine send_1 I K c 1 (by decide) (by decide) (Fin.ext (k0_dev31_eq c)) (k0_off6_eq c) (k0_off7_eq c 0) rfl rfl ?_
        refine send_2 I K c 1 (by decide) (by decide) (Fin.ext (k0_dev32_eq c)) (k0_off8_eq c) (k0_off9_eq c 0) rfl rfl ?_
        exact hk _
      isplitl [HC]; · iexact HC
      isplitl [HO]; · iexact HO
      isplitl [HS]; · iexact HS
      isplitl [HU]; · iexact HU
      isplitl [HB]; · iexact HB
      isplitl [HD]; · iexact HD
      iexact HR
    isplitl [HC]; · iexact HC
    isplitl [HO]; · iexact HO
    isplitl [HD]; · iexact HD
    isplitl [HB]; · iexact HB
    isplitl [HS]; · iexact HS
    isplitl [HU]; · iexact HU
    iexact HR
  isplitl [HC]; · iexact HC
  isplitl [HO]; · iexact HO
  isplitl [HB]; · iexact HB
  isplitl [HD]; · iexact HD
  isplitl [HS]; · iexact HS
  isplitl [HU]; · iexact HU
  iexact HR

/-- The last copies of the second exchange, and three of the experts' matrices loaded. -/
theorem part24 (v2 : BitVec 32) {α : Type} {k : _ → Prog (TpuEff nD τ sig (Elt F) Λ₀ .tc) α} {Q : α → sProp 𝕄} {R : sProp 𝕄}
    (hk : iprop(Ctx I K ∗ Owe c (Ow c 16 16 16 16 1) ∗ Snd I 1 c 16 ∗ Snd I 2 c 16 ∗ pts c mW1 (I.W1 c) ∗ pts c mW2 (I.W2 c) ∗ R)
      ⊢ WP c (k ⟨k0_pay15 (w1a (I.W1 c)), k0_pay16 (w1b (I.W1 c)), k0_pay17 (w2a (I.W2 c))⟩) Q) :
    iprop(Ctx I K ∗ Owe c (Ow c 16 16 15 14 1) ∗ Snd I 1 c 15 ∗ Snd I 2 c 14 ∗ pts c mW1 (I.W1 c) ∗ pts c mW2 (I.W2 c) ∗ R)
      ⊢ WP c (k0_part24 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 c v2 >>= k) Q := by
  rw [k0_part24_eq_skeleton]; unfold k0_part24_skel
  simp only [semSignalWord, semWaitWord, Prog.lift, Prog.bind_op, Prog.bind_ret, Prog.pure_eq_ret]
  refine send_2 I K c 14 (by decide) (by decide) (Fin.ext (k0_dev58_eq c)) (k0_off8_eq c) (k0_off9_eq c 13) rfl rfl ?_
  refine send_1 I K c 15 (by decide) (by decide) (Fin.ext (k0_dev59_eq c)) (k0_off6_eq c) (k0_off7_eq c 14) rfl rfl ?_
  refine send_2 I K c 15 (by decide) (by decide) (Fin.ext (k0_dev60_eq c)) (k0_off8_eq c) (k0_off9_eq c 14) rfl rfl ?_
  iintro ⟨HC, HO, HS, HU, HA, HB, HR⟩
  iapply (load_step I K c (m := mW1) (S := mW1.view.set) (q := fullShare) (f := I.W1 c) (O := Ow c 16 16 16 16 1)
    (R := iprop(Snd I 1 c 16 ∗ Snd I 2 c 16 ∗ pts c mW2 (I.W2 c) ∗ R)) (set_at mW1 _) ?_)
  · refine load_step I K c (m := mW1) (S := mW1.view.set) (q := fullShare) (f := I.W1 c) (set_at mW1 _) ?_
    iintro ⟨HC, HO, HA, HS, HU, HB, HR⟩
    iapply (load_step I K c (m := mW2) (S := mW2.view.set) (q := fullShare) (f := I.W2 c) (O := Ow c 16 16 16 16 1)
      (R := iprop(Snd I 1 c 16 ∗ Snd I 2 c 16 ∗ pts c mW1 (I.W1 c) ∗ R)) (set_at mW2 _) ?_)
    · iintro ⟨HC, HO, HB, HS, HU, HA, HR⟩
      iapply hk
      isplitl [HC]; · iexact HC
      isplitl [HO]; · iexact HO
      isplitl [HS]; · iexact HS
      isplitl [HU]; · iexact HU
      isplitl [HA]; · iexact HA
      isplitl [HB]; · iexact HB
      iexact HR
    isplitl [HC]; · iexact HC
    isplitl [HO]; · iexact HO
    isplitl [HB]; · iexact HB
    isplitl [HS]; · iexact HS
    isplitl [HU]; · iexact HU
    isplitl [HA]; · iexact HA
    iexact HR
  isplitl [HC]; · iexact HC
  isplitl [HO]; · iexact HO
  isplitl [HA]; · iexact HA
  isplitl [HS]; · iexact HS
  isplitl [HU]; · iexact HU
  isplitl [HB]; · iexact HB
  iexact HR

/-- The fourth matrix loaded, and the first waits for the token and weight rows. -/
theorem part25 (v2 : BitVec 32) {α : Type} {k : _ → Prog (TpuEff nD τ sig (Elt F) Λ₀ .tc) α} {Q : α → sProp 𝕄} {R : sProp 𝕄}
    (hk : ∀ r, iprop(Ctx I K ∗ Owe c (Ow c 16 16 16 16 1) ∗ Wt I 3 c 3 ∗ Wt I 5 c 2 ∗ pts c mW2 (I.W2 c) ∗ R)
      ⊢ WP c (k ⟨k0_pay18 (w2b (I.W2 c)), r⟩) Q) :
    iprop(Ctx I K ∗ Owe c (Ow c 16 16 16 16 1) ∗ Wt I 3 c 1 ∗ Wt I 5 c 1 ∗ pts c mW2 (I.W2 c) ∗ R)
      ⊢ WP c (k0_part25 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 c v2 >>= k) Q := by
  rw [k0_part25_eq_skeleton]; unfold k0_part25_skel
  simp only [semSignalWord, semWaitWord, Prog.lift, Prog.bind_op, Prog.bind_ret, Prog.pure_eq_ret]
  iintro ⟨HC, HO, HS, HU, HB, HR⟩
  iapply (load_step I K c (m := mW2) (S := mW2.view.set) (q := fullShare) (f := I.W2 c) (O := Ow c 16 16 16 16 1)
    (R := iprop(Wt I 3 c 1 ∗ Wt I 5 c 1 ∗ R)) (set_at mW2 _) ?_)
  · iintro ⟨HC, HO, HB, HS, HU, HR⟩
    iapply (show iprop(Ctx I K ∗ Owe c (Ow c 16 16 16 16 1) ∗ Wt I 3 c 1 ∗ Wt I 5 c 1 ∗ pts c mW2 (I.W2 c) ∗ R) ⊢ _ from ?_)
    · refine wait_step I K 3 (by decide) c 1 (by decide) (by decide) rfl (below_Ow c (by decide) (by decide) (by decide) (by decide) (by decide)) (by exact rfl) ?_
      refine wait_step' I K 5 (by decide) c 1 (by decide) (by decide) rfl (below_Ow c (by decide) (by decide) (by decide) (by decide) (by decide)) (by exact rfl) ?_
      refine wait_step I K 3 (by decide) c 2 (by decide) (by decide) rfl (below_Ow c (by decide) (by decide) (by decide) (by decide) (by decide)) (by exact rfl) ?_
      exact hk _
    isplitl [HC]; · iexact HC
    isplitl [HO]; · iexact HO
    isplitl [HS]; · iexact HS
    isplitl [HU]; · iexact HU
    isplitl [HB]; · iexact HB
    iexact HR
  isplitl [HC]; · iexact HC
  isplitl [HO]; · iexact HO
  isplitl [HB]; · iexact HB
  isplitl [HS]; · iexact HS
  isplitl [HU]; · iexact HU
  iexact HR

/-- The last of those waits, and what was received loaded. -/
theorem part33 (v2 : BitVec 32) (v702 : FVec F S512x1024 .bf16) (v708 : FVec F S1024x512 .bf16) (v : BitVec 32) {α : Type} {k : _ → Prog (TpuEff nD τ sig (Elt F) Λ₀ .tc) α} {Q : α → sProp 𝕄} {R : sProp 𝕄}
    (hk : ∀ X W, RXok I c X → RWok I c W → iprop(Ctx I K ∗ Owe c (Ow c 16 16 16 16 1) ∗ pts c mRX X ∗ pts c mRW W ∗ ats (F := F) c 3 1 ∗ ats (F := F) c 5 1 ∗ R)
      ⊢ WP c (k ⟨k0_pay19 X, k0_pay21 v702 v708 X W, k0_pay22 W⟩) Q) :
    iprop(Ctx I K ∗ Owe c (Ow c 16 16 16 16 1) ∗ Wt I 3 c 15 ∗ Wt I 5 c 15 ∗ okPts c (rowRX c) (SXrow I c c) ∗ okPts c (rowRW c) (SWrow I c c) ∗ R)
      ⊢ WP c (k0_part33 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 c v2 v702 v708 v >>= k) Q := by
  rw [k0_part33_eq_skeleton]; unfold k0_part33_skel
  simp only [semSignalWord, semWaitWord, Prog.lift, Prog.bind_op, Prog.bind_ret, Prog.pure_eq_ret]
  refine wait_step I K 3 (by decide) c 15 (by decide) (by decide) rfl (below_Ow c (by decide) (by decide) (by decide) (by decide) (by decide)) (by exact rfl) ?_
  refine wait_step' I K 5 (by decide) c 15 (by decide) (by decide) rfl (below_Ow c (by decide) (by decide) (by decide) (by decide) (by decide)) (by exact rfl) ?_
  iintro ⟨HC, HO, HS, HU, HA, HB, HR⟩
  ihave ⟨HS, HT⟩ := (Wt_done I c 3) $$ HS
  ihave ⟨HU, HT'⟩ := (Wt_done I c 5) $$ HU
  ihave ⟨%X, %hX, HA⟩ := (landed_join1 I c) $$ [HA HS]
  · isplitl [HA]; · iexact HA
    iexact HS
  ihave ⟨%W, %hW, HB⟩ := (landed_join2 I c) $$ [HB HU]
  · isplitl [HB]; · iexact HB
    iexact HU
  iapply (load_step I K c (m := mRX) (S := mRX.view.set) (q := fullShare) (f := X) (O := Ow c 16 16 16 16 1)
    (R := iprop(pts c mRW W ∗ ats (F := F) c 3 1 ∗ ats (F := F) c 5 1 ∗ R)) (set_at mRX _) ?_)
  · rw [show (mRX.access (Rect.unit (s := S16x16x512) ![0, 0, 0] S16x16x512.size inb_S16x16x512_S16x16x512_0_0_0)).read (Elt F) X = X from
      Memref.read_access_unit_zero (Elt F) _ zero3 _ _]
    iintro ⟨HC, HO, HA, HB, HT, HT', HR⟩
    iapply (load_step I K c (m := mRW) (S := mRW.view.set) (q := fullShare) (f := W) (O := Ow c 16 16 16 16 1)
      (R := iprop(pts c mRX X ∗ ats (F := F) c 3 1 ∗ ats (F := F) c 5 1 ∗ R)) (set_at mRW _) ?_)
    · rw [show (mRW.access (Rect.unit (s := S16x16x128) ![0, 0, 0] S16x16x128.size inb_S16x16x128_S16x16x128_0_0_0)).read (Elt F) W = W from
        Memref.read_access_unit_zero (Elt F) _ zero3 _ _]
      iintro ⟨HC, HO, HB, HA, HT, HT', HR⟩
      iapply (hk X W hX hW)
      isplitl [HC]; · iexact HC
      isplitl [HO]; · iexact HO
      isplitl [HA]; · iexact HA
      isplitl [HB]; · iexact HB
      isplitl [HT]; · iexact HT
      isplitl [HT']; · iexact HT'
      iexact HR
    isplitl [HC]; · iexact HC
    isplitl [HO]; · iexact HO
    isplitl [HB]; · iexact HB
    isplitl [HA]; · iexact HA
    isplitl [HT]; · iexact HT
    isplitl [HT']; · iexact HT'
    iexact HR
  isplitl [HC]; · iexact HC
  isplitl [HO]; · iexact HO
  isplitl [HA]; · iexact HA
  isplitl [HB]; · iexact HB
  isplitl [HT]; · iexact HT
  isplitl [HT']; · iexact HT'
  iexact HR

/-- The result rows stored, the own block put in place, and the first copy of the last exchange. -/
theorem part34 (v2 : BitVec 32) (v705 : FVec F S512x1024 .bf16) (v711 : FVec F S1024x512 .bf16) (v923 : FVec F S256x512 .bf16) (v936 : FVec F S256x512 .f32) (v938 : FVec F S256x1 .f32)
    (hY : Yok I c (k0_pay23 v705 v711 v923 v936 v938)) {α : Type} {k : _ → Prog (TpuEff nD τ sig (Elt F) Λ₀ .tc) α} {Q : α → sProp 𝕄} {R : sProp 𝕄}
    (hk : ∀ r, iprop(Ctx I K ∗ Owe c (Ow c 16 16 16 16 2) ∗ Snd I 3 c 2 ∗ anyPts c (rowY c) ∗ okPts c (rowRY c) (Yrow I c c) ∗ R) ⊢ WP c (k r) Q) :
    iprop(Ctx I K ∗ Owe c (Ow c 16 16 16 16 1) ∗ bigSep (Finset.Ico 1 16) (ts (F := F) 3 c) ∗ anyPts c mY ∗ anyPts c (rowRY c) ∗ R)
      ⊢ WP c (k0_part34 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 c v2 v705 v711 v923 v936 v938 >>= k) Q := by
  rw [k0_part34_eq_skeleton]; unfold k0_part34_skel
  simp only [semSignalWord, semWaitWord, Prog.lift, Prog.bind_op, Prog.bind_ret, Prog.pure_eq_ret]
  iintro ⟨HC, HO, HU, HA, HD, HR⟩
  iapply (store_step I K c (m := mY) (w' := k0_pay23 v705 v711 v923 v936 v938) (set_at mY _)
    (fun f => Memref.write_access_unit_zero_univ (Elt F) cc0_scratch5 zero3 _ f _) (O := Ow c 16 16 16 16 1)
    (R := iprop(bigSep (Finset.Ico 1 16) (ts (F := F) 3 c) ∗ anyPts c (rowRY c) ∗ R)) ?_)
  · iintro ⟨HC, HO, HA, HU, HD, HR⟩
    iapply (load_step I K c (m := mY) (S := mY.view.set) (q := fullShare) (f := k0_pay23 v705 v711 v923 v936 v938) (O := Ow c 16 16 16 16 1)
      (R := iprop(bigSep (Finset.Ico 1 16) (ts (F := F) 3 c) ∗ anyPts c (rowRY c) ∗ R)) (set_at mY _) ?_)
    · iintro ⟨HC, HO, HA, HU, HD, HR⟩
      iapply (block_at I K c (m := mRY) (off' := ![c.val, 0, 0]) (inb' := inbX c) (P := Yrow I c c) (k0_off4_eq c)
        (by
          refine ⟨_, hY, ?_⟩
          show k0_pay24 (F := F) _ = _
          unfold k0_pay24
          simp only [shapeCast_id]
          exact read_at c (m := mY) (k0_off4_eq c) _)
        (O := Ow c 16 16 16 16 1) (R := iprop(pts c mY (k0_pay23 v705 v711 v923 v936 v938) ∗ bigSep (Finset.Ico 1 16) (ts (F := F) 3 c) ∗ R)) ?_)
      · iintro ⟨HC, HO, HD, HA, HU, HR⟩
        ihave ⟨HA, HP⟩ := (source_split3 I c _ hY) $$ HA
        ihave HU := (Snd_intro I c 3) $$ [HU HP]
        · isplitl [HU]; · iexact HU
          iexact HP
        iapply (show iprop(Ctx I K ∗ Owe c (Ow c 16 16 16 16 1) ∗ Snd I 3 c 1 ∗ anyPts c (rowY c) ∗ okPts c (rowRY c) (Yrow I c c) ∗ R) ⊢ _ from ?_)
        · refine send_3 I K c 1 (by decide) (by decide) (Fin.ext (k0_dev61_eq c)) (k0_off6_eq c) (k0_off7_eq c 0) rfl rfl ?_
          exact hk _
        isplitl [HC]; · iexact HC
        isplitl [HO]; · iexact HO
        isplitl [HU]; · iexact HU
        isplitl [HA]; · iexact HA
        isplitl [HD]; · iexact HD
        iexact HR
      isplitl [HC]; · iexact HC
      isplitl [HO]; · iexact HO
      isplitl [HD]; · iexact HD
      isplitl [HA]; · iexact HA
      isplitl [HU]; · iexact HU
      iexact HR
    isplitl [HC]; · iexact HC
    isplitl [HO]; · iexact HO
    isplitl [HA]; · iexact HA
    isplitl [HU]; · iexact HU
    isplitl [HD]; · iexact HD
    iexact HR
  isplitl [HC]; · iexact HC
  isplitl [HO]; · iexact HO
  isplitl [HA]; · iexact HA
  isplitl [HU]; · iexact HU
  isplitl [HD]; · iexact HD
  iexact HR

/-- The last waits for result rows, the result stored, and the first wait for a copy sent. -/
theorem part44 (v2 : BitVec 32) (v393 : FVec F S16x16x32 .f32) (v v' : BitVec 32) {α : Type} {k : _ → Prog (TpuEff nD τ sig (Elt F) Λ₀ .tc) α} {Q : α → sProp 𝕄} {R : sProp 𝕄}
    (hk : ∀ r Y, RYok I c Y → iprop(Ctx I K ∗ Owe c (Ow c 16 16 16 16 16) ∗ Wt I 0 c 2 ∗ pts c mRY Y ∗ pts c mOut (k0_pay25 v393 Y) ∗ ats (F := F) c 7 1 ∗ R)
      ⊢ WP c (k r) Q) :
    iprop(Ctx I K ∗ Owe c (Ow c 16 16 16 16 16) ∗ Wt I 7 c 14 ∗ Wt I 0 c 1 ∗ okPts c (rowRY c) (Yrow I c c) ∗ anyPts c mOut ∗ R)
      ⊢ WP c (k0_part44 (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 c v2 v393 v v' >>= k) Q := by
  rw [k0_part44_eq_skeleton]; unfold k0_part44_skel
  simp only [semSignalWord, semWaitWord, Prog.lift, Prog.bind_op, Prog.bind_ret, Prog.pure_eq_ret]
  refine wait_step I K 7 (by decide) c 14 (by decide) (by decide) rfl (below_Ow c (by decide) (by decide) (by decide) (by decide) (by decide)) (by exact rfl) ?_
  refine wait_step I K 7 (by decide) c 15 (by decide) (by decide) rfl (below_Ow c (by decide) (by decide) (by decide) (by decide) (by decide)) (by exact rfl) ?_
  iintro ⟨HC, HO, HS, HU, HA, HB, HR⟩
  ihave ⟨HS, HT⟩ := (Wt_done I c 7) $$ HS
  ihave ⟨%Y, %hY, HA⟩ := (landed_join3 I c) $$ [HA HS]
  · isplitl [HA]; · iexact HA
    iexact HS
  iapply (load_step I K c (m := mRY) (S := mRY.view.set) (q := fullShare) (f := Y) (O := Ow c 16 16 16 16 16)
    (R := iprop(Wt I 0 c 1 ∗ anyPts c mOut ∗ ats (F := F) c 7 1 ∗ R)) (set_at mRY _) ?_)
  · rw [show (mRY.access (Rect.unit (s := S16x16x512) ![0, 0, 0] S16x16x512.size inb_S16x16x512_S16x16x512_0_0_0)).read (Elt F) Y = Y from
      Memref.read_access_unit_zero (Elt F) _ zero3 _ _]
    iintro ⟨HC, HO, HA, HU, HB, HT, HR⟩
    iapply (store_step I K c (m := mOut) (w' := k0_pay25 v393 Y) (set_at mOut _)
      (fun f => Memref.write_access_unit_zero_univ (Elt F) cc0_stg4_0 zero2 _ f _) (O := Ow c 16 16 16 16 16)
      (R := iprop(Wt I 0 c 1 ∗ pts c mRY Y ∗ ats (F := F) c 7 1 ∗ R)) ?_)
    · iintro ⟨HC, HO, HB, HU, HA, HT, HR⟩
      iapply (show iprop(Ctx I K ∗ Owe c (Ow c 16 16 16 16 16) ∗ Wt I 0 c 1 ∗ pts c mRY Y ∗ pts c mOut (k0_pay25 v393 Y) ∗ ats (F := F) c 7 1 ∗ R) ⊢ _ from ?_)
      · refine wait_step I K 0 (by decide) c 1 (by decide) (by decide) rfl (below_Ow c (by decide) (by decide) (by decide) (by decide) (by decide)) (by exact rfl) ?_
        exact hk _ Y hY
      isplitl [HC]; · iexact HC
      isplitl [HO]; · iexact HO
      isplitl [HU]; · iexact HU
      isplitl [HA]; · iexact HA
      isplitl [HB]; · iexact HB
      isplitl [HT]; · iexact HT
      iexact HR
    isplitl [HC]; · iexact HC
    isplitl [HO]; · iexact HO
    isplitl [HB]; · iexact HB
    isplitl [HU]; · iexact HU
    isplitl [HA]; · iexact HA
    isplitl [HT]; · iexact HT
    iexact HR
  isplitl [HC]; · iexact HC
  isplitl [HO]; · iexact HO
  isplitl [HA]; · iexact HA
  isplitl [HU]; · iexact HU
  isplitl [HB]; · iexact HB
  isplitl [HT]; · iexact HT
  iexact HR

end Cert.KernelIdeal.Exchange
-- ==== Proof.Body.lean ====
/-
  The body of the kernel, run from end to end on one device.
-/
module

public import proofs.«01_k».proof.Proof.Compute

@[expose] public section

noncomputable section

set_option maxRecDepth 16384

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F] [Named F]

local notation "𝕄" => MT nD τ sig Unit (Elt F) ℕ UU ℕ

variable (I : Inp F) (K : GSem nD τ sig → ℕ) (c : Dev nD)

/-! ## Resources of a device, regrouped -/

/-- For copy `o` of kind `k`: the rights to pay its two semaphores. -/
def dt (k : ℕ) (c : Dev nD) (o : ℕ) : sProp 𝕄 :=
  iprop((dutyTok ER (cell c (2 * k) o) 0 0 ∗ reached ER (cell c (2 * k) o) 0) ∗ dutyTok ER (cell (pe c o) (2 * k + 1) o) 0 0)

/-- What the signals need, from the device's own places and the rights to signal. -/
theorem sg_gather : iprop(bigSep (Finset.Ico 1 16) (fun o => iprop(dutyTok ER (bCell (pe c o)) 0 (16 - o) ∗ reached ER (bCell (pe c o)) 0)) ∗ bigSep (Finset.Ico 1 16) (fun o => place (F := F) 0 (pe c o) c) ∗ bigSep (Finset.Ico 1 16) (fun o => place (F := F) 1 (pe c o) c)
      ∗ bigSep (Finset.Ico 1 16) (fun o => place (F := F) 2 (pe c o) c) ∗ bigSep (Finset.Ico 1 16) (fun o => place (F := F) 3 (pe c o) c) ∗ bigSep (Finset.Ico 1 16) (fun o => reached ER (cell c 1 (16 - o)) 0) ∗ bigSep (Finset.Ico 1 16) (fun o => reached ER (cell c 3 (16 - o)) 0) ∗ bigSep (Finset.Ico 1 16) (fun o => reached ER (cell c 5 (16 - o)) 0) ∗ bigSep (Finset.Ico 1 16) (fun o => reached ER (cell c 7 (16 - o)) 0))
    ⊢ Sg (F := F) c 1 := by
  unfold Sg
  simp only [← bigSep_sep']
  refine BI.bigSep_mono fun o ho => ?_
  unfold sg barPay
  rw [pe_back c (Finset.mem_Ico.mp ho).2.le]
  show (_ : sProp 𝕄) ⊢ _
  iintro ⟨⟨HD, HR⟩, P0, P1, P2, P3, R0, R1, R2, R3⟩
  isplitl [HD]; · iexact HD
  isplitl [HR]; · iexact HR
  isplitl [P0 R0]
  · isplitl [P0]; · iexact P0
    iexact R0
  isplitl [P1 R1]
  · isplitl [P1]; · iexact P1
    iexact R1
  isplitl [P2 R2]
  · isplitl [P2]; · iexact P2
    iexact R2
  isplitl [P3]; · iexact P3
  iexact R3

/-- What the copies need, from what the barrier handed over. -/
theorem ts_gather : iprop(bigSep (Finset.Ico 1 16) (fun d => barPay (F := F) c d) ∗ bigSep (Finset.Ico 1 16) (dt (F := F) 0 c) ∗ bigSep (Finset.Ico 1 16) (dt (F := F) 1 c) ∗ bigSep (Finset.Ico 1 16) (dt (F := F) 2 c) ∗ bigSep (Finset.Ico 1 16) (dt (F := F) 3 c))
    ⊢ iprop(bigSep (Finset.Ico 1 16) (ts (F := F) 0 c) ∗ bigSep (Finset.Ico 1 16) (ts (F := F) 1 c) ∗ bigSep (Finset.Ico 1 16) (ts (F := F) 2 c) ∗ bigSep (Finset.Ico 1 16) (ts (F := F) 3 c)) := by
  simp only [← bigSep_sep']
  refine BI.bigSep_mono fun o ho => ?_
  unfold ts dt barPay
  show (_ : sProp 𝕄) ⊢ _
  iintro ⟨⟨⟨P0, R0⟩, ⟨P1, R1⟩, ⟨P2, R2⟩, P3, R3⟩, ⟨A0, B0⟩, ⟨A1, B1⟩, ⟨A2, B2⟩, A3, B3⟩
  isplitl [P0 R0 A0 B0]
  · isplitl [A0]; · iexact A0
    isplitl [B0]; · iexact B0
    isplitl [P0]; · iexact P0
    iexact R0
  isplitl [P1 R1 A1 B1]
  · isplitl [A1]; · iexact A1
    isplitl [B1]; · iexact B1
    isplitl [P1]; · iexact P1
    iexact R1
  isplitl [P2 R2 A2 B2]
  · isplitl [A2]; · iexact A2
    isplitl [B2]; · iexact B2
    isplitl [P2]; · iexact P2
    iexact R2
  isplitl [A3]; · iexact A3
  isplitl [B3]; · iexact B3
  isplitl [P3]; · iexact P3
  iexact R3

/-- The own block of token rows, as it came from the send buffer. -/
theorem own_row (rb : Vec F S16x8x512 .f32) (hrb : RbOK I rb) : (okPts c (rowRX c) (fun w => w = (rowSX c).view.read (Elt F) (fSX rb (I.x c))) : sProp 𝕄) ⊢ okPts c (rowRX c) (SXrow I c c) := by
  iintro ⟨%f, %hf, H⟩
  iexists f
  isplitr
  · ipureintro
    exact ⟨_, ⟨rb, hrb, rfl⟩, hf⟩
  iexact H

/-- Held at given contents, held at some. -/
theorem any_of {sh : Shape} {e : EltTy} (m : Memref sig .tc .vmem sh e) (f : Buf (Elt F) (m.view.loc (c : Thread nD τ))) :
    (pts c m f : sProp 𝕄) ⊢ anyPts c m := by
  iintro H
  iexists f
  iexact H

/-! ## The body -/

/-- The ghost part of what a device starts with. -/
def Ghost (c : Dev nD) : sProp 𝕄 :=
  iprop(bigSep (Finset.Ico 1 16) (fun o => iprop(dutyTok ER (bCell (pe c o)) 0 (16 - o) ∗ reached ER (bCell (pe c o)) 0)) ∗ bigSep (Finset.Ico 1 16) (fun o => reached ER (cell c 1 (16 - o)) 0) ∗ bigSep (Finset.Ico 1 16) (fun o => reached ER (cell c 3 (16 - o)) 0) ∗ bigSep (Finset.Ico 1 16) (fun o => reached ER (cell c 5 (16 - o)) 0) ∗ bigSep (Finset.Ico 1 16) (fun o => reached ER (cell c 7 (16 - o)) 0) ∗ bigSep (Finset.Ico 1 16) (dt (F := F) 0 c) ∗ bigSep (Finset.Ico 1 16) (dt (F := F) 1 c) ∗ bigSep (Finset.Ico 1 16) (dt (F := F) 2 c) ∗ bigSep (Finset.Ico 1 16) (dt (F := F) 3 c) ∗ (cred (tallyAt (bCell c) () 15) ∗ atPos ER (bCell c) 0 ∅ 0) ∗ bigSep (Finset.Ico 1 16) (fun o => cred (tallyAt (cell c 1 o) () (amt 0))) ∗ bigSep (Finset.Ico 1 16) (fun o => cred (tallyAt (cell c 3 o) () (amt 1))) ∗ bigSep (Finset.Ico 1 16) (fun o => cred (tallyAt (cell c 5 o) () (amt 2))) ∗ bigSep (Finset.Ico 1 16) (fun o => cred (tallyAt (cell c 7 o) () (amt 3))) ∗ ats (F := F) c 0 0 ∗ ats (F := F) c 1 0 ∗ ats (F := F) c 2 0 ∗ ats (F := F) c 3 0 ∗ ats (F := F) c 4 0 ∗ ats (F := F) c 5 0 ∗ ats (F := F) c 6 0 ∗ ats (F := F) c 7 0)

/-- What it starts with in memory: the tokens, router rows and matrices it is given, and scratch buffers. -/
def Mem0 (I : Inp F) (c : Dev nD) : sProp 𝕄 :=
  iprop(pts c mX (I.x c) ∗ pts c mRp (I.rp c) ∗ pts c mW1 (I.W1 c) ∗ pts c mW2 (I.W2 c) ∗ anyPts c mOut ∗ anyPts c mRb ∗ anyPts c mSX ∗ anyPts c mRX ∗ anyPts c mSW ∗ anyPts c mRW ∗ anyPts c mY ∗ anyPts c mRY)

/-- What is left at the end: the memory, with the result in place, and the cells' places. -/
def Mem1 (I : Inp F) (c : Dev nD) : sProp 𝕄 :=
  iprop(pts c mX (I.x c) ∗ pts c mRp (I.rp c) ∗ pts c mW1 (I.W1 c) ∗ pts c mW2 (I.W2 c) ∗ (∃ v, ⌜OutOK I c v⌝ ∗ pts c mOut v) ∗ anyPts c mRb ∗ anyPts c mSX ∗ anyPts c mRX ∗ anyPts c mSW ∗ anyPts c mRW ∗ anyPts c mY ∗ anyPts c mRY)
def Ends (c : Dev nD) : sProp 𝕄 :=
  iprop(atPos ER (bCell c) 1 ∅ 0 ∗ ats (F := F) c 0 1 ∗ ats (F := F) c 1 1 ∗ ats (F := F) c 2 1 ∗ ats (F := F) c 3 1 ∗ ats (F := F) c 4 1 ∗ ats (F := F) c 5 1 ∗ ats (F := F) c 6 1 ∗ ats (F := F) c 7 1)

/-- **The body's run on one device**, up to what follows it. -/
theorem body_run {k : PUnit → Prog (TpuEff nD τ sig (Elt F) Λ₀ .tc) PUnit} {Q : PUnit → sProp 𝕄}
    (hk : iprop(Ctx I K ∗ Owe c 0 ∗ Mem1 I c ∗ Ends c) ⊢ WP c (k ⟨⟩) Q) :
    iprop(Ctx I K ∗ Owe c (Ow c 1 1 1 1 1) ∗ Ghost c ∗ Mem0 I c) ⊢ WP c (cc0_body (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14 >>= k) Q := by
  rw [cc0_body_eq_skeleton]; unfold cc0_body_skel
  rw [k0_part55_eq_skeleton]; unfold k0_part55_skel
  simp only [Prog.bind_assoc]
  refine BI.Entails.trans (Q := iprop(Ctx I K ∗ Owe c (Ow c 1 1 1 1 1) ∗ Sg c 1 ∗ (cred (tallyAt (bCell c) () 15) ∗ atPos ER (bCell c) 0 ∅ 0) ∗ rpKeep I c ∗ anyPts c (rowR c) ∗ restPts (F := F) c ∗ anyPts c (rowRX c) ∗ anyPts c (rowRW c) ∗ anyPts c (rowRY c) ∗ bigSep (Finset.Ico 1 16) (source I 0 c) ∗ bigSep (Finset.Ico 1 16) (dt (F := F) 0 c) ∗ bigSep (Finset.Ico 1 16) (dt (F := F) 1 c) ∗ bigSep (Finset.Ico 1 16) (dt (F := F) 2 c) ∗ bigSep (Finset.Ico 1 16) (dt (F := F) 3 c) ∗ bigSep (Finset.Ico 1 16) (fun o => cred (tallyAt (cell c 1 o) () (amt 0))) ∗ bigSep (Finset.Ico 1 16) (fun o => cred (tallyAt (cell c 3 o) () (amt 1))) ∗ bigSep (Finset.Ico 1 16) (fun o => cred (tallyAt (cell c 5 o) () (amt 2))) ∗ bigSep (Finset.Ico 1 16) (fun o => cred (tallyAt (cell c 7 o) () (amt 3))) ∗ ats (F := F) c 0 0 ∗ ats (F := F) c 1 0 ∗ ats (F := F) c 2 0 ∗ ats (F := F) c 3 0 ∗ ats (F := F) c 4 0 ∗ ats (F := F) c 5 0 ∗ ats (F := F) c 6 0 ∗ ats (F := F) c 7 0 ∗ pts c mX (I.x c) ∗ pts c mW1 (I.W1 c) ∗ pts c mW2 (I.W2 c) ∗ anyPts c mOut ∗ anyPts c mSX ∗ anyPts c mSW ∗ anyPts c mY)) ?_ ?_
  · unfold Ghost Mem0
    show (_ : sProp 𝕄) ⊢ _
    iintro ⟨HC, HO, ⟨HsgT, Hrch0, Hrch1, Hrch2, Hrch3, Hdt0, Hdt1, Hdt2, Hdt3, HBN, Hcr0, Hcr1, Hcr2, Hcr3, Hat0, Hat1, Hat2, Hat3, Hat4, Hat5, Hat6, Hat7⟩, Hx, Hrp, Hw1, Hw2, Hout, HaRb, HaSX, HaRX, HaSW, HaRW, HaY, HaRY⟩
    ihave ⟨HoR, Hp0, Hrest⟩ := (place_split0 c) $$ HaRb
    ihave ⟨HoX, Hp1⟩ := (place_split1 c) $$ HaRX
    ihave ⟨HoW, Hp2⟩ := (place_split2 c) $$ HaRW
    ihave ⟨HoY, Hp3⟩ := (place_split3 c) $$ HaRY
    ihave ⟨HRK, Hs0⟩ := ((rp_lend I c).1) $$ Hrp
    ihave HSg_1 := (sg_gather c) $$ [HsgT Hp0 Hp1 Hp2 Hp3 Hrch0 Hrch1 Hrch2 Hrch3]
    · isplitl [HsgT]; · iexact HsgT
      isplitl [Hp0]; · iexact Hp0
      isplitl [Hp1]; · iexact Hp1
      isplitl [Hp2]; · iexact Hp2
      isplitl [Hp3]; · iexact Hp3
      isplitl [Hrch0]; · iexact Hrch0
      isplitl [Hrch1]; · iexact Hrch1
      isplitl [Hrch2]; · iexact Hrch2
      iexact Hrch3
    isplitl [HC]; · iexact HC
    isplitl [HO]; · iexact HO
    isplitl [HSg_1]; · iexact HSg_1
    isplitl [HBN]; · iexact HBN
    isplitl [HRK]; · iexact HRK
    isplitl [HoR]; · iexact HoR
    isplitl [Hrest]; · iexact Hrest
    isplitl [HoX]; · iexact HoX
    isplitl [HoW]; · iexact HoW
    isplitl [HoY]; · iexact HoY
    isplitl [Hs0]; · iexact Hs0
    isplitl [Hdt0]; · iexact Hdt0
    isplitl [Hdt1]; · iexact Hdt1
    isplitl [Hdt2]; · iexact Hdt2
    isplitl [Hdt3]; · iexact Hdt3
    isplitl [Hcr0]; · iexact Hcr0
    isplitl [Hcr1]; · iexact Hcr1
    isplitl [Hcr2]; · iexact Hcr2
    isplitl [Hcr3]; · iexact Hcr3
    isplitl [Hat0]; · iexact Hat0
    isplitl [Hat1]; · iexact Hat1
    isplitl [Hat2]; · iexact Hat2
    isplitl [Hat3]; · iexact Hat3
    isplitl [Hat4]; · iexact Hat4
    isplitl [Hat5]; · iexact Hat5
    isplitl [Hat6]; · iexact Hat6
    isplitl [Hat7]; · iexact Hat7
    isplitl [Hx]; · iexact Hx
    isplitl [Hw1]; · iexact Hw1
    isplitl [Hw2]; · iexact Hw2
    isplitl [Hout]; · iexact Hout
    isplitl [HaSX]; · iexact HaSX
    isplitl [HaSW]; · iexact HaSW
    iexact HaY
  refine part1 I K c  (fun v2 v24 => ?_)
  refine part2 I K c v2 _ _ (fun ⟨_, _⟩ => ?_)
  refine part3 I K c v2 _ _ (fun _ => ?_)
  refine BI.Entails.trans (Q := iprop(Ctx I K ∗ Owe c (Ow c 16 1 1 1 1) ∗ Snd I 0 c 1 ∗ Wt I 1 c 1 ∗ okPts c (rowR c) (fun w => w = I.rp c) ∗ rpKeep I c ∗ restPts (F := F) c ∗ anyPts c (rowRX c) ∗ anyPts c (rowRW c) ∗ anyPts c (rowRY c) ∗ bigSep (Finset.Ico 1 16) (fun o => cred (tallyAt (cell c 3 o) () (amt 1))) ∗ bigSep (Finset.Ico 1 16) (fun o => cred (tallyAt (cell c 5 o) () (amt 2))) ∗ bigSep (Finset.Ico 1 16) (fun o => cred (tallyAt (cell c 7 o) () (amt 3))) ∗ ats (F := F) c 0 0 ∗ ats (F := F) c 2 0 ∗ ats (F := F) c 3 0 ∗ ats (F := F) c 4 0 ∗ ats (F := F) c 5 0 ∗ ats (F := F) c 6 0 ∗ ats (F := F) c 7 0 ∗ pts c mX (I.x c) ∗ pts c mW1 (I.W1 c) ∗ pts c mW2 (I.W2 c) ∗ anyPts c mOut ∗ anyPts c mSX ∗ anyPts c mSW ∗ anyPts c mY ∗ atPos ER (bCell c) 1 ∅ 0 ∗ bigSep (Finset.Ico 1 16) (ts (F := F) 1 c) ∗ bigSep (Finset.Ico 1 16) (ts (F := F) 2 c) ∗ bigSep (Finset.Ico 1 16) (ts (F := F) 3 c))) ?_ ?_
  · show (_ : sProp 𝕄) ⊢ _
    iintro ⟨HC, HO, HpR, HRK, ⟨Hbp, Hbn⟩, Hrest, HoX, HoW, HoY, Hs0, Hdt0, Hdt1, Hdt2, Hdt3, Hcr0, Hcr1, Hcr2, Hcr3, Hat0, Hat1, Hat2, Hat3, Hat4, Hat5, Hat6, Hat7, Hx, Hw1, Hw2, Hout, HaSX, HaSW, HaY⟩
    ihave ⟨Hts0, Hts1, Hts2, Hts3⟩ := (ts_gather c) $$ [Hbp Hdt0 Hdt1 Hdt2 Hdt3]
    · isplitl [Hbp]; · iexact Hbp
      isplitl [Hdt0]; · iexact Hdt0
      isplitl [Hdt1]; · iexact Hdt1
      isplitl [Hdt2]; · iexact Hdt2
      iexact Hdt3
    ihave HSnd0_1 := (Snd_intro I c 0) $$ [Hts0 Hs0]
    · isplitl [Hts0]; · iexact Hts0
      iexact Hs0
    ihave HWt1_1 := (Wt_intro I c 1 0 rfl) $$ [Hcr0 Hat1]
    · isplitl [Hcr0]; · iexact Hcr0
      iexact Hat1
    isplitl [HC]; · iexact HC
    isplitl [HO]; · iexact HO
    isplitl [HSnd0_1]; · iexact HSnd0_1
    isplitl [HWt1_1]; · iexact HWt1_1
    isplitl [HpR]; · iexact HpR
    isplitl [HRK]; · iexact HRK
    isplitl [Hrest]; · iexact Hrest
    isplitl [HoX]; · iexact HoX
    isplitl [HoW]; · iexact HoW
    isplitl [HoY]; · iexact HoY
    isplitl [Hcr1]; · iexact Hcr1
    isplitl [Hcr2]; · iexact Hcr2
    isplitl [Hcr3]; · iexact Hcr3
    isplitl [Hat0]; · iexact Hat0
    isplitl [Hat2]; · iexact Hat2
    isplitl [Hat3]; · iexact Hat3
    isplitl [Hat4]; · iexact Hat4
    isplitl [Hat5]; · iexact Hat5
    isplitl [Hat6]; · iexact Hat6
    isplitl [Hat7]; · iexact Hat7
    isplitl [Hx]; · iexact Hx
    isplitl [Hw1]; · iexact Hw1
    isplitl [Hw2]; · iexact Hw2
    isplitl [Hout]; · iexact Hout
    isplitl [HaSX]; · iexact HaSX
    isplitl [HaSW]; · iexact HaSW
    isplitl [HaY]; · iexact HaY
    isplitl [Hbn]; · iexact Hbn
    isplitl [Hts1]; · iexact Hts1
    isplitl [Hts2]; · iexact Hts2
    iexact Hts3
  refine part4 I K c v2 _ (fun _ => ?_)
  refine part5 I K c v2 (fun _ => ?_)
  refine part6 I K c v2 _ (fun _ => ?_)
  refine part7 I K c v2 _ (fun _ => ?_)
  refine part8 I K c v2 (fun _ => ?_)
  refine BI.Entails.trans (Q := iprop(Ctx I K ∗ Owe c (Ow c 16 16 1 1 1) ∗ Wt I 1 c 3 ∗ okPts c (rowR c) (fun w => w = I.rp c) ∗ restPts (F := F) c ∗ pts c mX (I.x c) ∗ rpKeep I c ∗ anyPts c (rowRX c) ∗ anyPts c (rowRW c) ∗ anyPts c (rowRY c) ∗ bigSep (Finset.Ico 1 16) (fun o => cred (tallyAt (cell c 3 o) () (amt 1))) ∗ bigSep (Finset.Ico 1 16) (fun o => cred (tallyAt (cell c 5 o) () (amt 2))) ∗ bigSep (Finset.Ico 1 16) (fun o => cred (tallyAt (cell c 7 o) () (amt 3))) ∗ ats (F := F) c 2 0 ∗ ats (F := F) c 3 0 ∗ ats (F := F) c 4 0 ∗ ats (F := F) c 5 0 ∗ ats (F := F) c 6 0 ∗ ats (F := F) c 7 0 ∗ pts c mW1 (I.W1 c) ∗ pts c mW2 (I.W2 c) ∗ anyPts c mOut ∗ anyPts c mSX ∗ anyPts c mSW ∗ anyPts c mY ∗ atPos ER (bCell c) 1 ∅ 0 ∗ bigSep (Finset.Ico 1 16) (ts (F := F) 1 c) ∗ bigSep (Finset.Ico 1 16) (ts (F := F) 2 c) ∗ bigSep (Finset.Ico 1 16) (ts (F := F) 3 c) ∗ Wt I 0 c 1)) ?_ ?_
  · show (_ : sProp 𝕄) ⊢ _
    iintro ⟨HC, HO, HSnd0_16, HWt1_3, HpR, HRK, Hrest, HoX, HoW, HoY, Hcr1, Hcr2, Hcr3, Hat0, Hat2, Hat3, Hat4, Hat5, Hat6, Hat7, Hx, Hw1, Hw2, Hout, HaSX, HaSW, HaY, Hbn, Hts1, Hts2, Hts3⟩
    ihave Hsc0 := (Snd_done I c 0) $$ HSnd0_16
    ihave HWt0_1 := (Wt_intro I c 0 0 rfl) $$ [Hsc0 Hat0]
    · isplitl [Hsc0]; · iexact Hsc0
      iexact Hat0
    isplitl [HC]; · iexact HC
    isplitl [HO]; · iexact HO
    isplitl [HWt1_3]; · iexact HWt1_3
    isplitl [HpR]; · iexact HpR
    isplitl [Hrest]; · iexact Hrest
    isplitl [Hx]; · iexact Hx
    isplitl [HRK]; · iexact HRK
    isplitl [HoX]; · iexact HoX
    isplitl [HoW]; · iexact HoW
    isplitl [HoY]; · iexact HoY
    isplitl [Hcr1]; · iexact Hcr1
    isplitl [Hcr2]; · iexact Hcr2
    isplitl [Hcr3]; · iexact Hcr3
    isplitl [Hat2]; · iexact Hat2
    isplitl [Hat3]; · iexact Hat3
    isplitl [Hat4]; · iexact Hat4
    isplitl [Hat5]; · iexact Hat5
    isplitl [Hat6]; · iexact Hat6
    isplitl [Hat7]; · iexact Hat7
    isplitl [Hw1]; · iexact Hw1
    isplitl [Hw2]; · iexact Hw2
    isplitl [Hout]; · iexact Hout
    isplitl [HaSX]; · iexact HaSX
    isplitl [HaSW]; · iexact HaSW
    isplitl [HaY]; · iexact HaY
    isplitl [Hbn]; · iexact Hbn
    isplitl [Hts1]; · iexact Hts1
    isplitl [Hts2]; · iexact Hts2
    isplitl [Hts3]; · iexact Hts3
    iexact HWt0_1
  refine part9 I K c v2 _ (fun _ => ?_)
  refine part10 I K c v2 _ (fun _ => ?_)
  refine part11 I K c v2 (fun _ => ?_)
  refine part12 I K c v2 (fun rb hrb => ?_)
  refine BI.Entails.trans (Q := iprop(Ctx I K ∗ Owe c (Ow c 16 16 1 1 1) ∗ anyPts c mSX ∗ anyPts c mSW ∗ anyPts c (rowRX c) ∗ pts c mRb rb ∗ pts c mX (I.x c) ∗ ats (F := F) c 1 1 ∗ rpKeep I c ∗ anyPts c (rowRW c) ∗ anyPts c (rowRY c) ∗ bigSep (Finset.Ico 1 16) (fun o => cred (tallyAt (cell c 3 o) () (amt 1))) ∗ bigSep (Finset.Ico 1 16) (fun o => cred (tallyAt (cell c 5 o) () (amt 2))) ∗ bigSep (Finset.Ico 1 16) (fun o => cred (tallyAt (cell c 7 o) () (amt 3))) ∗ ats (F := F) c 2 0 ∗ ats (F := F) c 3 0 ∗ ats (F := F) c 4 0 ∗ ats (F := F) c 5 0 ∗ ats (F := F) c 6 0 ∗ ats (F := F) c 7 0 ∗ pts c mW1 (I.W1 c) ∗ pts c mW2 (I.W2 c) ∗ anyPts c mOut ∗ anyPts c mY ∗ atPos ER (bCell c) 1 ∅ 0 ∗ bigSep (Finset.Ico 1 16) (ts (F := F) 1 c) ∗ bigSep (Finset.Ico 1 16) (ts (F := F) 2 c) ∗ bigSep (Finset.Ico 1 16) (ts (F := F) 3 c) ∗ Wt I 0 c 1)) ?_ ?_
  · show (_ : sProp 𝕄) ⊢ _
    iintro ⟨HC, HO, Hrb, Hx, Han1, HRK, HoX, HoW, HoY, Hcr1, Hcr2, Hcr3, Hat2, Hat3, Hat4, Hat5, Hat6, Hat7, Hw1, Hw2, Hout, HaSX, HaSW, HaY, Hbn, Hts1, Hts2, Hts3, HWt0_1⟩
    isplitl [HC]; · iexact HC
    isplitl [HO]; · iexact HO
    isplitl [HaSX]; · iexact HaSX
    isplitl [HaSW]; · iexact HaSW
    isplitl [HoX]; · iexact HoX
    isplitl [Hrb]; · iexact Hrb
    isplitl [Hx]; · iexact Hx
    isplitl [Han1]; · iexact Han1
    isplitl [HRK]; · iexact HRK
    isplitl [HoW]; · iexact HoW
    isplitl [HoY]; · iexact HoY
    isplitl [Hcr1]; · iexact Hcr1
    isplitl [Hcr2]; · iexact Hcr2
    isplitl [Hcr3]; · iexact Hcr3
    isplitl [Hat2]; · iexact Hat2
    isplitl [Hat3]; · iexact Hat3
    isplitl [Hat4]; · iexact Hat4
    isplitl [Hat5]; · iexact Hat5
    isplitl [Hat6]; · iexact Hat6
    isplitl [Hat7]; · iexact Hat7
    isplitl [Hw1]; · iexact Hw1
    isplitl [Hw2]; · iexact Hw2
    isplitl [Hout]; · iexact Hout
    isplitl [HaY]; · iexact HaY
    isplitl [Hbn]; · iexact Hbn
    isplitl [Hts1]; · iexact Hts1
    isplitl [Hts2]; · iexact Hts2
    isplitl [Hts3]; · iexact Hts3
    iexact HWt0_1
  dsimp only
  refine part13 c _ _ _ ?_
  dsimp only
  refine part14 I K c v2 _ _ _ _ _ _ _ (?_)
  refine (show iprop(Ctx I K ∗ Owe c (Ow c 16 16 1 1 1) ∗ pts c mSX (fSX rb (I.x c)) ∗ pts c mSW (fSW rb (I.x c)) ∗ okPts c (rowRX c) (fun w => w = (rowSX c).view.read (Elt F) (fSX rb (I.x c))) ∗ pts c mRb rb ∗ pts c mX (I.x c) ∗ ats (F := F) c 1 1 ∗ rpKeep I c ∗ anyPts c (rowRW c) ∗ anyPts c (rowRY c) ∗ bigSep (Finset.Ico 1 16) (fun o => cred (tallyAt (cell c 3 o) () (amt 1))) ∗ bigSep (Finset.Ico 1 16) (fun o => cred (tallyAt (cell c 5 o) () (amt 2))) ∗ bigSep (Finset.Ico 1 16) (fun o => cred (tallyAt (cell c 7 o) () (amt 3))) ∗ ats (F := F) c 2 0 ∗ ats (F := F) c 3 0 ∗ ats (F := F) c 4 0 ∗ ats (F := F) c 5 0 ∗ ats (F := F) c 6 0 ∗ ats (F := F) c 7 0 ∗ pts c mW1 (I.W1 c) ∗ pts c mW2 (I.W2 c) ∗ anyPts c mOut ∗ anyPts c mY ∗ atPos ER (bCell c) 1 ∅ 0 ∗ bigSep (Finset.Ico 1 16) (ts (F := F) 1 c) ∗ bigSep (Finset.Ico 1 16) (ts (F := F) 2 c) ∗ bigSep (Finset.Ico 1 16) (ts (F := F) 3 c) ∗ Wt I 0 c 1) ⊢ _ from ?_)
  refine BI.Entails.trans (Q := iprop(Ctx I K ∗ Owe c (Ow c 16 16 1 1 1) ∗ Snd I 1 c 1 ∗ bigSep (Finset.Ico 1 16) (ts (F := F) 2 c) ∗ pts c mSW (fSW rb (I.x c)) ∗ anyPts c (rowRW c) ∗ pts c mRb rb ∗ pts c mX (I.x c) ∗ ats (F := F) c 1 1 ∗ rpKeep I c ∗ anyPts c (rowRY c) ∗ ats (F := F) c 2 0 ∗ ats (F := F) c 4 0 ∗ ats (F := F) c 6 0 ∗ pts c mW1 (I.W1 c) ∗ pts c mW2 (I.W2 c) ∗ anyPts c mOut ∗ anyPts c mY ∗ atPos ER (bCell c) 1 ∅ 0 ∗ bigSep (Finset.Ico 1 16) (ts (F := F) 3 c) ∗ Wt I 0 c 1 ∗ anyPts c (rowSX c) ∗ okPts c (rowRX c) (SXrow I c c) ∗ Wt I 3 c 1 ∗ Wt I 5 c 1 ∗ Wt I 7 c 1)) ?_ ?_
  · show (_ : sProp 𝕄) ⊢ _
    iintro ⟨HC, HO, HSX, HSW, HpX1, Hrb, Hx, Han1, HRK, HoW, HoY, Hcr1, Hcr2, Hcr3, Hat2, Hat3, Hat4, Hat5, Hat6, Hat7, Hw1, Hw2, Hout, HaY, Hbn, Hts1, Hts2, Hts3, HWt0_1⟩
    ihave ⟨HrSX, Hs1⟩ := (source_split1 I c (fSX rb (I.x c)) ⟨rb, hrb, rfl⟩) $$ HSX
    ihave HSnd1_1 := (Snd_intro I c 1) $$ [Hts1 Hs1]
    · isplitl [Hts1]; · iexact Hts1
      iexact Hs1
    ihave HpX := (own_row I c rb hrb) $$ HpX1
    ihave HWt3_1 := (Wt_intro I c 3 1 rfl) $$ [Hcr1 Hat3]
    · isplitl [Hcr1]; · iexact Hcr1
      iexact Hat3
    ihave HWt5_1 := (Wt_intro I c 5 2 rfl) $$ [Hcr2 Hat5]
    · isplitl [Hcr2]; · iexact Hcr2
      iexact Hat5
    ihave HWt7_1 := (Wt_intro I c 7 3 rfl) $$ [Hcr3 Hat7]
    · isplitl [Hcr3]; · iexact Hcr3
      iexact Hat7
    isplitl [HC]; · iexact HC
    isplitl [HO]; · iexact HO
    isplitl [HSnd1_1]; · iexact HSnd1_1
    isplitl [Hts2]; · iexact Hts2
    isplitl [HSW]; · iexact HSW
    isplitl [HoW]; · iexact HoW
    isplitl [Hrb]; · iexact Hrb
    isplitl [Hx]; · iexact Hx
    isplitl [Han1]; · iexact Han1
    isplitl [HRK]; · iexact HRK
    isplitl [HoY]; · iexact HoY
    isplitl [Hat2]; · iexact Hat2
    isplitl [Hat4]; · iexact Hat4
    isplitl [Hat6]; · iexact Hat6
    isplitl [Hw1]; · iexact Hw1
    isplitl [Hw2]; · iexact Hw2
    isplitl [Hout]; · iexact Hout
    isplitl [HaY]; · iexact HaY
    isplitl [Hbn]; · iexact Hbn
    isplitl [Hts3]; · iexact Hts3
    isplitl [HWt0_1]; · iexact HWt0_1
    isplitl [HrSX]; · iexact HrSX
    isplitl [HpX]; · iexact HpX
    isplitl [HWt3_1]; · iexact HWt3_1
    isplitl [HWt5_1]; · iexact HWt5_1
    iexact HWt7_1
  refine part15 I K c v2 _ ⟨rb, hrb, rfl⟩ (fun _ => ?_)
  refine BI.Entails.trans (Q := iprop(Ctx I K ∗ Owe c (Ow c 16 16 2 2 1) ∗ Snd I 1 c 2 ∗ Snd I 2 c 2 ∗ pts c mW1 (I.W1 c) ∗ pts c mW2 (I.W2 c) ∗ anyPts c (rowSW c) ∗ okPts c (rowRW c) (SWrow I c c) ∗ pts c mRb rb ∗ pts c mX (I.x c) ∗ ats (F := F) c 1 1 ∗ rpKeep I c ∗ anyPts c (rowRY c) ∗ ats (F := F) c 2 0 ∗ ats (F := F) c 4 0 ∗ ats (F := F) c 6 0 ∗ anyPts c mOut ∗ anyPts c mY ∗ atPos ER (bCell c) 1 ∅ 0 ∗ bigSep (Finset.Ico 1 16) (ts (F := F) 3 c) ∗ Wt I 0 c 1 ∗ anyPts c (rowSX c) ∗ okPts c (rowRX c) (SXrow I c c) ∗ Wt I 3 c 1 ∗ Wt I 5 c 1 ∗ Wt I 7 c 1)) ?_ ?_
  · show (_ : sProp 𝕄) ⊢ _
    iintro ⟨HC, HO, HSnd1_2, HSnd2_2, HrSW, HpW, Hrb, Hx, Han1, HRK, HoY, Hat2, Hat4, Hat6, Hw1, Hw2, Hout, HaY, Hbn, Hts3, HWt0_1, HrSX, HpX, HWt3_1, HWt5_1, HWt7_1⟩
    isplitl [HC]; · iexact HC
    isplitl [HO]; · iexact HO
    isplitl [HSnd1_2]; · iexact HSnd1_2
    isplitl [HSnd2_2]; · iexact HSnd2_2
    isplitl [Hw1]; · iexact Hw1
    isplitl [Hw2]; · iexact Hw2
    isplitl [HrSW]; · iexact HrSW
    isplitl [HpW]; · iexact HpW
    isplitl [Hrb]; · iexact Hrb
    isplitl [Hx]; · iexact Hx
    isplitl [Han1]; · iexact Han1
    isplitl [HRK]; · iexact HRK
    isplitl [HoY]; · iexact HoY
    isplitl [Hat2]; · iexact Hat2
    isplitl [Hat4]; · iexact Hat4
    isplitl [Hat6]; · iexact Hat6
    isplitl [Hout]; · iexact Hout
    isplitl [HaY]; · iexact HaY
    isplitl [Hbn]; · iexact Hbn
    isplitl [Hts3]; · iexact Hts3
    isplitl [HWt0_1]; · iexact HWt0_1
    isplitl [HrSX]; · iexact HrSX
    isplitl [HpX]; · iexact HpX
    isplitl [HWt3_1]; · iexact HWt3_1
    isplitl [HWt5_1]; · iexact HWt5_1
    iexact HWt7_1
  refine part16 I K c v2 _ (fun _ => ?_)
  refine part17 I K c v2 (fun _ => ?_)
  refine part18 I K c v2 _ (fun ⟨_, _⟩ => ?_)
  refine part19 I K c v2 _ _ (fun _ => ?_)
  refine part20 I K c v2 _ (fun ⟨_, _, _⟩ => ?_)
  refine part21 I K c v2 _ _ _ (fun _ => ?_)
  refine part22 I K c v2 (fun _ => ?_)
  refine part23 I K c v2 _ (fun _ => ?_)
  refine part24 I K c v2 (?_)
  refine BI.Entails.trans (Q := iprop(Ctx I K ∗ Owe c (Ow c 16 16 16 16 1) ∗ Wt I 3 c 1 ∗ Wt I 5 c 1 ∗ pts c mW2 (I.W2 c) ∗ okPts c (rowRX c) (SXrow I c c) ∗ okPts c (rowRW c) (SWrow I c c) ∗ pts c mW1 (I.W1 c) ∗ anyPts c (rowSW c) ∗ pts c mRb rb ∗ pts c mX (I.x c) ∗ ats (F := F) c 1 1 ∗ rpKeep I c ∗ anyPts c (rowRY c) ∗ ats (F := F) c 6 0 ∗ anyPts c mOut ∗ anyPts c mY ∗ atPos ER (bCell c) 1 ∅ 0 ∗ bigSep (Finset.Ico 1 16) (ts (F := F) 3 c) ∗ Wt I 0 c 1 ∗ anyPts c (rowSX c) ∗ Wt I 7 c 1 ∗ Wt I 2 c 1 ∗ Wt I 4 c 1)) ?_ ?_
  · show (_ : sProp 𝕄) ⊢ _
    iintro ⟨HC, HO, HSnd1_16, HSnd2_16, Hw1, Hw2, HrSW, HpW, Hrb, Hx, Han1, HRK, HoY, Hat2, Hat4, Hat6, Hout, HaY, Hbn, Hts3, HWt0_1, HrSX, HpX, HWt3_1, HWt5_1, HWt7_1⟩
    ihave Hsc1 := (Snd_done I c 1) $$ HSnd1_16
    ihave HWt2_1 := (Wt_intro I c 2 1 rfl) $$ [Hsc1 Hat2]
    · isplitl [Hsc1]; · iexact Hsc1
      iexact Hat2
    ihave Hsc2 := (Snd_done I c 2) $$ HSnd2_16
    ihave HWt4_1 := (Wt_intro I c 4 2 rfl) $$ [Hsc2 Hat4]
    · isplitl [Hsc2]; · iexact Hsc2
      iexact Hat4
    isplitl [HC]; · iexact HC
    isplitl [HO]; · iexact HO
    isplitl [HWt3_1]; · iexact HWt3_1
    isplitl [HWt5_1]; · iexact HWt5_1
    isplitl [Hw2]; · iexact Hw2
    isplitl [HpX]; · iexact HpX
    isplitl [HpW]; · iexact HpW
    isplitl [Hw1]; · iexact Hw1
    isplitl [HrSW]; · iexact HrSW
    isplitl [Hrb]; · iexact Hrb
    isplitl [Hx]; · iexact Hx
    isplitl [Han1]; · iexact Han1
    isplitl [HRK]; · iexact HRK
    isplitl [HoY]; · iexact HoY
    isplitl [Hat6]; · iexact Hat6
    isplitl [Hout]; · iexact Hout
    isplitl [HaY]; · iexact HaY
    isplitl [Hbn]; · iexact Hbn
    isplitl [Hts3]; · iexact Hts3
    isplitl [HWt0_1]; · iexact HWt0_1
    isplitl [HrSX]; · iexact HrSX
    isplitl [HWt7_1]; · iexact HWt7_1
    isplitl [HWt2_1]; · iexact HWt2_1
    iexact HWt4_1
  refine part25 I K c v2 (fun _ => ?_)
  refine BI.Entails.trans (Q := iprop(Ctx I K ∗ Owe c (Ow c 16 16 16 16 1) ∗ Wt I 3 c 3 ∗ Wt I 5 c 2 ∗ okPts c (rowRX c) (SXrow I c c) ∗ okPts c (rowRW c) (SWrow I c c) ∗ pts c mW2 (I.W2 c) ∗ pts c mW1 (I.W1 c) ∗ anyPts c (rowSW c) ∗ pts c mRb rb ∗ pts c mX (I.x c) ∗ ats (F := F) c 1 1 ∗ rpKeep I c ∗ anyPts c (rowRY c) ∗ ats (F := F) c 6 0 ∗ anyPts c mOut ∗ anyPts c mY ∗ atPos ER (bCell c) 1 ∅ 0 ∗ bigSep (Finset.Ico 1 16) (ts (F := F) 3 c) ∗ Wt I 0 c 1 ∗ anyPts c (rowSX c) ∗ Wt I 7 c 1 ∗ Wt I 2 c 1 ∗ Wt I 4 c 1)) ?_ ?_
  · show (_ : sProp 𝕄) ⊢ _
    iintro ⟨HC, HO, HWt3_3, HWt5_2, Hw2, HpX, HpW, Hw1, HrSW, Hrb, Hx, Han1, HRK, HoY, Hat6, Hout, HaY, Hbn, Hts3, HWt0_1, HrSX, HWt7_1, HWt2_1, HWt4_1⟩
    isplitl [HC]; · iexact HC
    isplitl [HO]; · iexact HO
    isplitl [HWt3_3]; · iexact HWt3_3
    isplitl [HWt5_2]; · iexact HWt5_2
    isplitl [HpX]; · iexact HpX
    isplitl [HpW]; · iexact HpW
    isplitl [Hw2]; · iexact Hw2
    isplitl [Hw1]; · iexact Hw1
    isplitl [HrSW]; · iexact HrSW
    isplitl [Hrb]; · iexact Hrb
    isplitl [Hx]; · iexact Hx
    isplitl [Han1]; · iexact Han1
    isplitl [HRK]; · iexact HRK
    isplitl [HoY]; · iexact HoY
    isplitl [Hat6]; · iexact Hat6
    isplitl [Hout]; · iexact Hout
    isplitl [HaY]; · iexact HaY
    isplitl [Hbn]; · iexact Hbn
    isplitl [Hts3]; · iexact Hts3
    isplitl [HWt0_1]; · iexact HWt0_1
    isplitl [HrSX]; · iexact HrSX
    isplitl [HWt7_1]; · iexact HWt7_1
    isplitl [HWt2_1]; · iexact HWt2_1
    iexact HWt4_1
  refine part26 I K c v2 _ (fun _ => ?_)
  refine part27 I K c v2 _ (fun ⟨_, _⟩ => ?_)
  refine part28 I K c v2 _ _ (fun _ => ?_)
  refine part29 I K c v2 (fun _ => ?_)
  refine part30 I K c v2 (fun _ => ?_)
  refine part31 I K c v2 _ (fun ⟨_, _, _⟩ => ?_)
  refine part32 I K c v2 _ _ _ (fun _ => ?_)
  refine part33 I K c v2 _ _ _ (fun X W hX hW => ?_)
  refine BI.Entails.trans (Q := iprop(Ctx I K ∗ Owe c (Ow c 16 16 16 16 1) ∗ bigSep (Finset.Ico 1 16) (ts (F := F) 3 c) ∗ anyPts c mY ∗ anyPts c (rowRY c) ∗ pts c mRX X ∗ pts c mRW W ∗ ats (F := F) c 3 1 ∗ ats (F := F) c 5 1 ∗ pts c mW2 (I.W2 c) ∗ pts c mW1 (I.W1 c) ∗ anyPts c (rowSW c) ∗ pts c mRb rb ∗ pts c mX (I.x c) ∗ ats (F := F) c 1 1 ∗ rpKeep I c ∗ ats (F := F) c 6 0 ∗ anyPts c mOut ∗ atPos ER (bCell c) 1 ∅ 0 ∗ Wt I 0 c 1 ∗ anyPts c (rowSX c) ∗ Wt I 7 c 1 ∗ Wt I 2 c 1 ∗ Wt I 4 c 1)) ?_ ?_
  · show (_ : sProp 𝕄) ⊢ _
    iintro ⟨HC, HO, HRX, HRW, Han3, Han5, Hw2, Hw1, HrSW, Hrb, Hx, Han1, HRK, HoY, Hat6, Hout, HaY, Hbn, Hts3, HWt0_1, HrSX, HWt7_1, HWt2_1, HWt4_1⟩
    isplitl [HC]; · iexact HC
    isplitl [HO]; · iexact HO
    isplitl [Hts3]; · iexact Hts3
    isplitl [HaY]; · iexact HaY
    isplitl [HoY]; · iexact HoY
    isplitl [HRX]; · iexact HRX
    isplitl [HRW]; · iexact HRW
    isplitl [Han3]; · iexact Han3
    isplitl [Han5]; · iexact Han5
    isplitl [Hw2]; · iexact Hw2
    isplitl [Hw1]; · iexact Hw1
    isplitl [HrSW]; · iexact HrSW
    isplitl [Hrb]; · iexact Hrb
    isplitl [Hx]; · iexact Hx
    isplitl [Han1]; · iexact Han1
    isplitl [HRK]; · iexact HRK
    isplitl [Hat6]; · iexact Hat6
    isplitl [Hout]; · iexact Hout
    isplitl [Hbn]; · iexact Hbn
    isplitl [HWt0_1]; · iexact HWt0_1
    isplitl [HrSX]; · iexact HrSX
    isplitl [HWt7_1]; · iexact HWt7_1
    isplitl [HWt2_1]; · iexact HWt2_1
    iexact HWt4_1
  refine part34 I K c v2 _ _ _ _ _ ⟨X, W, hX, hW, rfl⟩ (fun _ => ?_)
  refine part35 I K c v2 _ (fun _ => ?_)
  refine part36 I K c v2 _ (fun _ => ?_)
  refine part37 I K c v2 _ (fun _ => ?_)
  refine part38 I K c v2 (fun _ => ?_)
  refine part39 I K c v2 (fun _ => ?_)
  refine BI.Entails.trans (Q := iprop(Ctx I K ∗ Owe c (Ow c 16 16 16 16 16) ∗ Wt I 7 c 1 ∗ Wt I 0 c 1 ∗ okPts c (rowRY c) (Yrow I c c) ∗ anyPts c mOut ∗ anyPts c (rowY c) ∗ pts c mRX X ∗ pts c mRW W ∗ ats (F := F) c 3 1 ∗ ats (F := F) c 5 1 ∗ pts c mW2 (I.W2 c) ∗ pts c mW1 (I.W1 c) ∗ anyPts c (rowSW c) ∗ pts c mRb rb ∗ pts c mX (I.x c) ∗ ats (F := F) c 1 1 ∗ rpKeep I c ∗ atPos ER (bCell c) 1 ∅ 0 ∗ anyPts c (rowSX c) ∗ Wt I 2 c 1 ∗ Wt I 4 c 1 ∗ Wt I 6 c 1)) ?_ ?_
  · show (_ : sProp 𝕄) ⊢ _
    iintro ⟨HC, HO, HSnd3_16, HrY, HpY, HRX, HRW, Han3, Han5, Hw2, Hw1, HrSW, Hrb, Hx, Han1, HRK, Hat6, Hout, Hbn, HWt0_1, HrSX, HWt7_1, HWt2_1, HWt4_1⟩
    ihave Hsc3 := (Snd_done I c 3) $$ HSnd3_16
    ihave HWt6_1 := (Wt_intro I c 6 3 rfl) $$ [Hsc3 Hat6]
    · isplitl [Hsc3]; · iexact Hsc3
      iexact Hat6
    isplitl [HC]; · iexact HC
    isplitl [HO]; · iexact HO
    isplitl [HWt7_1]; · iexact HWt7_1
    isplitl [HWt0_1]; · iexact HWt0_1
    isplitl [HpY]; · iexact HpY
    isplitl [Hout]; · iexact Hout
    isplitl [HrY]; · iexact HrY
    isplitl [HRX]; · iexact HRX
    isplitl [HRW]; · iexact HRW
    isplitl [Han3]; · iexact Han3
    isplitl [Han5]; · iexact Han5
    isplitl [Hw2]; · iexact Hw2
    isplitl [Hw1]; · iexact Hw1
    isplitl [HrSW]; · iexact HrSW
    isplitl [Hrb]; · iexact Hrb
    isplitl [Hx]; · iexact Hx
    isplitl [Han1]; · iexact Han1
    isplitl [HRK]; · iexact HRK
    isplitl [Hbn]; · iexact Hbn
    isplitl [HrSX]; · iexact HrSX
    isplitl [HWt2_1]; · iexact HWt2_1
    isplitl [HWt4_1]; · iexact HWt4_1
    iexact HWt6_1
  refine part40 I K c v2 (fun _ => ?_)
  refine part41 I K c v2 (fun _ => ?_)
  refine part42 I K c v2 _ (fun _ => ?_)
  refine part43 I K c v2 _ (fun ⟨_, _⟩ => ?_)
  refine part44 I K c v2 _ _ _ (fun _ Y hY => ?_)
  refine part45 I K c  (fun _ => ?_)
  refine part46 I K c  (fun _ => ?_)
  refine BI.Entails.trans (Q := iprop(Ctx I K ∗ Owe c (Ow c 16 16 16 16 16) ∗ Wt I 2 c 1 ∗ Wt I 4 c 1 ∗ Wt I 0 c 16 ∗ pts c mRY Y ∗ pts c mOut (k0_pay25 (fP rb (I.x c)) Y) ∗ ats (F := F) c 7 1 ∗ anyPts c (rowY c) ∗ pts c mRX X ∗ pts c mRW W ∗ ats (F := F) c 3 1 ∗ ats (F := F) c 5 1 ∗ pts c mW2 (I.W2 c) ∗ pts c mW1 (I.W1 c) ∗ anyPts c (rowSW c) ∗ pts c mRb rb ∗ pts c mX (I.x c) ∗ ats (F := F) c 1 1 ∗ rpKeep I c ∗ atPos ER (bCell c) 1 ∅ 0 ∗ anyPts c (rowSX c) ∗ Wt I 6 c 1)) ?_ ?_
  · show (_ : sProp 𝕄) ⊢ _
    iintro ⟨HC, HO, HWt0_16, HRY, HoutD, Han7, HrY, HRX, HRW, Han3, Han5, Hw2, Hw1, HrSW, Hrb, Hx, Han1, HRK, Hbn, HrSX, HWt2_1, HWt4_1, HWt6_1⟩
    isplitl [HC]; · iexact HC
    isplitl [HO]; · iexact HO
    isplitl [HWt2_1]; · iexact HWt2_1
    isplitl [HWt4_1]; · iexact HWt4_1
    isplitl [HWt0_16]; · iexact HWt0_16
    isplitl [HRY]; · iexact HRY
    isplitl [HoutD]; · iexact HoutD
    isplitl [Han7]; · iexact Han7
    isplitl [HrY]; · iexact HrY
    isplitl [HRX]; · iexact HRX
    isplitl [HRW]; · iexact HRW
    isplitl [Han3]; · iexact Han3
    isplitl [Han5]; · iexact Han5
    isplitl [Hw2]; · iexact Hw2
    isplitl [Hw1]; · iexact Hw1
    isplitl [HrSW]; · iexact HrSW
    isplitl [Hrb]; · iexact Hrb
    isplitl [Hx]; · iexact Hx
    isplitl [Han1]; · iexact Han1
    isplitl [HRK]; · iexact HRK
    isplitl [Hbn]; · iexact Hbn
    isplitl [HrSX]; · iexact HrSX
    iexact HWt6_1
  refine part47 I K c  (fun _ => ?_)
  refine part48 I K c  (fun _ => ?_)
  refine part49 I K c  (fun _ => ?_)
  refine part50 I K c  (fun _ => ?_)
  refine part51 I K c  (fun _ => ?_)
  refine part52 I K c  (fun _ => ?_)
  refine BI.Entails.trans (Q := iprop(Ctx I K ∗ Owe c (Ow c 16 16 16 16 16) ∗ Wt I 6 c 1 ∗ Wt I 2 c 16 ∗ Wt I 4 c 16 ∗ Wt I 0 c 16 ∗ pts c mRY Y ∗ pts c mOut (k0_pay25 (fP rb (I.x c)) Y) ∗ ats (F := F) c 7 1 ∗ anyPts c (rowY c) ∗ pts c mRX X ∗ pts c mRW W ∗ ats (F := F) c 3 1 ∗ ats (F := F) c 5 1 ∗ pts c mW2 (I.W2 c) ∗ pts c mW1 (I.W1 c) ∗ anyPts c (rowSW c) ∗ pts c mRb rb ∗ pts c mX (I.x c) ∗ ats (F := F) c 1 1 ∗ rpKeep I c ∗ atPos ER (bCell c) 1 ∅ 0 ∗ anyPts c (rowSX c))) ?_ ?_
  · show (_ : sProp 𝕄) ⊢ _
    iintro ⟨HC, HO, HWt2_16, HWt4_16, HWt0_16, HRY, HoutD, Han7, HrY, HRX, HRW, Han3, Han5, Hw2, Hw1, HrSW, Hrb, Hx, Han1, HRK, Hbn, HrSX, HWt6_1⟩
    isplitl [HC]; · iexact HC
    isplitl [HO]; · iexact HO
    isplitl [HWt6_1]; · iexact HWt6_1
    isplitl [HWt2_16]; · iexact HWt2_16
    isplitl [HWt4_16]; · iexact HWt4_16
    isplitl [HWt0_16]; · iexact HWt0_16
    isplitl [HRY]; · iexact HRY
    isplitl [HoutD]; · iexact HoutD
    isplitl [Han7]; · iexact Han7
    isplitl [HrY]; · iexact HrY
    isplitl [HRX]; · iexact HRX
    isplitl [HRW]; · iexact HRW
    isplitl [Han3]; · iexact Han3
    isplitl [Han5]; · iexact Han5
    isplitl [Hw2]; · iexact Hw2
    isplitl [Hw1]; · iexact Hw1
    isplitl [HrSW]; · iexact HrSW
    isplitl [Hrb]; · iexact Hrb
    isplitl [Hx]; · iexact Hx
    isplitl [Han1]; · iexact Han1
    isplitl [HRK]; · iexact HRK
    isplitl [Hbn]; · iexact Hbn
    iexact HrSX
  refine part53 I K c  (fun _ => ?_)
  refine part54 I K c  (fun _ => ?_)
  simp only [Prog.lift, Prog.bind_op, Prog.bind_ret, Prog.pure_eq_ret]
  refine wait_step I K 6 (by decide) c 11 (by decide) (by decide) rfl (below_Ow c (by decide) (by decide) (by decide) (by decide) (by decide)) (by exact rfl) ?_
  refine wait_step I K 6 (by decide) c 12 (by decide) (by decide) rfl (below_Ow c (by decide) (by decide) (by decide) (by decide) (by decide)) (by exact rfl) ?_
  refine wait_step I K 6 (by decide) c 13 (by decide) (by decide) rfl (below_Ow c (by decide) (by decide) (by decide) (by decide) (by decide)) (by exact rfl) ?_
  refine wait_step I K 6 (by decide) c 14 (by decide) (by decide) rfl (below_Ow c (by decide) (by decide) (by decide) (by decide) (by decide)) (by exact rfl) ?_
  refine wait_step I K 6 (by decide) c 15 (by decide) (by decide) rfl (below_Ow c (by decide) (by decide) (by decide) (by decide) (by decide)) (by exact rfl) ?_
  refine BI.Entails.trans ?_ hk
  rw [Ow_done]
  unfold Mem1 Ends
  show (_ : sProp 𝕄) ⊢ _
  iintro ⟨HC, HO, HWt6_16, HWt2_16, HWt4_16, HWt0_16, HRY, HoutD, Han7, HrY, HRX, HRW, Han3, Han5, Hw2, Hw1, HrSW, Hrb, Hx, Han1, HRK, Hbn, HrSX⟩
  ihave ⟨Hb0, Han0⟩ := (Wt_done I c 0) $$ HWt0_16
  ihave ⟨Hb2, Han2⟩ := (Wt_done I c 2) $$ HWt2_16
  ihave ⟨Hb4, Han4⟩ := (Wt_done I c 4) $$ HWt4_16
  ihave ⟨Hb6, Han6⟩ := (Wt_done I c 6) $$ HWt6_16
  ihave Hrp := ((rp_lend I c).2) $$ [HRK Hb0]
  · isplitl [HRK]; · iexact HRK
    iexact Hb0
  ihave HaSX := (source_join1 I c) $$ [HrSX Hb2]
  · isplitl [HrSX]; · iexact HrSX
    iexact Hb2
  ihave HaSW := (source_join2 I c) $$ [HrSW Hb4]
  · isplitl [HrSW]; · iexact HrSW
    iexact Hb4
  ihave HaY := (source_join3 I c) $$ [HrY Hb6]
  · isplitl [HrY]; · iexact HrY
    iexact Hb6
  ihave HaRb := (any_of c mRb rb) $$ Hrb
  ihave HaRX := (any_of c mRX X) $$ HRX
  ihave HaRW := (any_of c mRW W) $$ HRW
  ihave HaRY := (any_of c mRY Y) $$ HRY
  isplitl [HC]; · iexact HC
  isplitl [HO]; · iexact HO
  isplitl [Hx Hrp Hw1 Hw2 HaRb HaSX HaRX HaSW HaRW HaY HaRY HoutD]
  · isplitl [Hx]; · iexact Hx
    isplitl [Hrp]; · iexact Hrp
    isplitl [Hw1]; · iexact Hw1
    isplitl [Hw2]; · iexact Hw2
    isplitl [HoutD]
    · iexists _
      isplitr
      · ipureintro
        exact ⟨rb, Y, hrb, hY, rfl⟩
      iexact HoutD
    isplitl [HaRb]; · iexact HaRb
    isplitl [HaSX]; · iexact HaSX
    isplitl [HaRX]; · iexact HaRX
    isplitl [HaSW]; · iexact HaSW
    isplitl [HaRW]; · iexact HaRW
    isplitl [HaY]; · iexact HaY
    iexact HaRY
  isplitl [Hbn]; · iexact Hbn
  isplitl [Han0]; · iexact Han0
  isplitl [Han1]; · iexact Han1
  isplitl [Han2]; · iexact Han2
  isplitl [Han3]; · iexact Han3
  isplitl [Han4]; · iexact Han4
  isplitl [Han5]; · iexact Han5
  isplitl [Han6]; · iexact Han6
  iexact Han7

end Cert.KernelIdeal.Exchange
-- ==== Proof.Cells.lean ====
/-
  The cells of the exchange and what they are funded with at launch: the barrier cells live, the copies' cells dormant until
  the kernel starts; the tokens carried to the devices that pay them; the credit each device is launched with; and, at the
  kernel's start and end, the cells opened and closed.
-/
module

public import proofs.«01_k».proof.Proof.Body
public import Idealize.ShloMosaic.Lib.Pipeline.RegionTalk
public import Idealize.ShloMosaic.Harness.Basic

@[expose] public section

noncomputable section

set_option maxRecDepth 16384

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F] [Named F]

local notation "𝕄" => MT nD τ sig Unit (Elt F) ℕ UU ℕ

/-! ## Families over the fifteen offsets, and round the ring -/

/-- A family over pairs, first by the one and then by the other. -/
theorem fam_pairs {M α β : Type} [URA M] [DecidableEq α] [DecidableEq β] (s : Finset α) (t : Finset β) (Φ : α × β → sProp M) :
    bigSep (s ×ˢ t) Φ = bigSep s fun a => bigSep t fun b => Φ (a, b) := by
  refine Finset.induction_on s (by rw [Finset.empty_product, bigSep_empty, bigSep_empty]) fun a s ha ih => ?_
  have e : insert a s ×ˢ t = t.map ⟨fun b => (a, b), fun _ _ h => congrArg Prod.snd h⟩ ∪ s ×ˢ t := by
    ext p; simp only [Finset.mem_product, Finset.mem_insert, Finset.mem_union, Finset.mem_map]
    constructor
    · rintro ⟨h1 | h1, h2⟩
      · exact .inl ⟨p.2, h2, Prod.ext h1.symm rfl⟩
      · exact .inr ⟨h1, h2⟩
    · rintro (⟨b, hb, rfl⟩ | h)
      · exact ⟨.inl rfl, hb⟩
      · exact ⟨.inr h.1, h.2⟩
  rw [e, bigSep_union, bigSep_map, bigSep_insert ha, ih]
  · rfl
  · rw [Finset.disjoint_left]
    intro p hp hq
    obtain ⟨b, -, rfl⟩ := Finset.mem_map.mp hp
    exact ha (Finset.mem_product.mp hq).1
/-- A family over pairs, in either order. -/
theorem fam_swap {M α β : Type} [URA M] [DecidableEq α] [DecidableEq β] (s : Finset α) (t : Finset β) (Φ : α → β → sProp M) :
    (bigSep s fun a => bigSep t fun b => Φ a b) = bigSep t fun b => bigSep s fun a => Φ a b := by
  refine Finset.induction_on s ?_ fun a s ha ih => ?_
  · simp only [bigSep_empty, bigSep_emp_const]
  · rw [bigSep_insert ha, ih, bigSep_congr fun b _ => bigSep_insert ha]
    exact (bigSep_sep _ _ _).symm

theorem ico_flip {M : Type} [URA M] (Φ : ℕ → sProp M) : bigSep (Finset.Ico 1 16) Φ = bigSep (Finset.Ico 1 16) (fun o => Φ (16 - o)) := by
  have h : (Finset.Ico 1 16).image (fun o => 16 - o) = Finset.Ico 1 16 := by decide
  have hi : Set.InjOn (fun o : ℕ => 16 - o) (Finset.Ico 1 16 : Finset ℕ) := fun a ha b hb e => by
    have ha := Finset.mem_Ico.mp ha; have hb := Finset.mem_Ico.mp hb; dsimp only at e; omega
  calc bigSep (Finset.Ico 1 16) Φ = bigSep ((Finset.Ico 1 16).image fun o => 16 - o) Φ := by rw [h]
    _ = _ := bigSep_image_of_injOn hi Φ

theorem range8_eq {M : Type} [URA M] (Φ : ℕ → sProp M) :
    bigSep (Finset.range 8) Φ = iprop(Φ 0 ∗ Φ 1 ∗ Φ 2 ∗ Φ 3 ∗ Φ 4 ∗ Φ 5 ∗ Φ 6 ∗ Φ 7) := by
  rw [show Finset.range 8 = {0, 1, 2, 3, 4, 5, 6, 7} from by decide, bigSep_insert (by decide), bigSep_insert (by decide), bigSep_insert (by decide),
    bigSep_insert (by decide), bigSep_insert (by decide), bigSep_insert (by decide), bigSep_insert (by decide), bigSep_singleton]
  rfl

/-- Moving by `o` round the ring. -/
def turn (o : ℕ) (h : o ≤ 16) : Dev nD ≃ Dev nD := ⟨fun c => pe c o, fun c => pe c (16 - o), fun c => pe_back c h, fun c => pe_fwd c h⟩

/-- A family by device and offset, each member carried to the device the offset is counted from. -/
theorem around_ring {M : Type} [URA M] (Φ : Dev nD → ℕ → sProp M) :
    bigSep Finset.univ (fun c : Dev nD => bigSep (Finset.Ico 1 16) (Φ c))
      = bigSep Finset.univ (fun c : Dev nD => bigSep (Finset.Ico 1 16) (fun o => Φ (pe c o) o)) := by
  rw [fam_swap, fam_swap Finset.univ]
  exact bigSep_congr fun o ho => bigSep_univ_equiv (turn o (by have := Finset.mem_Ico.mp ho; omega)) (fun c => Φ c o)

theorem around_flip {M : Type} [URA M] (Φ : Dev nD → ℕ → sProp M) :
    bigSep Finset.univ (fun c : Dev nD => bigSep (Finset.Ico 1 16) (Φ c))
      = bigSep Finset.univ (fun c : Dev nD => bigSep (Finset.Ico 1 16) (fun o => Φ (pe c o) (16 - o))) := by
  rw [← around_ring (fun c o => Φ c (16 - o))]
  exact bigSep_congr fun c _ => ico_flip (Φ c)

/-! ## The cells and the tokens -/

theorem dev_of_cell {c d : Dev nD} {s t : SemLoc sig} (h : (((c : Thread nD τ), s) : GSem nD τ sig) = ((d : Thread nD τ), t)) : c = d :=
  congrArg (fun g : GSem nD τ sig => g.1.1) h
theorem dsem_inj {a b o p : ℕ} (ha : a < 8) (hb : b < 8) (ho : o < 16) (hp : p < 16) (h : dsem a o = dsem b p) : a = b ∧ o = p := by
  have := congrArg Fin.val h
  rw [dsem_val ha ho, dsem_val hb hp] at this
  omega
theorem cell_inj {c d : Dev nD} {a b o p : ℕ} (ha : a < 8) (hb : b < 8) (ho : o < 16) (hp : p < 16) (h : cell c a o = cell d b p) :
    c = d ∧ a = b ∧ o = p :=
  ⟨dev_of_cell h, dsem_inj ha hb ho hp (SemLoc.dma.inj (congrArg Prod.snd h))⟩
theorem bCell_ne_cell {c d : Dev nD} {a o : ℕ} : bCell c ≠ cell d a o := fun h => by have := congrArg Prod.snd h; cases this

theorem mem_cellIx {p : Dev nD × ℕ × ℕ} : p ∈ cellIx ↔ p.2.1 < 8 ∧ 1 ≤ p.2.2 ∧ p.2.2 < 16 := by
  simp only [cellIx, Finset.mem_product, Finset.mem_univ, true_and, Finset.mem_range, Finset.mem_Ico]

theorem cellIx_inj : Set.InjOn (fun p : Dev nD × ℕ × ℕ => cell p.1 p.2.1 p.2.2) (cellIx : Finset (Dev nD × ℕ × ℕ)) := fun p hp q hq h => by
  obtain ⟨h1, -, h2⟩ := mem_cellIx.mp hp
  obtain ⟨h3, -, h4⟩ := mem_cellIx.mp hq
  obtain ⟨e1, e2, e3⟩ := cell_inj h1 h3 h2 h4 h
  exact Prod.ext e1 (Prod.ext e2 e3)

/-- The barrier cells; the copies' cells. -/
def bCells : Finset (GSem nD τ sig) := Finset.univ.image bCell
def dCells : Finset (GSem nD τ sig) := cellIx.image fun p => cell p.1 p.2.1 p.2.2
/-- The right to each signal; the right to each end of a copy. -/
def bToks : Finset (GSem nD τ sig × ℕ × ℕ) := (Finset.univ ×ˢ Finset.Ico 1 16).image fun p : Dev nD × ℕ => (bCell p.1, 0, p.2)
def dToks : Finset (GSem nD τ sig × ℕ × ℕ) := cellIx.image fun p => (cell p.1 p.2.1 p.2.2, 0, 0)

theorem cells_disjoint : Disjoint bCells dCells := by
  rw [Finset.disjoint_left]
  intro g h h'
  obtain ⟨c, -, rfl⟩ := Finset.mem_image.mp h
  obtain ⟨p, -, e⟩ := Finset.mem_image.mp h'
  exact bCell_ne_cell e.symm
theorem toks_disjoint : Disjoint bToks dToks := by
  rw [Finset.disjoint_left]
  intro g h h'
  obtain ⟨c, -, rfl⟩ := Finset.mem_image.mp h
  obtain ⟨p, -, e⟩ := Finset.mem_image.mp h'
  exact bCell_ne_cell (congrArg Prod.fst e).symm

theorem bCells_eq {M : Type} [URA M] (Φ : GSem nD τ sig → sProp M) : bigSep bCells Φ = bigSep Finset.univ (fun c : Dev nD => Φ (bCell c)) :=
  bigSep_image_of_injOn (fun _ _ _ _ h => dev_of_cell h) Φ
theorem cellIx_eq {M : Type} [URA M] (Φ : Dev nD → ℕ → ℕ → sProp M) : bigSep cellIx (fun p => Φ p.1 p.2.1 p.2.2)
    = bigSep Finset.univ (fun c : Dev nD => bigSep (Finset.range 8) fun a => bigSep (Finset.Ico 1 16) fun o => Φ c a o) := by
  rw [fam_pairs]
  exact bigSep_congr fun c _ => by rw [fam_pairs]
theorem dCells_eq {M : Type} [URA M] (Φ : GSem nD τ sig → sProp M) : bigSep dCells Φ = bigSep cellIx (fun p => Φ (cell p.1 p.2.1 p.2.2)) :=
  bigSep_image_of_injOn cellIx_inj Φ
theorem bToks_eq {M : Type} [URA M] (Φ : GSem nD τ sig × ℕ × ℕ → sProp M) :
    bigSep bToks Φ = bigSep Finset.univ (fun c : Dev nD => bigSep (Finset.Ico 1 16) fun d => Φ (bCell c, 0, d)) := by
  unfold bToks
  rw [bigSep_image_of_injOn (fun p _ q _ h => Prod.ext (dev_of_cell (congrArg Prod.fst h)) (congrArg (fun t : GSem nD τ sig × ℕ × ℕ => t.2.2) h)) Φ, fam_pairs]
theorem dToks_eq {M : Type} [URA M] (Φ : GSem nD τ sig × ℕ × ℕ → sProp M) :
    bigSep dToks Φ = bigSep Finset.univ (fun c : Dev nD => bigSep (Finset.range 8) fun a => bigSep (Finset.Ico 1 16) fun o => Φ (cell c a o, 0, 0)) := by
  unfold dToks
  rw [bigSep_image_of_injOn (fun p hp q hq h => cellIx_inj hp hq (congrArg Prod.fst h)) Φ]
  exact cellIx_eq fun c a o => Φ (cell c a o, 0, 0)

/-! ## What a device holds between launch and kernel -/

/-- The rights device `c` holds to signal and to pay for copies. -/
def Rights (c : Dev nD) : sProp 𝕄 :=
  iprop(bigSep (Finset.Ico 1 16) (fun o => dutyTok ER (bCell (pe c o)) 0 (16 - o)) ∗ bigSep (Finset.Ico 1 16) (fun o => dutyTok ER (cell c 0 o) 0 0) ∗ bigSep (Finset.Ico 1 16) (fun o => dutyTok ER (cell c 2 o) 0 0) ∗ bigSep (Finset.Ico 1 16) (fun o => dutyTok ER (cell c 4 o) 0 0) ∗ bigSep (Finset.Ico 1 16) (fun o => dutyTok ER (cell c 6 o) 0 0) ∗ bigSep (Finset.Ico 1 16) (fun o => dutyTok ER (cell (pe c o) 1 o) 0 0) ∗ bigSep (Finset.Ico 1 16) (fun o => dutyTok ER (cell (pe c o) 3 o) 0 0) ∗ bigSep (Finset.Ico 1 16) (fun o => dutyTok ER (cell (pe c o) 5 o) 0 0) ∗ bigSep (Finset.Ico 1 16) (fun o => dutyTok ER (cell (pe c o) 7 o) 0 0))

/-- All tokens, each with the device that uses it. -/
theorem rights_all : iprop(bigSep bToks (fun x => (dutyTok ER x.1 x.2.1 x.2.2 : sProp 𝕄)) ∗ bigSep dToks (fun x => (dutyTok ER x.1 x.2.1 x.2.2 : sProp 𝕄)))
    ⊢ bigSep Finset.univ (fun c : Dev nD => Rights (F := F) c) := by
  have hb := around_flip (fun (c : Dev nD) d => (dutyTok ER (bCell c) 0 d : sProp 𝕄))
  have hd (a : ℕ) := around_ring (fun (c : Dev nD) o => (dutyTok ER (cell c a o) 0 0 : sProp 𝕄))
  unfold Rights
  rw [bToks_eq, dToks_eq, hb]
  simp only [range8_eq, bigSep_sep']
  rw [hd 1, hd 3, hd 5, hd 7]
  iintro ⟨Hb, H0, H1, H2, H3, H4, H5, H6, H7⟩
  isplitl [Hb]; · iexact Hb
  isplitl [H0]; · iexact H0
  isplitl [H2]; · iexact H2
  isplitl [H4]; · iexact H4
  isplitl [H6]; · iexact H6
  isplitl [H1]; · iexact H1
  isplitl [H3]; · iexact H3
  isplitl [H5]; · iexact H5
  iexact H7

/-- The credit device `c` is launched with: what the others owe its cells. -/
def Creds (c : Dev nD) : sProp 𝕄 :=
  iprop(cred (tallyAt (bCell c) () 15) ∗ bigSep (Finset.Ico 1 16) (fun o => cred (tallyAt (cell c 1 o) () (amt 0))) ∗ bigSep (Finset.Ico 1 16) (fun o => cred (tallyAt (cell c 3 o) () (amt 1))) ∗ bigSep (Finset.Ico 1 16) (fun o => cred (tallyAt (cell c 5 o) () (amt 2))) ∗ bigSep (Finset.Ico 1 16) (fun o => cred (tallyAt (cell c 7 o) () (amt 3))))

/-- The rights to open the copies' cells. -/
def Opens (c : Dev nD) : sProp 𝕄 := bigSep (Finset.range 8) fun a => bigSep (Finset.Ico 1 16) fun o => openTok ER (cell c a o)
/-- The copies' counters at zero. -/
def Zeros (c : Dev nD) : sProp 𝕄 := bigSep (Finset.range 8) fun a => bigSep (Finset.Ico 1 16) fun o => semVal (cell c a o) 0

/-- What a device holds from launch to its kernel. -/
def Start (c : Dev nD) : sProp 𝕄 :=
  iprop(Rights (F := F) c ∗ Creds (F := F) c ∗ atPos ER (bCell c) 0 ∅ 0 ∗ Opens (F := F) c)

/-! ## Opening the copies' cells, and closing all -/

variable (I : Inp F) (K : GSem nD τ sig → ℕ)

/-- One array's cells, opened. -/
theorem open_array (c : Dev nD) (a : ℕ) (ha : a < 8) :
    iprop(Ctx I K ∗ bigSep (Finset.Ico 1 16) (fun o => openTok ER (cell c a o)) ∗ bigSep (Finset.Ico 1 16) (fun o => semVal (cell c a o) 0))
      ⊢ (|={Set.univ}=> iprop(ats (F := F) c a 0 ∗ bigSep (Finset.Ico 1 16) (fun o => reached ER (cell c a o) 0)) : sProp 𝕄) := by
  refine BI.Entails.trans ?_ ((bigSep_fupd (Finset.Ico 1 16) (fun o => iprop(atPos ER (cell c a o) 0 ∅ 0 ∗ reached ER (cell c a o) 0))).trans
    (BI.fupd_mono (Entails.of_eq (bigSep_sep' _ _ _))))
  rw [← bigSep_sep']
  refine bigSep_with_persistent fun o ho => ?_
  obtain ⟨h1, h2⟩ := Finset.mem_Ico.mp ho
  iintro ⟨HI, Ho, Hs⟩
  ihave #Hc := (Ctx_cell I K c ha h1 h2) $$ HI
  iapply (Rounds.cell_open ER (talkRd I) (g := cell c a o) (Set.mem_univ (K (cell c a o))))
  isplitr; · iexact Hc
  isplitl [Ho]; · iexact Ho
  iexact Hs

/-- One array's cells, closed. -/
theorem close_array (c : Dev nD) (a : ℕ) (ha : a < 8) :
    iprop(Ctx I K ∗ ats (F := F) c a 1) ⊢ (|={Set.univ}=> bigSep (Finset.Ico 1 16) (fun o => semVal (cell c a o) 0) : sProp 𝕄) := by
  refine BI.Entails.trans ?_ (bigSep_fupd (Finset.Ico 1 16) (fun o => semVal (cell c a o) 0))
  refine bigSep_with_persistent fun o ho => ?_
  obtain ⟨h1, h2⟩ := Finset.mem_Ico.mp ho
  iintro ⟨HI, Ha⟩
  ihave #Hc := (Ctx_cell I K c ha h1 h2) $$ HI
  iapply (Rounds.cell_close ER (talkRd I) (g := cell c a o) (Set.mem_univ (K (cell c a o))) id (duties_later I (cell c a o)))
  isplitr; · iexact Hc
  iexact Ha

/-- **The copies' cells opened**: everything the body starts with but the memory. -/
theorem start_open (c : Dev nD) :
    iprop(Ctx I K ∗ (bigSep Finset.univ fun d : Dev nD => reached ER (bCell d) 0) ∗ Start (F := F) c ∗ Zeros (F := F) c) ⊢ (|={Set.univ}=> Ghost (F := F) c : sProp 𝕄) := by
  have hr : (bigSep Finset.univ fun d : Dev nD => (reached ER (bCell d) 0 : sProp 𝕄)) ⊢ bigSep (Finset.Ico 1 16) (fun o => reached ER (bCell (pe c o)) 0) :=
    (bigSep_of_persistent (Finset.Ico 1 16) _).trans (bigSep_mono fun o _ => bigSep_elim (Finset.mem_univ (pe c o)))
  unfold Start Rights Creds Opens Zeros Ghost dt
  rw [range8_eq, range8_eq]
  simp only [bigSep_sep']
  iintro ⟨#HI, #Hr, ⟨⟨Hb, Hd0, Hd2, Hd4, Hd6, Hd1, Hd3, Hd5, Hd7⟩, ⟨HcB, Hc0, Hc1, Hc2, Hc3⟩, Hat, Ho0, Ho1, Ho2, Ho3, Ho4, Ho5, Ho6, Ho7⟩, Hs0, Hs1, Hs2, Hs3, Hs4, Hs5, Hs6, Hs7⟩
  imod (open_array I K c 0 (by decide)) $$ [Ho0 Hs0] with ⟨Ha0, #Hr0⟩
  · isplitr; · iexact HI
    isplitl [Ho0]; · iexact Ho0
    iexact Hs0
  imod (open_array I K c 1 (by decide)) $$ [Ho1 Hs1] with ⟨Ha1, #Hr1⟩
  · isplitr; · iexact HI
    isplitl [Ho1]; · iexact Ho1
    iexact Hs1
  imod (open_array I K c 2 (by decide)) $$ [Ho2 Hs2] with ⟨Ha2, #Hr2⟩
  · isplitr; · iexact HI
    isplitl [Ho2]; · iexact Ho2
    iexact Hs2
  imod (open_array I K c 3 (by decide)) $$ [Ho3 Hs3] with ⟨Ha3, #Hr3⟩
  · isplitr; · iexact HI
    isplitl [Ho3]; · iexact Ho3
    iexact Hs3
  imod (open_array I K c 4 (by decide)) $$ [Ho4 Hs4] with ⟨Ha4, #Hr4⟩
  · isplitr; · iexact HI
    isplitl [Ho4]; · iexact Ho4
    iexact Hs4
  imod (open_array I K c 5 (by decide)) $$ [Ho5 Hs5] with ⟨Ha5, #Hr5⟩
  · isplitr; · iexact HI
    isplitl [Ho5]; · iexact Ho5
    iexact Hs5
  imod (open_array I K c 6 (by decide)) $$ [Ho6 Hs6] with ⟨Ha6, #Hr6⟩
  · isplitr; · iexact HI
    isplitl [Ho6]; · iexact Ho6
    iexact Hs6
  imod (open_array I K c 7 (by decide)) $$ [Ho7 Hs7] with ⟨Ha7, #Hr7⟩
  · isplitr; · iexact HI
    isplitl [Ho7]; · iexact Ho7
    iexact Hs7
  ihave #Hrb := hr $$ Hr
  imodintro
  isplitl [Hb]
  · isplitl [Hb]; · iexact Hb
    iexact Hrb
  isplitr; · iapply (Entails.of_eq (ico_flip fun o => (reached ER (cell c 1 o) 0 : sProp 𝕄))); iexact Hr1
  isplitr; · iapply (Entails.of_eq (ico_flip fun o => (reached ER (cell c 3 o) 0 : sProp 𝕄))); iexact Hr3
  isplitr; · iapply (Entails.of_eq (ico_flip fun o => (reached ER (cell c 5 o) 0 : sProp 𝕄))); iexact Hr5
  isplitr; · iapply (Entails.of_eq (ico_flip fun o => (reached ER (cell c 7 o) 0 : sProp 𝕄))); iexact Hr7
  isplitl [Hd0 Hd1]
  · isplitl [Hd0]
    · isplitl [Hd0]; · iexact Hd0
      iexact Hr0
    iexact Hd1
  isplitl [Hd2 Hd3]
  · isplitl [Hd2]
    · isplitl [Hd2]; · iexact Hd2
      iexact Hr2
    iexact Hd3
  isplitl [Hd4 Hd5]
  · isplitl [Hd4]
    · isplitl [Hd4]; · iexact Hd4
      iexact Hr4
    iexact Hd5
  isplitl [Hd6 Hd7]
  · isplitl [Hd6]
    · isplitl [Hd6]; · iexact Hd6
      iexact Hr6
    iexact Hd7
  isplitl [HcB Hat]
  · isplitl [HcB]; · iexact HcB
    iexact Hat
  isplitl [Hc0]; · iexact Hc0
  isplitl [Hc1]; · iexact Hc1
  isplitl [Hc2]; · iexact Hc2
  isplitl [Hc3]; · iexact Hc3
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [Ha6]; · iexact Ha6
  iexact Ha7

/-- **All cells closed** at the end. -/
theorem ends_close (c : Dev nD) : iprop(Ctx I K ∗ Ends (F := F) c) ⊢ (|={Set.univ}=> iprop(semVal (bCell c) 0 ∗ Zeros (F := F) c) : sProp 𝕄) := by
  unfold Ends Zeros
  rw [range8_eq]
  iintro ⟨#HI, Hb, Ha0, Ha1, Ha2, Ha3, Ha4, Ha5, Ha6, Ha7⟩
  ihave #HB := (Ctx_bar I K c) $$ HI
  imod (Rounds.cell_close ER (talkRd I) (g := bCell c) (Set.mem_univ (K (bCell c))) id (duties_later I (bCell c))) $$ [Hb] with Hb
  · isplitr; · iexact HB
    iexact Hb
  imod (close_array I K c 0 (by decide)) $$ [Ha0] with Ha0
  · isplitr; · iexact HI
    iexact Ha0
  imod (close_array I K c 1 (by decide)) $$ [Ha1] with Ha1
  · isplitr; · iexact HI
    iexact Ha1
  imod (close_array I K c 2 (by decide)) $$ [Ha2] with Ha2
  · isplitr; · iexact HI
    iexact Ha2
  imod (close_array I K c 3 (by decide)) $$ [Ha3] with Ha3
  · isplitr; · iexact HI
    iexact Ha3
  imod (close_array I K c 4 (by decide)) $$ [Ha4] with Ha4
  · isplitr; · iexact HI
    iexact Ha4
  imod (close_array I K c 5 (by decide)) $$ [Ha5] with Ha5
  · isplitr; · iexact HI
    iexact Ha5
  imod (close_array I K c 6 (by decide)) $$ [Ha6] with Ha6
  · isplitr; · iexact HI
    iexact Ha6
  imod (close_array I K c 7 (by decide)) $$ [Ha7] with Ha7
  · isplitr; · iexact HI
    iexact Ha7
  imodintro
  isplitl [Hb]; · iexact Hb
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [Ha6]; · iexact Ha6
  iexact Ha7

/-! ## The launch credit -/

/-- What each device owes at launch. -/
def O₀ (c : Dev nD) : CellTallies nD τ sig Unit := Ow c 1 1 1 1 1

theorem owB_cell (d c : Dev nD) (a o : ℕ) : owB d 1 (cell c a o) () = 0 := by
  unfold owB
  rw [Finset.sum_apply, Finsupp.finset_sum_apply]
  exact Finset.sum_eq_zero fun p _ => by rw [tallyAt_apply, if_neg fun h => bCell_ne_cell h.1.symm]
theorem owR_bar (k : ℕ) (d c : Dev nD) : owR k d 1 (bCell c) () = 0 := by
  unfold owR
  rw [Finset.sum_apply, Finsupp.finset_sum_apply]
  exact Finset.sum_eq_zero fun p _ => by rw [tallyAt_apply, if_neg fun h => bCell_ne_cell h.1]
theorem owR_cell (k j : ℕ) (hk : k < 4) (hj : j < 4) (d c : Dev nD) {o : ℕ} (h1 : 1 ≤ o) (h2 : o < 16) :
    owR k d 1 (cell c (2 * j + 1) o) () = if k = j ∧ c = pe d o then amt k else 0 := by
  unfold owR
  rw [Finset.sum_apply, Finsupp.finset_sum_apply, Finset.sum_eq_single o]
  · rw [tallyAt_apply]
    refine if_congr ⟨fun h => ?_, fun h => ?_⟩ rfl rfl
    · obtain ⟨e1, e2, -⟩ := cell_inj (by omega) (by omega) h2 h2 h.1
      exact ⟨by omega, e1⟩
    · rw [h.1, h.2]; exact ⟨rfl, rfl⟩
  · intro p hp hne
    rw [tallyAt_apply, if_neg]
    intro h
    exact hne (cell_inj (by omega) (by omega) h2 (Finset.mem_Ico.mp hp).2 h.1).2.2.symm
  · exact fun h => absurd (Finset.mem_Ico.mpr ⟨h1, h2⟩) h

theorem owB_sum (c : Dev nD) : ∑ d : Dev nD, owB d 1 (bCell c) () = 15 := by
  unfold owB
  have h (d : Dev nD) : (∑ o ∈ Finset.Ico 1 16, (tallyAt (bCell (pe d o)) () 1 : CellTallies nD τ sig Unit)) (bCell c) ()
      = ∑ o ∈ Finset.Ico 1 16, if c = pe d o then 1 else 0 := by
    rw [Finset.sum_apply, Finsupp.finset_sum_apply]
    refine Finset.sum_congr rfl fun o _ => ?_
    rw [tallyAt_apply]
    exact if_congr ⟨fun h => dev_of_cell h.1, fun h => by rw [h]; exact ⟨rfl, rfl⟩⟩ rfl rfl
  rw [Finset.sum_congr rfl fun d _ => h d, Finset.sum_comm, Finset.sum_congr rfl fun o ho => Finset.sum_eq_single (pe c (16 - o)) (fun d _ hd => if_neg fun e => hd ?_) fun h => absurd (Finset.mem_univ _) h]
  · rw [Finset.sum_congr rfl fun o ho => if_pos (pe_fwd c (by have := Finset.mem_Ico.mp ho; omega)).symm]
    rfl
  · rw [e, pe_back d (by have := Finset.mem_Ico.mp ho; omega)]

theorem launch_bar (c : Dev nD) :
    tallyOn (bCell c) (launchCredit (Pipeline.owing O₀) 0 (bCell c)) = (tallyAt (bCell c) () 15 : CellTallies nD τ sig Unit) := by
  unfold tallyAt; refine congrArg _ (Finsupp.ext fun u => ?_); cases u
  rw [Pipeline.launchCredit_owing, Finsupp.single_eq_same, ← owB_sum c]
  refine Finset.sum_congr rfl fun d _ => ?_
  unfold O₀ Ow
  simp only [Pi.add_apply, Finsupp.add_apply, owR_bar, Nat.add_zero]

theorem launch_cell (j : ℕ) (hj : j < 4) (c : Dev nD) {o : ℕ} (h1 : 1 ≤ o) (h2 : o < 16) :
    tallyOn (cell c (2 * j + 1) o) (launchCredit (Pipeline.owing O₀) 0 (cell c (2 * j + 1) o))
      = (tallyAt (cell c (2 * j + 1) o) () (amt j) : CellTallies nD τ sig Unit) := by
  unfold tallyAt; refine congrArg _ (Finsupp.ext fun u => ?_); cases u
  rw [Pipeline.launchCredit_owing, Finsupp.single_eq_same]
  have h (d : Dev nD) : O₀ d (cell c (2 * j + 1) o) () = if d = pe c (16 - o) then amt j else 0 := by
    have e : c = pe d o ↔ d = pe c (16 - o) := ⟨fun h => by rw [h, pe_back d (by omega)], fun h => by rw [h, pe_fwd c (by omega)]⟩
    unfold O₀ Ow
    simp only [Pi.add_apply, Finsupp.add_apply, owB_cell, owR_cell _ j (by decide : 0 < 4) hj d c h1 h2, owR_cell _ j (by decide : 1 < 4) hj d c h1 h2,
      owR_cell _ j (by decide : 2 < 4) hj d c h1 h2, owR_cell _ j (by decide : 3 < 4) hj d c h1 h2, e]
    by_cases hd : d = pe c (16 - o)
    · interval_cases j <;> simp [hd]
    · simp [hd]
  rw [Finset.sum_congr rfl fun d _ => h d, Finset.sum_ite_eq' Finset.univ (pe c (16 - o)) fun _ => amt j, if_pos (Finset.mem_univ _)]

theorem creds (c : Dev nD) : (Pipeline.launchCred O₀ c : sProp 𝕄) ⊢ Creds (F := F) c := by
  have hB : (Finset.univ.erase (SemLoc.reg barrier0) : Finset (SemLoc sig))
      ⊇ (Finset.range 4 ×ˢ Finset.Ico 1 16).image fun p : ℕ × ℕ => SemLoc.dma (dsem (2 * p.1 + 1) p.2) := by
    intro s hs
    obtain ⟨p, -, rfl⟩ := Finset.mem_image.mp hs
    exact Finset.mem_erase.mpr ⟨fun h => (by cases h), Finset.mem_univ _⟩
  have hi : Set.InjOn (fun p : ℕ × ℕ => (SemLoc.dma (dsem (2 * p.1 + 1) p.2) : SemLoc sig)) (Finset.range 4 ×ˢ Finset.Ico 1 16 : Finset (ℕ × ℕ)) := by
    intro p hp q hq h
    have hp := Finset.mem_product.mp hp; have hq := Finset.mem_product.mp hq
    have p1 := Finset.mem_range.mp hp.1; have p2 := Finset.mem_Ico.mp hp.2
    have q1 := Finset.mem_range.mp hq.1; have q2 := Finset.mem_Ico.mp hq.2
    obtain ⟨e1, e2⟩ := dsem_inj (by omega) (by omega) p2.2 q2.2 (SemLoc.dma.inj h)
    exact Prod.ext (by omega) e2
  unfold Pipeline.launchCred Creds
  rw [bigSep_univ_at _ (SemLoc.reg barrier0), launch_bar]
  refine sep_mono_right ((bigSep_subset hB).trans ?_)
  rw [bigSep_image_of_injOn hi, fam_pairs, show Finset.range 4 = {0, 1, 2, 3} from by decide, bigSep_insert (by decide), bigSep_insert (by decide), bigSep_insert (by decide), bigSep_singleton]
  have hm (j : ℕ) (hj : j < 4) : bigSep (Finset.Ico 1 16) (fun o => (cred (tallyOn (cell c (2 * j + 1) o) (launchCredit (Pipeline.owing O₀) 0 (cell c (2 * j + 1) o))) : sProp 𝕄))
      ⊢ bigSep (Finset.Ico 1 16) (fun o => (cred (tallyAt (cell c (2 * j + 1) o) () (amt j)) : sProp 𝕄)) :=
    bigSep_mono fun o ho => Entails.of_eq (congrArg (fun x => (cred x : sProp 𝕄)) (launch_cell j hj c (Finset.mem_Ico.mp ho).1 (Finset.mem_Ico.mp ho).2))
  exact BI.sep_mono (hm 0 (by decide)) (BI.sep_mono (hm 1 (by decide)) (BI.sep_mono (hm 2 (by decide)) (hm 3 (by decide))))

end Cert.KernelIdeal.Exchange
-- ==== Proof.Region.lean ====
/-
  The kernel's region on one device: what its windows hold, its invariant before and after the body, and the body's obligation,
  met by the body's run.
-/
module

public import proofs.«01_k».proof.Proof.Cells

@[expose] public section

noncomputable section

set_option maxRecDepth 16384

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F] [Named F]

local notation "𝕄" => MT nD τ sig Unit (Elt F) ℕ UU ℕ

open Idealize.ShloMosaic.Pipeline (Dat RDat)

variable (m : (ℓ : Loc nD τ sig) → Buf (Elt F) ℓ) (ρ : Dev nD → PrngReg)

/-- What every device reads: its blocks of the arguments, as the region finds them. -/
def inp : Inp F where
  x c := iblk m c 0 t0_0
  rp c := iblk m c 1 t0_0
  W1 c := iblk m c 2 t0_0
  W2 c := iblk m c 3 t0_0

/-- The scratch buffers, each at some contents. -/
def Scr (c : Dev nD) : sProp 𝕄 :=
  iprop(anyPts c mRb ∗ anyPts c mSX ∗ anyPts c mRX ∗ anyPts c mSW ∗ anyPts c mRW ∗ anyPts c mY ∗ anyPts c mRY)
/-- The invariant before the body: the cells' invariants, the device's tokens and credit, and the scratch buffers; -/
def Pre (c : Dev nD) : sProp 𝕄 := iprop((∃ K, Ctx (inp m) K ∗ Ghost (F := F) c) ∗ Scr (F := F) c)
/-- after it: every counter back at zero. -/
def Post (c : Dev nD) : sProp 𝕄 := iprop(semVal (bCell c) 0 ∗ Zeros (F := F) c ∗ Scr (F := F) c)

/-- The region's proof data; nothing is said here of the output's window, which is read relationally (`outRel`). -/
def dat0 (c : Dev nD) : Dat τ (Elt F) Unit ℕ UU ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
  Φ t := if t.val = 0 then Pre m c else Post c
  q _ := fullShare
  owed t := if t.val = 0 then O₀ c else 0

/-- The output's window is the one read relationally, -/
def marked : Fin 5 → Bool := ![false, false, false, false, true]
/-- and what it is left with is a result the exchange may reach. -/
def outRel (c : Dev nD) : (w : Fin cfg0.W) → Fin cfg0.N → ((cfg0.win w).block.Idx → Elt F (cfg0.win w).elt) → Prop
  | 4, _, X => OutOK (inp m) c X
  | _, _, _ => True

theorem owed_first (c : Dev nD) : (dat0 m c).owed t0_0.castSucc = O₀ c := by
  show (if (t0_0.castSucc : Fin (cfg0.N + 1)).val = 0 then O₀ c else 0) = O₀ c; exact if_pos rfl
theorem owed_last (c : Dev nD) : (dat0 m c).owed (Fin.last _) = 0 := by
  show (if (Fin.last cfg0.N).val = 0 then O₀ c else 0) = 0
  rw [Fin.val_last, if_neg (by rw [show cfg0.N = 1 from N_0]; decide)]

/-- A core's debts as a point's debts, -/
theorem owes_in (c : Dev nD) (t : Fin (cfg0.N + 1)) (O : CellTallies nD τ sig Unit) (h : (dat0 m c).owed t = O) :
    (Owe (F := F) c O : sProp 𝕄) ⊢ (dat0 m c).owesAt () t := by
  unfold Owe Dat.owesAt Pipeline.owesWithin Dat.bound; rw [h]
  iintro ⟨%W, HO⟩; iexists W; isplitr
  · ipureintro; exact fun _ _ => Or.inl trivial
  iexact HO
/-- and back. -/
theorem owes_out (c : Dev nD) (t : Fin (cfg0.N + 1)) (O : CellTallies nD τ sig Unit) (h : (dat0 m c).owed t = O) :
    ((dat0 m c).owesAt () t : sProp 𝕄) ⊢ Owe (F := F) c O := by
  unfold Owe Dat.owesAt Pipeline.owesWithin; rw [h]
  iintro ⟨%W, -, HO⟩; iexists W; iexact HO

/-- The whole of a buffer, as the body holds it and as the pipeline does, -/
theorem own_in {s : Shape} {e : EltTy} (c : Dev nD) (mm : Memref sig .tc .vmem s e) (f : Buf (Elt F) (mm.view.loc (c : Thread nD τ))) (X : s.Idx → Elt F e)
    (h : mm.view.read (Elt F) f = X) : (pts c mm f : sProp 𝕄) ⊢ owns c mm fullShare X := by
  unfold owns
  iintro H; iexists f; isplitr; · ipureintro; exact h
  iexact H
/-- and back. -/
theorem own_out {s : Shape} {e : EltTy} (c : Dev nD) (mm : Memref sig .tc .vmem s e) (f : Buf (Elt F) (mm.view.loc (c : Thread nD τ))) (X : s.Idx → Elt F e)
    (h : ∀ g : Buf (Elt F) (mm.view.loc (c : Thread nD τ)), mm.view.read (Elt F) g = X → g = f) : (owns c mm fullShare X : sProp 𝕄) ⊢ pts c mm f := by
  unfold owns
  iintro ⟨%g, %hg, H⟩
  rw [← h g hg]; iexact H

/-- What an input's window finds is its block. -/
theorem found0 (c : Dev nD) (d) : (dat0 m c).before 0 t0_0 d = (inp m).x c :=
  ((dat0 m c).before_in_eq_fetched 0 rfl (fun _ => rfl) (fun _ _ _ => rfl) (fun _ => rfl) t0_0 d).trans rfl
theorem found1 (c : Dev nD) (d) : (dat0 m c).before 1 t0_0 d = (inp m).rp c :=
  ((dat0 m c).before_in_eq_fetched 1 rfl (fun _ => rfl) (fun _ _ _ => rfl) (fun _ => rfl) t0_0 d).trans rfl
theorem found2 (c : Dev nD) (d) : (dat0 m c).before 2 t0_0 d = (inp m).W1 c :=
  ((dat0 m c).before_in_eq_fetched 2 rfl (fun _ => rfl) (fun _ _ _ => rfl) (fun _ => rfl) t0_0 d).trans rfl
theorem found3 (c : Dev nD) (d) : (dat0 m c).before 3 t0_0 d = (inp m).W2 c :=
  ((dat0 m c).before_in_eq_fetched 3 rfl (fun _ => rfl) (fun _ _ _ => rfl) (fun _ => rfl) t0_0 d).trans rfl

/-- What the body leaves, as the pipeline takes it back. -/
theorem body_end (c : Dev nD) (K : GSem nD τ sig → ℕ) :
    iprop(Ctx (inp m) K ∗ Owe c 0 ∗ Mem1 (inp m) c ∗ Ends (F := F) c)
      ⊢ (|={Set.univ}=> iprop(Post (F := F) c ∗ Owe c 0
          ∗ owns c mX fullShare ((inp m).x c) ∗ owns c mRp fullShare ((inp m).rp c) ∗ owns c mW1 fullShare ((inp m).W1 c) ∗ owns c mW2 fullShare ((inp m).W2 c)
          ∗ ∃ X, ⌜OutOK (inp m) c X⌝ ∗ owns c mOut fullShare X) : sProp 𝕄) := by
  unfold Mem1 Post Scr
  iintro ⟨#HC, HO, ⟨Hx, Hrp, Hw1, Hw2, ⟨%v, %hv, Hout⟩, HRb, HSX, HRX, HSW, HRW, HY, HRY⟩, HE⟩
  imod (ends_close (inp m) K c) $$ [HE] with ⟨Hb, Hz⟩
  · isplitr; · iexact HC
    iexact HE
  imodintro
  isplitl [Hb Hz HRb HSX HRX HSW HRW HY HRY]
  · isplitl [Hb]; · iexact Hb
    isplitl [Hz]; · iexact Hz
    isplitl [HRb]; · iexact HRb
    isplitl [HSX]; · iexact HSX
    isplitl [HRX]; · iexact HRX
    isplitl [HSW]; · iexact HSW
    isplitl [HRW]; · iexact HRW
    isplitl [HY] <;> iassumption
  isplitl [HO]; · iexact HO
  isplitl [Hx]; · iapply (own_in c mX ((inp m).x c) ((inp m).x c) rfl) $$ Hx
  isplitl [Hrp]; · iapply (own_in c mRp ((inp m).rp c) ((inp m).rp c) rfl) $$ Hrp
  isplitl [Hw1]; · iapply (own_in c mW1 ((inp m).W1 c) ((inp m).W1 c) rfl) $$ Hw1
  isplitl [Hw2]; · iapply (own_in c mW2 ((inp m).W2 c) ((inp m).W2 c) rfl) $$ Hw2
  iexists v; isplitr; · ipureintro; exact hv
  iapply (own_in c mOut v v rfl) $$ Hout

/-- The body's run, with nothing after it. -/
theorem body_wp (c : Dev nD) (K : GSem nD τ sig → ℕ) :
    iprop(Ctx (inp m) K ∗ Owe c (O₀ c) ∗ Ghost (F := F) c ∗ Mem0 (inp m) c)
      ⊢ WP c (cc0_body (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14) fun _ => iprop(Post (F := F) c ∗ (dat0 m c).owesAt () (Fin.last _)
        ∗ owns c mX fullShare ((inp m).x c) ∗ owns c mRp fullShare ((inp m).rp c) ∗ owns c mW1 fullShare ((inp m).W1 c) ∗ owns c mW2 fullShare ((inp m).W2 c)
        ∗ ∃ X, ⌜OutOK (inp m) c X⌝ ∗ owns c mOut fullShare X) := by
  rw [← Prog.bind_pure (cc0_body (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14)]
  refine body_run (inp m) K c (k := pure) ((body_end m c K).trans ?_)
  unfold WP
  rw [wp_pure]
  refine fupd_mono ?_
  iintro ⟨HP, HO, HR⟩
  isplitl [HP]; · iexact HP
  isplitl [HO]; · iapply (owes_in m c (Fin.last _) 0 (owed_last m c)); iexact HO
  iexact HR

/-- The body's obligation. -/
theorem body_obligation (c : Dev nD) : Pipeline.BodyObligationRel (dat0 m c) defs₀ 𝒱₀ () Set.univ marked (outRel m c) := fun t => by
  obtain rfl := fin_N0 t
  rw [bigSep_W0, bigSep_W0]
  show iprop(Pre m c ∗ (dat0 m c).owesAt () t0_0.castSucc
      ∗ (∃ d, owns c mX fullShare ((dat0 m c).before 0 t0_0 d)) ∗ (∃ d, owns c mRp fullShare ((dat0 m c).before 1 t0_0 d))
      ∗ (∃ d, owns c mW1 fullShare ((dat0 m c).before 2 t0_0 d)) ∗ (∃ d, owns c mW2 fullShare ((dat0 m c).before 3 t0_0 d))
      ∗ ∃ Y, ⌜((dat0 m c).toRRel marked (outRel m c)).Finds 4 t0_0 Y⌝ ∗ owns c mOut fullShare Y)
    ⊢ WP c (cc0_body (F := F) mX (Memref.isWhole_whole _) mRp (Memref.isWhole_whole _) mW1 (Memref.isWhole_whole _) mW2 (Memref.isWhole_whole _) mOut (Memref.isWhole_whole _) mRb (Memref.isWhole_whole _) mSX (Memref.isWhole_whole _) mRX (Memref.isWhole_whole _) mSW (Memref.isWhole_whole _) mRW (Memref.isWhole_whole _) mY (Memref.isWhole_whole _) mRY (Memref.isWhole_whole _)
        cc0_scratch7 cc0_scratch8 cc0_scratch9 cc0_scratch10 cc0_scratch11 cc0_scratch12 cc0_scratch13 cc0_scratch14) fun _ => iprop(Post (F := F) c ∗ (dat0 m c).owesAt () (Fin.last _)
      ∗ owns c mX fullShare ((inp m).x c) ∗ owns c mRp fullShare ((inp m).rp c) ∗ owns c mW1 fullShare ((inp m).W1 c) ∗ owns c mW2 fullShare ((inp m).W2 c)
      ∗ ∃ X, ⌜OutOK (inp m) c X⌝ ∗ owns c mOut fullShare X)
  unfold Pre Scr
  iintro ⟨⟨⟨%K, HC, HG⟩, HRb, HSX, HRX, HSW, HRW, HY, HRY⟩, HO, ⟨%d0, Hx⟩, ⟨%d1, Hrp⟩, ⟨%d2, Hw1⟩, ⟨%d3, Hw2⟩, ⟨%Y, -, Hout⟩⟩
  ihave HO := (owes_out m c t0_0.castSucc (O₀ c) (owed_first m c)) $$ HO
  iapply (body_wp m c K) $$ [HC HG HRb HSX HRX HSW HRW HY HRY HO Hx Hrp Hw1 Hw2 Hout]
  isplitl [HC]; · iexact HC
  isplitl [HO]; · iexact HO
  isplitl [HG]; · iexact HG
  unfold Mem0
  isplitl [Hx]; · iapply (own_out c mX ((inp m).x c) _ fun _ h => h.trans (found0 m c d0)) $$ Hx
  isplitl [Hrp]; · iapply (own_out c mRp ((inp m).rp c) _ fun _ h => h.trans (found1 m c d1)) $$ Hrp
  isplitl [Hw1]; · iapply (own_out c mW1 ((inp m).W1 c) _ fun _ h => h.trans (found2 m c d2)) $$ Hw1
  isplitl [Hw2]; · iapply (own_out c mW2 ((inp m).W2 c) _ fun _ h => h.trans (found3 m c d3)) $$ Hw2
  isplitl [Hout]; · iexists Y; iapply (own_out c mOut Y Y fun _ h => h) $$ Hout
  isplitl [HRb]; · iexact HRb
  isplitl [HSX]; · iexact HSX
  isplitl [HRX]; · iexact HRX
  isplitl [HSW]; · iexact HSW
  isplitl [HRW]; · iexact HRW
  isplitl [HY] <;> iassumption

end Cert.KernelIdeal.Exchange

end
-- ==== Proof.Launch.lean ====
/-
  The whole run: the host's operations, the region, what the launch deals, and what every final state holds.
-/
module

public import proofs.«01_k».proof.Proof.Region
public import Idealize.ShloMosaic.Lib.Pipeline.ArrRel

@[expose] public section

noncomputable section

set_option maxRecDepth 16384

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F] [Named F]

local notation "𝕄" => MT nD τ sig Unit (Elt F) ℕ UU ℕ

open Idealize.ShloMosaic.Pipeline (Dat RDat)

variable (m : (ℓ : Loc nD τ sig) → Buf (Elt F) ℓ) (ρ : Dev nD → PrngReg)

/-! ## The region -/

abbrev adm : (p : Fin 1) → (pcfgs (F := F) p).Adm := fun p => (cfgs p).toPCfg_adm
def rdats : (p : Fin 1) → (c : Dev nD) → RDat τ (Elt F) Unit ℕ UU ℕ (Pipeline.pin (pcfgs (F := F)) adm p) c
  | 0 => fun c => (dat0 m c).toRRel marked (outRel m c)

/-- The copies' semaphores, by array and offset. -/
def osem (k : Fin 8 × Fin 15) : SemLoc sig := .dma (dsem k.1.val (k.2.val + 1))

theorem osem_facts : Pipeline.OwnSemFacts spec0 osem where
  isScoped := by decide
  inj := fun a b h => by
    have h' : dsem a.1.val (a.2.val + 1) = dsem b.1.val (b.2.val + 1) := by simpa [osem] using h
    have hv := congrArg Fin.val h'
    rw [dsem_val a.1.isLt (by omega), dsem_val b.1.isLt (by omega)] at hv
    exact Prod.ext (Fin.ext (by omega)) (Fin.ext (by omega))
  disj := fun k w s h => by
    have h' : dsem k.1.val (k.2.val + 1) = (spec0 w).sem s := by simpa [osem] using h
    have hv := congrArg Fin.val h'
    have hs : ∀ (w : Fin 5) (s : Fin (spec0 w).nbuf), ((spec0 w).sem s).val < 5 := by decide
    have := hs w s
    rw [dsem_val k.1.isLt (by omega)] at hv
    omega

/-- These counters at zero are `Zeros`. -/
theorem own_zeros (c : Dev nD) : (Pipeline.ownSems0 osem c : sProp 𝕄) = Zeros (F := F) c := by
  have e : Finset.range 8 ×ˢ Finset.Ico 1 16 = (Finset.univ : Finset (Fin 8 × Fin 15)).image fun k => (k.1.val, k.2.val + 1) := by decide
  unfold Pipeline.ownSems0 Zeros
  rw [← fam_pairs (Finset.range 8) (Finset.Ico 1 16) (fun p => (semVal (cell c p.1 p.2) 0 : sProp 𝕄)), e, bigSep_image_of_injOn]
  · rfl
  · intro a _ b _ h
    have h1 : a.1.val = b.1.val := congrArg Prod.fst h
    have h2 : a.2.val + 1 = b.2.val + 1 := congrArg Prod.snd h
    exact Prod.ext (Fin.ext h1) (Fin.ext (by omega))

/-- The launch's contents, and those after the host's operations. -/
abbrev V₀ (c : Dev nD) : Valuation τ sig (Elt F) := StableHlo.launchContents m c
abbrev V₁ (c : Dev nD) : Valuation τ sig (Elt F) := StableHlo.after hostOps0 (V₀ m c)

/-- What a device holds of the exchange when it reaches its kernel. -/
def Begin (c : Dev nD) : sProp 𝕄 :=
  iprop(∃ K, Ctx (inp m) K ∗ (bigSep Finset.univ fun d : Dev nD => reached ER (bCell d) 0) ∗ Start (F := F) c)

/-- What a device is left with: the arguments as the region found them, a result the exchange may reach, and the barrier's counter
    at zero. -/
def Done (c : Dev nD) : sProp 𝕄 :=
  iprop((((c : Thread nD τ).loc main_arg0) ↦{fullShare} V m c main_arg0) ∗ (((c : Thread nD τ).loc main_arg1) ↦{fullShare} V m c main_arg1)
    ∗ (((c : Thread nD τ).loc main_arg2) ↦{fullShare} V m c main_arg2) ∗ (((c : Thread nD τ).loc main_arg3) ↦{fullShare} V m c main_arg3)
    ∗ (∃ v : Buf (Elt F) ((c : Thread nD τ).loc main_v3), ⌜OutOK (inp m) c v⌝ ∗ (((c : Thread nD τ).loc main_v3) ↦{fullShare} v))
    ∗ semVal (bCell c) 0)

/-- The output array after the run is a result the exchange may reach. -/
theorem result_ok (c : Dev nD) (G : Buf (Elt F) ((c : Thread nD τ).loc main_v3)) (h : (rdats m 0 c).ArrAt 4 cfg0.N G) : OutOK (inp m) c G := by
  obtain ⟨X, hX, hj⟩ := RDat.ArrAt.emb_eq_of_wholeAt (w := (4 : Fin cfg0.W)) h (t₀ := t0_0) (by decide +kernel)
  have ho : OutOK (inp m) c X := (dat0 m c).toRRel_leaves (w := 4) rfl hX
  have e : G = X := funext fun j => hj j
  rw [e]; exact ho

theorem share_full (c : Dev nD) (w : Fin 5) : (rdats m 0 c).share w = fullShare := by
  show (dat0 m c).share w = fullShare
  unfold Dat.share; split <;> rfl

/-- The staging semaphores may be waited for at every point. -/
theorem waits (c : Dev nD) : (levAts L lv : sProp 𝕄) ⊢ RDat.cellsWaits (Pipeline.pin (pcfgs (F := F)) adm) (rdats m) () 0 c :=
  RDat.cellsWaits_intro (Pipeline.pin (pcfgs (F := F)) adm) (rdats m) () 0 c fun w s t => by
    have hz : ∀ (w : Fin 5) (s : Fin (spec0 w).nbuf), lv ((c : Thread nD τ), .dma ((spec0 w).sem s)) () = 0 := by
      have hs : ∀ (w : Fin 5) (s : Fin (spec0 w).nbuf), ((spec0 w).sem s).val < 5 := by decide
      intro w s; exact if_pos (hs w s)
    refine mayWait c (.dma ((spec0 w).sem s)) ((dat0 m c).owed t) ?_
    rw [hz w s]
    show Below 0 (if t.val = 0 then O₀ c else 0)
    split
    · exact below_Ow c (.inl (by decide)) (.inl (by decide)) (.inl (by decide)) (.inl (by decide)) (.inl (by decide))
    · exact Below.zero 0

/-- A whole buffer at some contents. -/
theorem any_whole (c : Dev nD) (b : Ref sig .tc) :
    (iprop(∃ f : Buf (Elt F) ((c : Thread nD τ).loc b), ((c : Thread nD τ).loc b) ↦{fullShare} f) : sProp 𝕄)
      = iprop(∃ f : Buf (Elt F) ((View.whole b).loc (c : Thread nD τ)), (View.whole b).loc (c : Thread nD τ) ↦[(View.whole b).set]{fullShare} f) := by
  rw [View.set_whole]

/-- The scoped buffers outside the windows are the scratch buffers. -/
theorem scr_eq (c : Dev nD) : (Pipeline.scopedRest (Ix := Unit) (Name := ℕ) (U := UU) (Lvl := ℕ) (Val := Elt F) spec0 c : sProp 𝕄) = Scr (F := F) c := by
  rw [scopedRest0_eq, any_whole, any_whole, any_whole, any_whole, any_whole, any_whole, any_whole]
  rfl

/-- The region as a segment of the run. -/
def reg : RDat.RegionSeg (pcfgs (F := F)) adm (rdats m) () defs₀ 𝒱₀ L lv 0 where
  win := winFacts0.to₀
  block_pos := block_pos0
  stage_whole := stage_whole0
  K := Fin 8 × Fin 15
  osem := osem
  ho := osem_facts
  hbody c := (body_obligation m c).toRRel
  hwaits c := waits m c
  pre c := iprop(StableHlo.held (c : Thread nD τ) (Pipeline.ucRefs τ sig) (V₁ m c) ∗ (Begin m c ∗ Owe (F := F) c (O₀ c)))
  post c := iprop(Done m c ∗ Owe (F := F) c 0)
  X c := iprop(∃ K, Ctx (inp m) K ∗ Ghost (F := F) c)
  Y c := semVal (bCell c) 0
  Z c := iprop((((c : Thread nD τ).loc main_arg1) ↦{fullShare} V m c main_arg1) ∗ (((c : Thread nD τ).loc main_v1) ↦{fullShare} V m c main_v1))
  hentry c := by
    rw [own_zeros, Pipeline.prefHeld_of_none _ rfl, ← unscopedRest0_eq c (V m c),
      RDat.arrays_eq (pcfgs (F := F)) adm (rdats m) 0 c arr_whole0 (share_full m c)]
    have hsplit := Pipeline.unscopedBufs_split (Ix := Unit) (Name := ℕ) (U := UU) (Lvl := ℕ) cfgs 0 winFacts0.arr_unscoped winFacts0.arr_inj c (V m c)
    have hheld : (unscopedBufs c (V m c) : sProp 𝕄) = StableHlo.held (c : Thread nD τ) (Pipeline.ucRefs τ sig) (V₁ m c) :=
      Pipeline.unscopedBufs_held (Ix := Unit) (Name := ℕ) (U := UU) (Lvl := ℕ) c (V₁ m c)
    rw [← hheld, hsplit]
    unfold Begin
    iintro ⟨⟨⟨Ha, Hrest⟩, ⟨%K, #HC, Hr, HS⟩, HO⟩, Hz, -⟩
    imod (start_open (inp m) K c) $$ [Hr HS Hz] with HG
    · isplitr; · iexact HC
      isplitl [Hr]; · iexact Hr
      isplitl [HS] <;> iassumption
    imodintro
    isplitl [Ha]; · iexact Ha
    isplitr; · iempintro
    isplitl [HO]; · iapply (owes_in m c 0 (O₀ c) (owed_first m c)); iexact HO
    isplitl [HG]
    · iexists K; isplitr; · iexact HC
      iexact HG
    iexact Hrest
  hin c := by
    show _ ⊢ Pre m c
    rw [scr_eq]
    unfold Pre
    iintro ⟨HX, -, HR⟩
    isplitl [HX] <;> iassumption
  hout c := by
    show Post (F := F) c ⊢ _
    rw [own_zeros, scr_eq]
    unfold Post
    exact .rfl
  hexit c := by
    rw [RDat.arraysAt_eq (pcfgs (F := F)) adm (rdats m) 0 c arr_whole0 (share_full m c)]
    show iprop((bigSep Finset.univ fun w : Fin 5 => iprop(∃ G, ⌜(rdats m 0 c).ArrAt w cfg0.N G⌝ ∗ (((c : Thread nD τ).loc (Pipeline.arrRef spec0 w)) ↦{fullShare} G)))
      ∗ (dat0 m c).owesAt () (Fin.last _) ∗ semVal (bCell c) 0
      ∗ (((c : Thread nD τ).loc main_arg1) ↦{fullShare} V m c main_arg1) ∗ (((c : Thread nD τ).loc main_v1) ↦{fullShare} V m c main_v1))
      ⊢ (|={Set.univ}=> iprop(Done m c ∗ Owe (F := F) c 0) : sProp 𝕄)
    rw [bigSep_W0]
    unfold Done
    iintro ⟨⟨⟨%G0, %h0, H0⟩, -, ⟨%G2, %h2, H2⟩, ⟨%G3, %h3, H3⟩, ⟨%G4, %h4, H4⟩⟩, HO, Hb, H1, -⟩
    have e0 : G0 = V m c main_arg0 := (congrFun (RDat.ArrAt_in (rdats m 0 c) 0 rfl cfg0.N) G0).mp h0
    have e2 : G2 = V m c main_arg2 := (congrFun (RDat.ArrAt_in (rdats m 0 c) 2 rfl cfg0.N) G2).mp h2
    have e3 : G3 = V m c main_arg3 := (congrFun (RDat.ArrAt_in (rdats m 0 c) 3 rfl cfg0.N) G3).mp h3
    imodintro
    isplitr [HO]
    · isplitl [H0]; · rw [← e0]; iexact H0
      isplitl [H1]; · iexact H1
      isplitl [H2]; · rw [← e2]; iexact H2
      isplitl [H3]; · rw [← e3]; iexact H3
      isplitl [H4]
      · iexists G4; isplitr; · ipureintro; exact result_ok m c G4 h4
        iexact H4
      iexact Hb
    iapply (owes_out m c (Fin.last _) 0 (owed_last m c)); iexact HO

/-- The host's operations as a segment of the run. -/
def seg : Pipeline.HostSeg (Name := ℕ) (U := UU) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (List.forall_iff_forall_mem.mp hostOps0_fresh) (V₀ m) fun c => iprop(Begin m c ∗ Owe (F := F) c (O₀ c))

def segs : List (RDat.Seg (pcfgs (F := F)) adm (rdats m) () defs₀ 𝒱₀ L lv) := [.host (seg m), .region (reg m)]

theorem main_is (c : Dev nD) : main (F := F) c = RDat.Seg.run (segs m) := by
  unfold segs
  simp only [RDat.Seg.run]
  rw [show (seg m).prog = StableHlo.seq hostOps0 from rfl]
  rfl

/-! ## The launch -/

/-- The exchange's launch element: the barrier cells live, the copies' dormant, every token. -/
def xLaunch : UX := launchOf bCells dCells (bToks ∪ dToks)
def uLaunch : UU := (initOf (Pipeline.cells (Pipeline.pin (pcfgs (F := F)) adm) cellOf_inj) (Pipeline.launchToks (Pipeline.pin (pcfgs (F := F)) adm) cellOf_inj), xLaunch)

/-- A resource of the whole launch, dealt to device 0. -/
def only0 (X : sProp 𝕄) (c : Dev nD) : sProp 𝕄 := if c = 0 then X else iprop(emp)
theorem only0_all (X : sProp 𝕄) : bigSep Finset.univ (only0 X) = X := by
  rw [bigSep_univ_at _ (0 : Dev nD), bigSep_congr (s := Finset.univ.erase 0) (Ψ := fun _ => BI.emp)
    fun c hc => by unfold only0; rw [if_neg (Finset.ne_of_mem_erase hc)]; rfl, BI.bigSep_emp_const]
  unfold only0; rw [if_pos rfl]
  exact BI.equiv_iff.mp sep_emp

theorem unscopedSems0_is (c : Dev nD) : (unscopedSems0 c : sProp 𝕄) = semVal (bCell c) 0 := by
  unfold unscopedSems0
  rw [show (Finset.univ.filter fun sm : SemLoc sig => ¬ sm.isScoped .tc) = {SemLoc.reg barrier0} from by decide, BI.bigSep_singleton]

/-- What is dealt to one device, the cells apart. -/
def Dealt (c : Dev nD) : sProp 𝕄 :=
  iprop(StableHlo.held (c : Thread nD τ) (Pipeline.ucRefs τ sig) (V₀ m c) ∗ Creds (F := F) c ∗ Owe (F := F) c (O₀ c))

theorem dealt (c : Dev nD) (g : PrngReg) (G : sProp 𝕄) :
    iprop(unscopedBufs c (fun b => m ((c : Thread nD τ).loc b)) ∗ unscopedSems0 c
          ∗ owes (c : Thread nD τ) (O₀ c) ∅ ∗ Pipeline.launchCred O₀ c ∗ prngReg c g ∗ G)
      ⊢ iprop(Dealt m c ∗ (semVal (bCell c) 0 ∗ G)) := by
  have hh : (unscopedBufs c (fun b => m ((c : Thread nD τ).loc b)) : sProp 𝕄) = StableHlo.held (c : Thread nD τ) (Pipeline.ucRefs τ sig) (V₀ m c) :=
    Pipeline.unscopedBufs_held (Ix := Unit) (Name := ℕ) (U := UU) (Lvl := ℕ) c (V₀ m c)
  rw [hh, unscopedSems0_is]
  unfold Dealt Owe
  iintro ⟨Hh, Hs, HO, Hcr, -, HG⟩
  isplitl [Hh HO Hcr]
  · isplitl [Hh]; · iexact Hh
    isplitl [Hcr]; · iapply (creds (F := F) c); iexact Hcr
    iexists ∅; iexact HO
  isplitl [Hs] <;> iassumption

/-- What every device shares, at the names `K`. -/
def Shared (K : GSem nD τ sig → ℕ) : sProp 𝕄 := iprop(Ctx (inp m) K ∗ bigSep Finset.univ fun d : Dev nD => reached ER (bCell d) 0)
instance (K : GSem nD τ sig → ℕ) : BI.Persistent (Shared m K) := by unfold Shared; infer_instance

/-- What a device starts with. -/
def Init (c : Dev nD) : sProp 𝕄 :=
  iprop(StableHlo.held (c : Thread nD τ) (Pipeline.ucRefs τ sig) (V₀ m c) ∗ (Begin m c ∗ Owe (F := F) c (O₀ c)))

theorem init_of (K : GSem nD τ sig → ℕ) (c : Dev nD) :
    iprop(Shared m K ∗ ((Rights (F := F) c ∗ atPos ER (bCell c) 0 ∅ 0 ∗ Opens (F := F) c) ∗ Dealt m c)) ⊢ Init m c := by
  unfold Shared Init Begin Dealt Start
  iintro ⟨⟨#HC, #Hr⟩, ⟨HR, Hat, Hop⟩, Hh, Hcr, HO⟩
  isplitl [Hh]; · iexact Hh
  isplitr [HO]
  · iexists K
    isplitr; · iexact HC
    isplitr; · iexact Hr
    isplitl [HR]; · iexact HR
    isplitl [Hcr]; · iexact Hcr
    isplitl [Hat] <;> iassumption
  iexact HO

/-- The cells' invariants as the context every device reads. -/
theorem shared_of (K : GSem nD τ sig → ℕ) :
    iprop(bigSep (bCells ∪ dCells) (fun g => cellInv ER (talkRd (inp m)) (K g) g) ∗ bigSep bCells (fun g => reached ER g 0) ∗ levAts L lv)
      ⊢ (Shared m K : sProp 𝕄) := by
  unfold Shared Ctx Lev
  have e : (bigSep (bCells ∪ dCells) (fun g => cellInv ER (talkRd (inp m)) (K g) g) : sProp 𝕄)
      = iprop((bigSep Finset.univ fun c : Dev nD => cellInv ER (talkRd (inp m)) (K (bCell c)) (bCell c))
        ∗ bigSep cellIx fun p => cellInv ER (talkRd (inp m)) (K (cell p.1 p.2.1 p.2.2)) (cell p.1 p.2.1 p.2.2)) :=
    (bigSep_union cells_disjoint).trans (congrArg₂ _ (bCells_eq _) (dCells_eq _))
  rw [e, bCells_eq]
  iintro ⟨⟨H1, H2⟩, H3, H4⟩
  isplitr [H3]
  · isplitl [H1]; · iexact H1
    isplitl [H2] <;> iassumption
  iexact H3

/-- What the launch deals makes every device's start. -/
theorem init_all :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ only0 (BI.own (ER xLaunch)) c)) ∗ levAts L lv)
      ⊢ (|={Set.univ}=> bigSep Finset.univ (Init m) : sProp 𝕄) := by
  iintro ⟨H, HL⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ only0 (BI.own (ER xLaunch)) c))
      ⊢ (bigSep Finset.univ fun c : Dev nD => iprop(Dealt m c ∗ (semVal (bCell c) 0 ∗ only0 (BI.own (ER xLaunch)) c)) : sProp 𝕄) from
        bigSep_mono fun c _ => dealt m c (ρ c) _) $$ H
  ihave H2 := Smoke.bigSep_unpair $$ H'; icases H2 with ⟨HD, H3⟩
  ihave H4 := Smoke.bigSep_unpair $$ H3; icases H4 with ⟨Hv, HG⟩
  ihave Hu := (show bigSep Finset.univ (only0 (F := F) (BI.own (ER xLaunch))) ⊢ BI.own (ER (launchOf bCells dCells (bToks ∪ dToks))) from
    Entails.of_eq (only0_all (F := F) _)) $$ HG
  imod (Rounds.fund_launch ER (talkRd (inp m)) cells_disjoint (fun g _ h => h) (bToks ∪ dToks)) $$ [Hv Hu] with ⟨%K, -, Hinv, Hr, Hat, Hop, Htok⟩
  · isplitl [Hv]
    · rw [bCells_eq]; iexact Hv
    · iexact Hu
  imodintro
  ihave #HS := (shared_of m K) $$ [Hinv Hr HL]
  · isplitl [Hinv]; · iexact Hinv
    isplitl [Hr] <;> iassumption
  iapply (bigSep_with_persistent (R := Shared m K) (Φ := fun c => iprop((Rights (F := F) c ∗ atPos ER (bCell c) 0 ∅ 0 ∗ Opens (F := F) c) ∗ Dealt m c)) fun c _ => init_of m K c)
  isplitr; · iexact HS
  iapply Smoke.bigSep_pair
  isplitr [HD]
  · iapply Smoke.bigSep_pair
    isplitl [Htok]
    · iapply (rights_all (F := F))
      iapply (Entails.of_eq (bigSep_union toks_disjoint)) $$ Htok
    iapply Smoke.bigSep_pair
    isplitl [Hat]; · iapply (Entails.of_eq (bCells_eq fun g => (atPos ER g 0 ∅ 0 : sProp 𝕄))) $$ Hat
    iapply (Entails.of_eq ((dCells_eq fun g => (openTok ER g : sProp 𝕄)).trans (cellIx_eq fun c a o => (openTok ER (cell c a o) : sProp 𝕄)))) $$ Hop
  · iexact HD

theorem unscoped_is : ∀ sm : SemLoc sig, sm.isScoped .tc = false → sm = .reg barrier0 := by decide

set_option backward.isDefEq.respectTransparency.types false in
/-- **The run.** From any memory with every counter at zero, every weakly fair execution ends, and every final state holds the
    arguments unchanged, on each device a result the exchange may reach, and every counter at zero. -/
theorem run_main : θ_run defs (onTc (τ := τ) (main (F := F))) (s₀ m ρ)
    (fun r => (∀ c : Dev nD,
        r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ OutOK (inp m) c (r.2.mem ((c : Thread nD τ).loc main_v3))) ∧ r.2.sem = fun _ => 0) :=
  RDat.θ_run_regions_kit_sems (pcfgs (F := F)) adm (rdats m) () cellOf_inj EP defs₀ 𝒱₀ L lv m ρ main (segs m)
    (fun c Q => by rw [main_is m c])
    (by simp only [segs, RDat.Seg.pipes_host, RDat.Seg.pipes_region, RDat.Seg.pipes_nil]; decide)
    (O₀ := O₀) (hL := L_of_ne) (G := only0 (BI.own (ER xLaunch))) (u₀ := uLaunch)
    (hu₀ := by
      unfold uLaunch
      iintro Hu
      ihave H := (ownU_pair _ _) $$ Hu
      icases H with ⟨HP, HX⟩
      imodintro
      isplitl [HP]; · iexact HP
      rw [only0_all]; iexact HX)
    (T₀ := Init m) (Tₙ := Done m)
    (hch := ⟨fun c => .rfl, fun c => .rfl, fun c => .rfl⟩)
    (hinit := init_all m ρ)
    (QY := fun c s => (s.mem ((c : Thread nD τ).loc main_arg0) = V m c main_arg0 ∧ s.mem ((c : Thread nD τ).loc main_arg1) = V m c main_arg1
      ∧ s.mem ((c : Thread nD τ).loc main_arg2) = V m c main_arg2 ∧ s.mem ((c : Thread nD τ).loc main_arg3) = V m c main_arg3
      ∧ OutOK (inp m) c (s.mem ((c : Thread nD τ).loc main_v3))) ∧ s.sem (bCell c) = 0)
    (hfin := fun c s' => by
      unfold Done
      iintro ⟨⟨H0, H1, H2, H3, ⟨%v, %hv, H4⟩, Hb⟩, HSI⟩
      icombine HSI H0 gives %h0
      icombine HSI H1 gives %h1
      icombine HSI H2 gives %h2
      icombine HSI H3 gives %h3
      icombine HSI H4 gives %h4
      icombine HSI Hb gives %hb
      imodintro
      isplitr
      · ipureintro
        refine ⟨⟨Buf.eq_of_forall_mem_univ h0, Buf.eq_of_forall_mem_univ h1, Buf.eq_of_forall_mem_univ h2, Buf.eq_of_forall_mem_univ h3, ?_⟩, by simpa using hb⟩
        rw [Buf.eq_of_forall_mem_univ h4]; exact hv
      iexact HSI)
    (hQ := fun s h hs => ⟨fun c => by
        obtain ⟨⟨h0, h1, h2, h3, h4⟩, -⟩ := h c
        exact ⟨h0.trans (V_main_arg0 m c), h1.trans (V_main_arg1 m c), h2.trans (V_main_arg2 m c), h3.trans (V_main_arg3 m c), h4⟩,
      sem_eq_zero hs fun c sm hsm => by
        obtain rfl := unscoped_is sm hsm
        exact (h c).2⟩)

end Cert.KernelIdeal.Exchange

end
-- ==== Proof.Frames.lean ====
/-
  The frames: the kernel's run at the machine's floats and at the ideal ones, and the reference's run.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

set_option maxRecDepth 16384

namespace Cert.Frames

open Idealize.ShloMosaic Idealize.ShloMosaic.TcCoe Idealize.SL.Sem

/-- At the machine's floats a named constant is the constant itself. -/
instance namedBits : Named Bits where
  named _ _ {φ} b := FloatOps.ofBits φ b

/-- The frame of the kernel at the ideal floats. -/
theorem frame_ideal : Cert.quiescent_KernelIdeal := fun m ρ _ =>
  (θ_run (Cert.KernelIdeal.defs (F := Ideal)) _ _).mono
    (fun _ h => ⟨fun c => ⟨(h.1 c).1, (h.1 c).2.1, (h.1 c).2.2.1, (h.1 c).2.2.2.1⟩, h.2⟩)
    (Cert.KernelIdeal.Exchange.run_main (F := Ideal) m ρ)

/-- What the frame says, of the idealized text read at the machine's floats. -/
theorem frame_bits (m : (ℓ : Loc Cert.KernelIdeal.nD Cert.KernelIdeal.τ Cert.KernelIdeal.sig) → Buf (Elt Bits) ℓ)
    (ρ : Dev Cert.KernelIdeal.nD → PrngReg) :
    θ_run (Cert.KernelIdeal.defs (F := Bits)) (onTc (τ := Cert.KernelIdeal.τ) (Cert.KernelIdeal.main (F := Bits)))
      ⟨m, fun _ => 0, ρ⟩ (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
        ∧ r.2.sem = fun _ => 0) :=
  (θ_run (Cert.KernelIdeal.defs (F := Bits)) _ _).mono
    (fun _ h => ⟨fun c => ⟨(h.1 c).1, (h.1 c).2.1, (h.1 c).2.2.1, (h.1 c).2.2.2.1⟩, h.2⟩)
    (Cert.KernelIdeal.Exchange.run_main (F := Bits) m ρ)

/-- The kernel's body and the idealized one are the same program at the machine's floats. -/
theorem body_eq : Cert.Kernel.cc0_body (F := Bits) = Cert.KernelIdeal.cc0_body (F := Bits) := rfl

/-- So are the two body tables, label by label. -/
theorem defs₀_eq : Cert.Kernel.defs₀ (F := Bits) = Cert.KernelIdeal.defs₀ (F := Bits) := by
  unfold Cert.Kernel.defs₀ Cert.KernelIdeal.defs₀
  refine congrArg _ ?_
  funext ℓ
  match ℓ with
  | 0 => rfl

/-- So are the tables with the pipeline's own labels. -/
theorem defs_eq : Cert.Kernel.defs (F := Bits) = Cert.KernelIdeal.defs (F := Bits) :=
  congrArg (Pipeline.defs Cert.Kernel.pcfgs) defs₀_eq

/-- The frame of the kernel at the machine's floats: the same text, a named constant read as its bits. -/
theorem frame_kernel : Cert.quiescent_Kernel := by
  intro m ρ _
  rw [defs_eq]
  exact frame_bits m ρ

/-- The frame of the reference. -/
theorem frame_reference : Cert.quiescent_ReferenceIdeal := fun m ρ _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m ρ)

/-- The mask's constant is named, and its name stands for minus infinity at the ideal floats. -/
theorem preserves : Cert.preserves_Kernel_KernelIdeal :=
  IdealRules.named_const.statement Cert.KernelIdeal.κ "mask" .f32 0xF149F2CA#32 ⊥ rfl

end Cert.Frames

end
-- ==== Proof.Choice.lean ====
/-
  One token's choice of experts, over the extended reals: the largest gate, the largest of the rest, and the weight each expert gets.
  `Plain` is the case in which two experts stand out, and there the weights are those of the softmax over the two.
-/
module

public import Idealize.ShloMosaic.PureOps.Ideal.Laws

@[expose] public section

noncomputable section

namespace Cert.Moe

open Idealize.ShloMosaic
open scoped Classical

/-- Expert `j` of device `q`. -/
def ex (q : Fin 16) (j : Fin 2) : Fin 32 := ⟨q.val * 2 + j.val, by omega⟩

/-- The device of an expert, and which of its two experts it is. -/
def dev (e : Fin 32) : Fin 16 := ⟨e.val / 2, by omega⟩
def slot (e : Fin 32) : Fin 2 := ⟨e.val % 2, by omega⟩

theorem dev_ex (q : Fin 16) (j : Fin 2) : dev (ex q j) = q := Fin.ext (by simp only [dev, ex]; omega)
theorem slot_ex (q : Fin 16) (j : Fin 2) : slot (ex q j) = j := Fin.ext (by simp only [slot, ex]; omega)

/-- The largest of finitely many values. -/
def most {ι : Type} [Fintype ι] (g : ι → EReal) : EReal := Finset.univ.fold max ⊥ g

theorem most_le {ι : Type} [Fintype ι] {g : ι → EReal} {c : EReal} : most g ≤ c ↔ ∀ i, g i ≤ c := by
  unfold most; rw [Finset.fold_max_le]; simp

theorem le_most {ι : Type} [Fintype ι] (g : ι → EReal) (i : ι) : g i ≤ most g := most_le.1 le_rfl i

/-- A value some member takes and no member passes is the largest. -/
theorem most_eq {ι : Type} [Fintype ι] {g : ι → EReal} {c : EReal} (i : ι) (hi : g i = c) (h : ∀ k, g k ≤ c) : most g = c :=
  le_antisymm (most_le.2 h) (hi ▸ le_most g i)

/-- Members at `⊥` outside the image of a map do not count. -/
theorem most_comp {ι κ : Type} [Fintype ι] [Fintype κ] (f : κ → EReal) (φ : ι → κ) (h : ∀ k, (∃ i, φ i = k) ∨ f k = ⊥) :
    most f = most (fun i => f (φ i)) := by
  refine le_antisymm (most_le.2 fun k => ?_) (most_le.2 fun i => le_most f (φ i))
  rcases h k with ⟨i, rfl⟩ | h0
  · exact le_most (fun i => f (φ i)) i
  · rw [h0]; exact bot_le

section
variable {ι : Type} [Fintype ι] (g : ι → EReal)

/-- The largest gate, and the largest of those below it. -/
def first : EReal := most g
def second : EReal := most fun e => if first g ≤ g e then ⊥ else g e

/-- The kernel's weight of an expert: its share if it holds the largest gate, plus its share if it holds the second. -/
def wt (e : ι) : EReal :=
  (if g e = first g then Ideal.div 1 (1 + Ideal.exp (second g - first g)) else 0)
    + if g e = second g then Ideal.div (Ideal.exp (second g - first g)) (1 + Ideal.exp (second g - first g)) else 0

theorem second_le : second g ≤ first g := by
  refine most_le.2 fun e => ?_
  split
  · exact bot_le
  · exact le_most g e

/-- Among more columns, of which the others hold nothing, the choice is the same. -/
theorem first_comp {κ : Type} [Fintype κ] (f : κ → EReal) (φ : ι → κ) (h : ∀ k, (∃ i, φ i = k) ∨ f k = ⊥) :
    first f = first fun i => f (φ i) := most_comp f φ h
theorem second_comp {κ : Type} [Fintype κ] (f : κ → EReal) (φ : ι → κ) (h : ∀ k, (∃ i, φ i = k) ∨ f k = ⊥) :
    second f = second fun i => f (φ i) := by
  unfold second
  rw [first_comp f φ h]
  refine most_comp _ φ fun k => ?_
  rcases h k with hk | hk
  · exact Or.inl hk
  · exact Or.inr (by rw [hk, ite_self])
theorem wt_comp {κ : Type} [Fintype κ] (f : κ → EReal) (φ : ι → κ) (h : ∀ k, (∃ i, φ i = k) ∨ f k = ⊥) (i : ι) :
    wt f (φ i) = wt (fun i => f (φ i)) i := by
  unfold wt
  rw [first_comp f φ h, second_comp f φ h]

end

variable (g : Fin 32 → EReal)

/-- The token goes to device `q`: its two experts' weights are not nothing. -/
def Goes (q : Fin 16) : Prop := 0 < wt g (ex q 0) + wt g (ex q 1)

/-- A token goes only where one of the two experts has at least the second gate. -/
theorem goes_second {q : Fin 16} (h : Goes g q) : ∃ j, second g ≤ g (ex q j) := by
  by_contra hn
  have hz : ∀ j, wt g (ex q j) = 0 := fun j => by
    have hj : ¬second g ≤ g (ex q j) := fun h' => hn ⟨j, h'⟩
    unfold wt
    rw [if_neg (fun e : g (ex q j) = first g => hj (e ▸ second_le g)), if_neg (fun e : g (ex q j) = second g => hj e.ge), zero_add]
  unfold Goes at h
  rw [hz, hz, zero_add] at h
  exact lt_irrefl _ h

/-- Expert `a` holds the largest gate, finite; expert `b` the second; every other gate is below. -/
structure Plain (a b : Fin 32) : Prop where
  ne : a ≠ b
  fin : g a < ⊤
  gap : g b < g a
  rest : ∀ e, e ≠ a → e ≠ b → g e < g b

variable {g} {a b : Fin 32} (h : Plain g a b)
include h

theorem Plain.first_eq : first g = g a := by
  refine most_eq a rfl fun k => ?_
  by_cases ha : k = a
  · rw [ha]
  · by_cases hb : k = b
    · rw [hb]; exact h.gap.le
    · exact ((h.rest k ha hb).trans h.gap).le

theorem Plain.second_eq : second g = g b := by
  refine most_eq b (if_neg (by rw [h.first_eq]; exact not_le.2 h.gap)) fun k => ?_
  split
  · exact bot_le
  · next hk =>
    by_cases ha : k = a
    · exact absurd (by rw [h.first_eq, ha]) hk
    · by_cases hb : k = b
      · rw [hb]
      · exact (h.rest k ha hb).le

theorem Plain.bot_lt : ⊥ < g b := by
  obtain ⟨e, he, he'⟩ : ∃ e : Fin 32, e ≠ a ∧ e ≠ b :=
    (by decide : ∀ a b : Fin 32, ∃ e : Fin 32, e ≠ a ∧ e ≠ b) a b
  exact lt_of_le_of_lt bot_le (h.rest e he he')

/-- The two gates are real numbers. -/
theorem Plain.reals : ∃ x y : ℝ, g a = (x : EReal) ∧ g b = (y : EReal) := by
  have h1 : g a ≠ ⊤ := h.fin.ne
  have h2 : g b ≠ ⊥ := h.bot_lt.ne'
  have h3 : g a ≠ ⊥ := (h.bot_lt.trans h.gap).ne'
  have h4 : g b ≠ ⊤ := (h.gap.trans h.fin).ne
  exact ⟨(g a).toReal, (g b).toReal, (EReal.coe_toReal h1 h3).symm, (EReal.coe_toReal h4 h2).symm⟩

omit h in
theorem div_coe (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

/-- The softmax over the two gates, as real numbers: the sum of the two exponentials is `den`. -/
theorem Plain.shares : ∃ d : ℝ, 0 < d ∧ Ideal.exp (g b - g a) = (d : EReal) ∧ Ideal.exp (g a - g a) = 1
    ∧ (1 : EReal) + Ideal.exp (g b - g a) = ((1 + d : ℝ) : EReal)
    ∧ Ideal.div 1 (1 + Ideal.exp (g b - g a)) = ((1 / (1 + d) : ℝ) : EReal)
    ∧ Ideal.div (Ideal.exp (g b - g a)) (1 + Ideal.exp (g b - g a)) = ((d / (1 + d) : ℝ) : EReal) := by
  obtain ⟨x, y, hx, hy⟩ := h.reals
  refine ⟨Real.exp (y - x), Real.exp_pos _, ?_⟩
  have e1 : Ideal.exp (g b - g a) = (Real.exp (y - x) : EReal) := by
    rw [hx, hy, ← EReal.coe_sub, Ideal.exp_coe]
  have e2 : Ideal.exp (g a - g a) = 1 := by
    rw [hx, ← EReal.coe_sub, Ideal.exp_coe, sub_self, Real.exp_zero, EReal.coe_one]
  have e3 : (1 : EReal) + Ideal.exp (g b - g a) = ((1 + Real.exp (y - x) : ℝ) : EReal) := by
    rw [e1, EReal.coe_add, EReal.coe_one]
  have hp := Real.exp_pos (y - x)
  refine ⟨e1, e2, e3, ?_, ?_⟩
  · rw [e3, ← EReal.coe_one, div_coe _ _ (by positivity)]
  · rw [e3, e1, div_coe _ _ (by positivity)]

/-- The largest gate's expert gets its share, the second's its own, and no other gets any. -/
theorem Plain.wt_first : wt g a = Ideal.div 1 (1 + Ideal.exp (g b - g a)) := by
  unfold wt
  rw [h.first_eq, h.second_eq, if_pos rfl, if_neg h.gap.ne', add_zero]
theorem Plain.wt_second : wt g b = Ideal.div (Ideal.exp (g b - g a)) (1 + Ideal.exp (g b - g a)) := by
  unfold wt
  rw [h.first_eq, h.second_eq, if_neg h.gap.ne, if_pos rfl, zero_add]
theorem Plain.wt_rest {e : Fin 32} (ha : e ≠ a) (hb : e ≠ b) : wt g e = 0 := by
  have := h.rest e ha hb
  unfold wt
  rw [h.first_eq, h.second_eq, if_neg (this.trans h.gap).ne, if_neg this.ne, zero_add]

/-- A weight is a real number, not negative. -/
theorem Plain.wt_real (e : Fin 32) : ∃ w : ℝ, 0 ≤ w ∧ wt g e = (w : EReal) := by
  obtain ⟨d, hd, -, -, -, h1, h2⟩ := h.shares
  by_cases ha : e = a
  · exact ⟨1 / (1 + d), by positivity, by rw [ha, h.wt_first, h1]⟩
  · by_cases hb : e = b
    · exact ⟨d / (1 + d), by positivity, by rw [hb, h.wt_second, h2]⟩
    · exact ⟨0, le_rfl, by rw [h.wt_rest ha hb, EReal.coe_zero]⟩

/-- Where a plain token does not go, both weights are nothing. -/
theorem Plain.not_goes {q : Fin 16} (hq : ¬Goes g q) (j : Fin 2) : wt g (ex q j) = 0 := by
  obtain ⟨w0, h0, e0⟩ := h.wt_real (ex q 0)
  obtain ⟨w1, h1, e1⟩ := h.wt_real (ex q 1)
  unfold Goes at hq
  rw [e0, e1, ← EReal.coe_add, ← EReal.coe_zero, EReal.coe_lt_coe_iff, not_lt] at hq
  have z0 : w0 = 0 := by linarith
  have z1 : w1 = 0 := by linarith
  match j with
  | 0 => rw [e0, z0, EReal.coe_zero]
  | 1 => rw [e1, z1, EReal.coe_zero]

/-- A weight may be moved across a sum. -/
theorem Plain.sum_mul_wt {ι : Type} (s : Finset ι) (y : ι → EReal) (e : Fin 32) :
    (∑ i ∈ s, y i) * wt g e = ∑ i ∈ s, y i * wt g e := by
  obtain ⟨w, hw, ew⟩ := h.wt_real e
  rw [ew]
  induction s using Finset.induction_on with
  | empty => simp
  | insert i s hi ih =>
    rw [Finset.sum_insert hi, Finset.sum_insert hi, ← ih,
      EReal.right_distrib_of_nonneg_of_ne_top (by exact_mod_cast hw) (EReal.coe_ne_top w)]

end Cert.Moe
-- ==== Proof.Places.lean ====
/-
  The places a block of tokens takes on the devices it goes to, over any relation "token `s` goes to device `q`": a token's place is
  the number of earlier tokens which go there too, and the table of places both gathers the tokens and puts the results back.
-/
module

public import proofs.«01_k».proof.Proof.Choice

@[expose] public section

noncomputable section

namespace Cert.Moe

open Idealize.ShloMosaic
open scoped Classical

/-- One where the proposition holds, nothing elsewhere. -/
def ind (p : Prop) : EReal := if p then 1 else 0

theorem ind_pos {p : Prop} (h : p) : ind p = 1 := if_pos h
theorem ind_neg {p : Prop} (h : ¬p) : ind p = 0 := if_neg h

variable (S : Fin 32 → Fin 16 → Prop)

/-- How many earlier tokens go to the device. -/
def earlier (q : Fin 16) (s : Fin 32) : ℕ := (Finset.univ.filter fun s' => s' < s ∧ S s' q).card

/-- Token `s` sits at place `p` of device `q`. -/
def place (q p : Fin 16) (s : Fin 32) : EReal := ind (p.val = earlier S q s) * ind (S s q)

theorem earlier_le (q : Fin 16) (s : Fin 32) : earlier S q s ≤ 32 := by
  unfold earlier
  exact (Finset.card_le_univ _).trans (by simp)

theorem earlier_mono {S' : Fin 32 → Fin 16 → Prop} {q : Fin 16} (h : ∀ s, S s q → S' s q) (s : Fin 32) :
    earlier S q s ≤ earlier S' q s := by
  unfold earlier
  refine Finset.card_le_card fun x hx => ?_
  rw [Finset.mem_filter] at hx ⊢
  exact ⟨hx.1, hx.2.1, h x hx.2.2⟩

theorem earlier_lt {q : Fin 16} {s s' : Fin 32} (h : s < s') (hs : S s q) : earlier S q s < earlier S q s' := by
  unfold earlier
  refine Finset.card_lt_card ⟨fun x hx => ?_, fun hsub => ?_⟩
  · rw [Finset.mem_filter] at hx ⊢
    exact ⟨hx.1, hx.2.1.trans h, hx.2.2⟩
  · have := hsub (Finset.mem_filter.2 ⟨Finset.mem_univ s, h, hs⟩)
    rw [Finset.mem_filter] at this
    exact lt_irrefl _ this.2.1

/-- Two tokens of one device do not share a place. -/
theorem earlier_inj {q : Fin 16} {s s' : Fin 32} (hs : S s q) (hs' : S s' q) (h : earlier S q s = earlier S q s') : s = s' := by
  rcases lt_trichotomy s s' with hl | he | hl
  · exact absurd h (earlier_lt S hl hs).ne
  · exact he
  · exact absurd h (earlier_lt S hl hs').ne'

/-- A sum of indicators is a count. -/
theorem sum_ind {ι : Type} (s : Finset ι) (p : ι → Prop) [DecidablePred p] : ∑ i ∈ s, ind (p i) = (((s.filter p).card : ℝ) : EReal) := by
  induction s using Finset.induction_on with
  | empty => simp
  | insert i s hi ih =>
    rw [Finset.sum_insert hi, ih, Finset.filter_insert]
    by_cases h : p i
    · rw [if_pos h, Finset.card_insert_of_notMem (fun hm => hi (Finset.mem_filter.1 hm).1), ind_pos h, ← EReal.coe_one,
        ← EReal.coe_add]
      congr 1
      push_cast
      ring
    · rw [if_neg h, ind_neg h, zero_add]

theorem ind_mul_ind (p q : Prop) : ind p * ind q = ind (q ∧ p) := by
  by_cases hp : p <;> by_cases hq : q <;> simp [ind, hp, hq]

theorem sum_before (q : Fin 16) (s : Fin 32) :
    ∑ s', ind (S s' q) * ind (s' < s) = ((earlier S q s : ℝ) : EReal) := by
  unfold earlier
  rw [← sum_ind]
  exact Finset.sum_congr rfl fun s' _ => ind_mul_ind _ _

variable {S}

/-- Gathering: at its own place of a device it goes to, a token finds itself. -/
theorem sum_place {q p : Fin 16} {s : Fin 32} (hs : S s q) (hp : p.val = earlier S q s) (x : Fin 32 → EReal) :
    ∑ s', place S q p s' * x s' = x s := by
  rw [Finset.sum_eq_single s]
  · unfold place; rw [ind_pos hp, ind_pos hs, one_mul, one_mul]
  · intro s' _ hne
    unfold place
    by_cases hs' : S s' q
    · rw [ind_neg (fun e => hne (earlier_inj S hs' hs (e.symm.trans hp))), zero_mul, zero_mul]
    · rw [ind_neg hs', mul_zero, zero_mul]
  · intro h; exact absurd (Finset.mem_univ s) h

/-- Putting back: a token takes, of a device it goes to, what lies at its place. -/
theorem place_sum {q p : Fin 16} {s : Fin 32} (hs : S s q) (hp : p.val = earlier S q s) (y : Fin 16 → EReal) :
    ∑ p', place S q p' s * y p' = y p := by
  rw [Finset.sum_eq_single p]
  · unfold place; rw [ind_pos hp, ind_pos hs, one_mul, one_mul]
  · intro p' _ hne
    unfold place
    rw [ind_neg (fun e => hne (Fin.ext (e.trans hp.symm))), zero_mul, zero_mul]
  · intro h; exact absurd (Finset.mem_univ p) h

/-- … and nothing of a device it does not go to. -/
theorem place_sum_not {q : Fin 16} {s : Fin 32} (hs : ¬S s q) (y : Fin 16 → EReal) : ∑ p', place S q p' s * y p' = 0 := by
  refine Finset.sum_eq_zero fun p _ => ?_
  unfold place
  rw [ind_neg hs, mul_zero, zero_mul]

/-! ## Sums over blocks -/

theorem sum_256 (f : Fin 16 → Fin 16 → EReal) :
    ∑ x : Fin 256, f ⟨x.val / 16, by omega⟩ ⟨x.val % 16, by omega⟩ = ∑ q, ∑ p, f q p := by
  rw [← Fintype.sum_prod_type' f]
  exact Equiv.sum_comp (finProdFinEquiv (m := 16) (n := 16)).symm (fun z : Fin 16 × Fin 16 => f z.1 z.2)

theorem sum_experts (f : Fin 32 → EReal) : ∑ e, f e = ∑ q, (f (ex q 0) + f (ex q 1)) := by
  rw [← Equiv.sum_comp (finProdFinEquiv (m := 16) (n := 2)) f, Fintype.sum_prod_type]
  refine Finset.sum_congr rfl fun q _ => ?_
  rw [Fin.sum_univ_two]
  congr 2 <;> exact Fin.ext (by simp [ex, finProdFinEquiv]; try omega)

/-- The whole: the results put back from the devices are the sum over the experts, each with its weight. `u e f` is hidden unit `f` of
    expert `e` on token `s`, `v e f` its row of the second matrix; a device's rows are what it makes of a token with the weights it got. -/
theorem routed (g : Fin 32 → EReal) {a b : Fin 32} (h : Plain g a b) (s : Fin 32) (hS : ∀ q, S s q ↔ Goes g q)
    (hcap : ∀ q, S s q → earlier S q s < 16) {ι : Type} [Fintype ι] (u v : Fin 32 → ι → EReal) (y : Fin 16 → Fin 16 → EReal)
    (hy : ∀ q p, S s q → p.val = earlier S q s →
      y q p = ∑ f, u (ex q 0) f * wt g (ex q 0) * v (ex q 0) f + ∑ f, u (ex q 1) f * wt g (ex q 1) * v (ex q 1) f) :
    ∑ q, ∑ p, place S q p s * y q p = ∑ e, (∑ f, u e f * v e f) * wt g e := by
  have hm : ∀ e, (∑ f, u e f * v e f) * wt g e = ∑ f, u e f * wt g e * v e f := fun e => by
    rw [h.sum_mul_wt]
    exact Finset.sum_congr rfl fun f _ => by rw [mul_assoc, mul_comm (v e f), ← mul_assoc]
  rw [sum_experts]
  refine Finset.sum_congr rfl fun q _ => ?_
  rw [hm, hm]
  by_cases hs : S s q
  · rw [place_sum hs (p := ⟨earlier S q s, hcap q hs⟩) rfl, hy q _ hs rfl]
  · rw [place_sum_not hs]
    have hz := fun j => h.not_goes (fun hg => hs ((hS q).2 hg)) j
    rw [hz 0, hz 1]
    simp

end Cert.Moe
-- ==== Proof.Reads.lean ====
/-
  What the kernel's stages compute, entry by entry, over the extended reals: the gates, each expert's weight, the table of places, and
  the rows sent, made and put back.
-/
module

public import proofs.«01_k».proof.Proof.Schedule
public import proofs.«01_k».proof.Proof.Places
public import Idealize.ShloMosaic.Lib.Pointwise
public import Idealize.ShloMosaic.Lib.WordCmp
public import Idealize.ShloMosaic.Lib.Pipeline.ValueKit.Geometry
public import Idealize.ShloMosaic.PureOps.Ideal.Laws

@[expose] public section

noncomputable section

set_option maxRecDepth 16384

namespace Cert.Moe

open Idealize.ShloMosaic Cert.KernelIdeal Cert.KernelIdeal.Gen Cert.KernelIdeal.Exchange
open scoped Classical

/-! ## The constants -/

theorem low_eq : (low : Ideal .f32) = (⊥ : EReal) := rfl
theorem negInf : Ideal.ofBits .f32 0xFF800000#32 = (⊥ : EReal) := by simp [Ideal.ofBits, Ideal.ieee]
theorem posInf : Ideal.ofBits .f32 0x7F800000#32 = (⊤ : EReal) := by simp [Ideal.ofBits, Ideal.ieee]
theorem sixteen : Ideal.ofBits .f32 0x41800000#32 = ((16 : ℝ) : EReal) := by
  simp [Ideal.ofBits, Ideal.ieee, -EReal.coe_mul]; norm_num

/-- A bit, widened and read as a number, is the indicator of what it says. -/
theorem sitofp_bit (p : Prop) [Decidable p] :
    FloatOps.sitofp (F := Ideal) .f32 (BitVec.setWidth 32 (BitVec.ofBool (decide p))) = ind p := by
  by_cases h : p
  · rw [decide_eq_true h, ind_pos h]
    show (((BitVec.setWidth 32 (BitVec.ofBool true)).toInt : ℝ) : EReal) = 1
    rw [show (BitVec.setWidth 32 (BitVec.ofBool true)).toInt = 1 by decide]; simp
  · rw [decide_eq_false h, ind_neg h]
    show (((BitVec.setWidth 32 (BitVec.ofBool false)).toInt : ℝ) : EReal) = 0
    rw [show (BitVec.setWidth 32 (BitVec.ofBool false)).toInt = 0 by decide]; simp

theorem slt_small {a b : ℕ} (ha : a < 2 ^ 31) (hb : b < 2 ^ 31) :
    IntOp.cmpi .slt (BitVec.ofNat 32 a) (BitVec.ofNat 32 b) = BitVec.ofBool (decide (a < b)) := WordCmp.cmpi_slt_ofNat ha hb
theorem eq_small {a b : ℕ} (ha : a < 2 ^ 32) (hb : b < 2 ^ 32) :
    IntOp.cmpi .eq (BitVec.ofNat 32 a) (BitVec.ofNat 32 b) = BitVec.ofBool (decide (a = b)) := WordCmp.cmpi_eq_ofNat ha hb

/-- A small natural number, read as an integer word, is itself. -/
theorem fptosi_nat {n : ℕ} (hn : n < 2 ^ 31) : Ideal.fptosi 32 ((n : ℝ) : EReal) = BitVec.ofNat 32 n := by
  show BitVec.ofInt 32 (max _ (min _ (if (0 : ℝ) ≤ (n : ℝ) then ⌊(n : ℝ)⌋ else ⌈(n : ℝ)⌉))) = _
  rw [if_pos (Nat.cast_nonneg n), Int.floor_natCast, min_eq_right, max_eq_right]
  · exact BitVec.ofInt_natCast ..
  · have : (0 : ℤ) ≤ n := Int.natCast_nonneg n
    have h2 : (-(2 ^ (32 - 1) : ℕ) : ℤ) ≤ 0 := by norm_num
    exact h2.trans this
  · have : (n : ℤ) < 2 ^ 31 := by exact_mod_cast hn
    norm_num at *
    omega

/-! ## The gates and the weights -/

theorem pay3_apply (rb : Vec Ideal S16x8x512 .f32) (x : Vec Ideal S32x512 .f32) (s : Fin 32) (c : Fin 128) :
    k0_pay3 (F := Ideal) rb x (ix2 s c) = ∑ k : Fin 512, x (ix2 s k) * rb (ix3 ⟨c.val / 8, by omega⟩ ⟨c.val % 8, by omega⟩ k) := by
  pointwise [k0_pay3, k0_pay2]

theorem pay4_apply (s : Fin 32) (c : Fin 128) : k0_pay4 (ix2 s c) = if c.val % 8 < 2 then 1#1 else 0#1 := by
  pointwise [k0_pay4]
  revert c; decide +kernel

/-- Column `c` of token `s`'s gates, the padding columns holding nothing. -/
def col (g : FVec Ideal S32x128 .f32) (m : IVec S32x128 1) (s : Fin 32) (c : Fin 128) : EReal :=
  Scalar.select (m (ix2 s c)) (g (ix2 s c)) (low : Ideal .f32)

theorem pay5_apply (g : FVec Ideal S32x128 .f32) (m : IVec S32x128 1) (q : Fin 16) (r : Fin 8) (s : Fin 32) :
    k0_pay5 (F := Ideal) g m (low : Ideal .f32) (ix3 q r s) = wt (col g m s) ⟨q.val * 8 + r.val, by omega⟩ := by
  pointwise [k0_pay5]
  rw [negInf]
  unfold wt second first most col
  rfl

variable (g : FVec Ideal S32x128 .f32) (m : IVec S32x128 1)

theorem pay6_apply (q : Fin 16) (s : Fin 32) :
    k0_pay6 (F := Ideal) g m (low : Ideal .f32) (ix2 q s) = k0_pay5 (F := Ideal) g m (low : Ideal .f32) (ix3 q 0 s) := by
  unfold k0_pay6
  generalize k0_pay5 (F := Ideal) g m (low : Ideal .f32) = y
  pointwise
theorem pay7_apply (q : Fin 16) (s : Fin 32) :
    k0_pay7 (F := Ideal) g m (low : Ideal .f32) (ix2 q s) = k0_pay5 (F := Ideal) g m (low : Ideal .f32) (ix3 q 1 s) := by
  unfold k0_pay7
  generalize k0_pay5 (F := Ideal) g m (low : Ideal .f32) = y
  pointwise
theorem pay8_apply (q : Fin 16) (s : Fin 32) :
    k0_pay8 (F := Ideal) g m (low : Ideal .f32) (ix2 q s)
      = ind ((0 : EReal) < k0_pay6 (F := Ideal) g m (low : Ideal .f32) (ix2 q s) + k0_pay7 (F := Ideal) g m (low : Ideal .f32) (ix2 q s)) := by
  pointwise [k0_pay8]
  exact sitofp_bit _
theorem pay9_apply (q : Fin 16) (s : Fin 32) :
    k0_pay9 (F := Ideal) g m (low : Ideal .f32) (ix2 q s)
      = ∑ s' : Fin 32, k0_pay8 (F := Ideal) g m (low : Ideal .f32) (ix2 q s') * ind (s' < s) := by
  pointwise [k0_pay9]
  refine Finset.sum_congr rfl fun s' _ => ?_
  rw [slt_small (by omega) (by omega)]
  exact congrArg _ (sitofp_bit _)
theorem pay10_apply (a b : FVec Ideal S16x32 .f32) (q p : Fin 16) (s : Fin 32) (n : ℕ) (hn : n ≤ 32) (hb : b (ix2 q s) = ((n : ℝ) : EReal)) :
    k0_pay10 (F := Ideal) iotaP a b (ix3 q p s) = ind (p.val = n) * a (ix2 q s) := by
  pointwise [k0_pay10]
  rw [hb]
  show FloatOps.sitofp FTy.f32 (BitVec.setWidth 32 (IntOp.cmpi .eq (BitVec.ofNat 32 p.val) (Ideal.fptosi 32 ((n : ℝ) : EReal)))) * _ = _
  rw [fptosi_nat (by omega), eq_small (by omega) (by omega)]
  exact congrArg (· * _) (sitofp_bit _)
theorem pay11_apply (x : FVec Ideal S32x512 .f32) (a b : FVec Ideal S16x32 .f32) (q p : Fin 16) (k : Fin 512) :
    k0_pay11 (F := Ideal) x iotaP a b (ix3 q p k) = ∑ s : Fin 32, k0_pay10 (F := Ideal) iotaP a b (ix3 q p s) * x (ix2 s k) := by
  unfold k0_pay11
  generalize k0_pay10 (F := Ideal) iotaP a b = P
  pointwise
theorem pay12_apply0 (a b a' b' : FVec Ideal S16x32 .f32) (q p : Fin 16) :
    k0_pay12 (F := Ideal) iotaP iotaL a b a' b' (ix3 q p 0) = ∑ s : Fin 32, k0_pay10 (F := Ideal) iotaP a' b' (ix3 q p s) * a (ix2 q s) := by
  unfold k0_pay12
  generalize k0_pay10 (F := Ideal) iotaP a' b' = P
  pointwise
theorem pay12_apply1 (a b a' b' : FVec Ideal S16x32 .f32) (q p : Fin 16) :
    k0_pay12 (F := Ideal) iotaP iotaL a b a' b' (ix3 q p 1) = ∑ s : Fin 32, k0_pay10 (F := Ideal) iotaP a' b' (ix3 q p s) * b (ix2 q s) := by
  unfold k0_pay12
  generalize k0_pay10 (F := Ideal) iotaP a' b' = P
  pointwise
  rfl

/-! ## The experts -/

theorem rows_apply (A A' : FVec Ideal S512x1024 .bf16) (B B' : FVec Ideal S1024x512 .bf16)
    (X : Vec Ideal S16x16x512 .bf16) (W : Vec Ideal S16x16x128 .bf16) (q p : Fin 16) (d : Fin 512) :
    k0_pay23 (F := Ideal) A' B' (k0_pay19 X) (k0_pay21 A B X W) (k0_pay22 W) (ix3 q p d)
      = ∑ f : Fin 1024, max (∑ k : Fin 512, X (ix3 q p k) * A (ix2 k f)) (0 : EReal) * W (ix3 q p 0) * B (ix2 f d)
        + ∑ f : Fin 1024, max (∑ k : Fin 512, X (ix3 q p k) * A' (ix2 k f)) (0 : EReal) * W (ix3 q p 1) * B' (ix2 f d) := by
  pointwise [k0_pay23, k0_pay19, k0_pay20, k0_pay21, k0_pay22]

theorem pay25_apply (P : FVec Ideal S16x16x32 .f32) (Y : Vec Ideal S16x16x512 .bf16) (s : Fin 32) (d : Fin 512) :
    k0_pay25 (F := Ideal) P Y (ix2 s d) = ∑ q : Fin 16, ∑ p : Fin 16, P (ix3 q p s) * Y (ix3 q p d) := by
  refine Eq.trans ?_ (sum_256 fun q p => P (ix3 q p s) * Y (ix3 q p d))
  pointwise [k0_pay25]

/-! ## The pieces read -/

theorem w1a_apply (W : Vec Ideal S2x512x1024 .f32) (k : Fin 512) (f : Fin 1024) : k0_pay15 (F := Ideal) (w1a W) (ix2 k f) = W (ix3 0 k f) := by
  pointwise [k0_pay15, w1a]
  show W ((Rect.unit (s := S2x512x1024) ![0, 0, 0] S1x512x1024.size inb_S2x512x1024_S1x512x1024_0_0_0).emb (ix3 0 k f)) = _
  congr 1
  funext a
  match a with
  | ⟨0, _⟩ => exact Fin.ext (ValueKit.rect_emb_unit_val _ _ _ _ _)
  | ⟨1, _⟩ => exact Fin.ext ((ValueKit.rect_emb_unit_val _ _ _ _ _).trans (Nat.zero_add _))
  | ⟨2, _⟩ => exact Fin.ext ((ValueKit.rect_emb_unit_val _ _ _ _ _).trans (Nat.zero_add _))
theorem w1b_apply (W : Vec Ideal S2x512x1024 .f32) (k : Fin 512) (f : Fin 1024) : k0_pay16 (F := Ideal) (w1b W) (ix2 k f) = W (ix3 1 k f) := by
  pointwise [k0_pay16, w1b]
  show W ((Rect.unit (s := S2x512x1024) ![1, 0, 0] S1x512x1024.size inb_S2x512x1024_S1x512x1024_1_0_0).emb (ix3 0 k f)) = _
  congr 1
  funext a
  match a with
  | ⟨0, _⟩ => exact Fin.ext (ValueKit.rect_emb_unit_val _ _ _ _ _)
  | ⟨1, _⟩ => exact Fin.ext ((ValueKit.rect_emb_unit_val _ _ _ _ _).trans (Nat.zero_add _))
  | ⟨2, _⟩ => exact Fin.ext ((ValueKit.rect_emb_unit_val _ _ _ _ _).trans (Nat.zero_add _))
theorem w2a_apply (W : Vec Ideal S2x1024x512 .f32) (f : Fin 1024) (d : Fin 512) : k0_pay17 (F := Ideal) (w2a W) (ix2 f d) = W (ix3 0 f d) := by
  pointwise [k0_pay17, w2a]
  show W ((Rect.unit (s := S2x1024x512) ![0, 0, 0] S1x1024x512.size inb_S2x1024x512_S1x1024x512_0_0_0).emb (ix3 0 f d)) = _
  congr 1
  funext a
  match a with
  | ⟨0, _⟩ => exact Fin.ext (ValueKit.rect_emb_unit_val _ _ _ _ _)
  | ⟨1, _⟩ => exact Fin.ext ((ValueKit.rect_emb_unit_val _ _ _ _ _).trans (Nat.zero_add _))
  | ⟨2, _⟩ => exact Fin.ext ((ValueKit.rect_emb_unit_val _ _ _ _ _).trans (Nat.zero_add _))
theorem w2b_apply (W : Vec Ideal S2x1024x512 .f32) (f : Fin 1024) (d : Fin 512) : k0_pay18 (F := Ideal) (w2b W) (ix2 f d) = W (ix3 1 f d) := by
  pointwise [k0_pay18, w2b]
  show W ((Rect.unit (s := S2x1024x512) ![1, 0, 0] S1x1024x512.size inb_S2x1024x512_S1x1024x512_1_0_0).emb (ix3 0 f d)) = _
  congr 1
  funext a
  match a with
  | ⟨0, _⟩ => exact Fin.ext (ValueKit.rect_emb_unit_val _ _ _ _ _)
  | ⟨1, _⟩ => exact Fin.ext ((ValueKit.rect_emb_unit_val _ _ _ _ _).trans (Nat.zero_add _))
  | ⟨2, _⟩ => exact Fin.ext ((ValueKit.rect_emb_unit_val _ _ _ _ _).trans (Nat.zero_add _))

theorem emb_recR (q : Fin 16) (j : Fin 2) (k : Fin 512) : (recR q).emb (ix3 0 j k) = ix3 q ⟨j.val, by omega⟩ k := by
  funext a
  match a with
  | ⟨0, _⟩ => exact Fin.ext (ValueKit.rect_emb_unit_val _ _ _ _ _)
  | ⟨1, _⟩ => exact Fin.ext ((ValueKit.rect_emb_unit_val _ _ _ _ _).trans (Nat.zero_add _))
  | ⟨2, _⟩ => exact Fin.ext ((ValueKit.rect_emb_unit_val _ _ _ _ _).trans (Nat.zero_add _))
theorem emb_recX (q p : Fin 16) (k : Fin 512) : (recX q).emb (ix3 0 p k) = ix3 q p k := by
  funext a
  match a with
  | ⟨0, _⟩ => exact Fin.ext (ValueKit.rect_emb_unit_val _ _ _ _ _)
  | ⟨1, _⟩ => exact Fin.ext ((ValueKit.rect_emb_unit_val _ _ _ _ _).trans (Nat.zero_add _))
  | ⟨2, _⟩ => exact Fin.ext ((ValueKit.rect_emb_unit_val _ _ _ _ _).trans (Nat.zero_add _))
theorem emb_recW (q p : Fin 16) (l : Fin 128) : (recW q).emb (ix3 0 p l) = ix3 q p l := by
  funext a
  match a with
  | ⟨0, _⟩ => exact Fin.ext (ValueKit.rect_emb_unit_val _ _ _ _ _)
  | ⟨1, _⟩ => exact Fin.ext ((ValueKit.rect_emb_unit_val _ _ _ _ _).trans (Nat.zero_add _))
  | ⟨2, _⟩ => exact Fin.ext ((ValueKit.rect_emb_unit_val _ _ _ _ _).trans (Nat.zero_add _))

theorem rowR_apply (rb : Vec Ideal S16x8x512 .f32) (q : Fin 16) (j : Fin 2) (k : Fin 512) :
    (rowR q).view.read (Elt Ideal) rb (ix3 0 j k) = rb (ix3 q ⟨j.val, by omega⟩ k) := congrArg rb (emb_recR q j k)
theorem rowSX_apply (w : Vec Ideal S16x16x512 .bf16) (q p : Fin 16) (k : Fin 512) :
    (rowSX q).view.read (Elt Ideal) w (ix3 0 p k) = w (ix3 q p k) := congrArg w (emb_recX q p k)
theorem rowRX_apply (w : Vec Ideal S16x16x512 .bf16) (q p : Fin 16) (k : Fin 512) :
    (rowRX q).view.read (Elt Ideal) w (ix3 0 p k) = w (ix3 q p k) := congrArg w (emb_recX q p k)
theorem rowY_apply (w : Vec Ideal S16x16x512 .bf16) (q p : Fin 16) (k : Fin 512) :
    (rowY q).view.read (Elt Ideal) w (ix3 0 p k) = w (ix3 q p k) := congrArg w (emb_recX q p k)
theorem rowRY_apply (w : Vec Ideal S16x16x512 .bf16) (q p : Fin 16) (k : Fin 512) :
    (rowRY q).view.read (Elt Ideal) w (ix3 0 p k) = w (ix3 q p k) := congrArg w (emb_recX q p k)
theorem rowSW_apply (w : Vec Ideal S16x16x128 .bf16) (q p : Fin 16) (l : Fin 128) :
    (rowSW q).view.read (Elt Ideal) w (ix3 0 p l) = w (ix3 q p l) := congrArg w (emb_recW q p l)
theorem rowRW_apply (w : Vec Ideal S16x16x128 .bf16) (q p : Fin 16) (l : Fin 128) :
    (rowRW q).view.read (Elt Ideal) w (ix3 0 p l) = w (ix3 q p l) := congrArg w (emb_recW q p l)

end Cert.Moe
-- ==== Proof.Value.lean ====
/-
  What the kernel writes for a token: the sum over the experts of each one's output with the token's weight for it, on every token whose
  two experts stand out and which finds a place on each device it goes to.
-/
module

public import proofs.«01_k».proof.Proof.Reads

@[expose] public section

noncomputable section

set_option maxRecDepth 16384

namespace Cert.Moe

open Idealize.ShloMosaic Cert.KernelIdeal Cert.KernelIdeal.Gen Cert.KernelIdeal.Exchange
open scoped Classical

variable (I : Inp Ideal)

/-- Token `s` of device `c`: its gate for expert `e`, and where it goes. -/
def gate (c : Fin 16) (s : Fin 32) (e : Fin 32) : EReal :=
  ∑ k : Fin 512, (I.x c (ix2 s k) : EReal) * I.rp (dev e) (ix3 0 (slot e) k)
def Sent (c : Fin 16) (s : Fin 32) (q : Fin 16) : Prop := Goes (gate I c s) q

/-- Expert `e`'s two matrices. -/
def mat1 (e : Fin 32) (k : Fin 512) (f : Fin 1024) : EReal := I.W1 (dev e) (ix3 (slot e) k f)
def mat2 (e : Fin 32) (f : Fin 1024) (d : Fin 512) : EReal := I.W2 (dev e) (ix3 (slot e) f d)

/-- Hidden unit `f` of expert `e` on token `s` of device `c`. -/
def hid (c : Fin 16) (s : Fin 32) (e : Fin 32) (f : Fin 1024) : EReal := max (∑ k : Fin 512, (I.x c (ix2 s k) : EReal) * mat1 I e k f) 0

variable {I}

section
variable {rb : Vec Ideal S16x8x512 .f32} (hrb : RbOK I rb) (c : Fin 16)
include hrb

theorem rb_apply (q : Fin 16) (j : Fin 2) (k : Fin 512) : rb (ix3 q ⟨j.val, by omega⟩ k) = I.rp q (ix3 0 j k) := by
  rw [← rowR_apply rb q j k]
  exact congrFun (hrb q) (ix3 0 j k)

theorem wt_apply (q : Fin 16) (j : Fin 2) (s : Fin 32) :
    k0_pay5 (F := Ideal) (k0_pay3 rb (I.x c)) k0_pay4 (low : Ideal .f32) (ix3 q ⟨j.val, by omega⟩ s) = wt (gate I c s) (ex q j) := by
  rw [pay5_apply]
  have hφ : ∀ e : Fin 32, col (k0_pay3 rb (I.x c)) k0_pay4 s ⟨e.val / 2 * 8 + e.val % 2, by omega⟩ = gate I c s e := fun e => by
    unfold col
    rw [pay4_apply, if_pos (by show (e.val / 2 * 8 + e.val % 2) % 8 < 2; omega), pay3_apply]
    refine (WordCmp.select_one _ _).trans ?_
    unfold gate
    refine Finset.sum_congr rfl fun k _ => congrArg (fun z : EReal => (I.x c (ix2 s k) : EReal) * z) ?_
    rw [← rb_apply hrb (dev e) (slot e) k]
    refine congrArg₂ (fun a b => rb (ix3 a b k)) (Fin.ext ?_) (Fin.ext ?_)
    · show (e.val / 2 * 8 + e.val % 2) / 8 = e.val / 2
      omega
    · show (e.val / 2 * 8 + e.val % 2) % 8 = e.val % 2
      omega
  have hw := wt_comp (col (k0_pay3 rb (I.x c)) k0_pay4 s) (fun e : Fin 32 => (⟨e.val / 2 * 8 + e.val % 2, by omega⟩ : Fin 128))
    (fun k => by
      by_cases hk : k.val % 8 < 2
      · exact Or.inl ⟨⟨k.val / 8 * 2 + k.val % 8, by omega⟩, Fin.ext (by simp only []; omega)⟩
      · right
        unfold col
        rw [pay4_apply, if_neg hk]
        rfl) (ex q j)
  refine Eq.trans (congrArg _ ?_) (hw.trans (congrFun (congrArg _ (funext hφ)) _))
  exact Fin.ext (by simp only [ex]; omega)

theorem sent_apply (q : Fin 16) (s : Fin 32) :
    k0_pay8 (F := Ideal) (k0_pay3 rb (I.x c)) k0_pay4 (low : Ideal .f32) (ix2 q s) = ind (Sent I c s q) := by
  rw [pay8_apply, pay6_apply, pay7_apply]
  have h0 := wt_apply hrb c q 0 s
  have h1 := wt_apply hrb c q 1 s
  exact congrArg ind (congrArg₂ (fun a b : EReal => (0 : EReal) < a + b) h0 h1)

theorem before_apply (q : Fin 16) (s : Fin 32) :
    k0_pay9 (F := Ideal) (k0_pay3 rb (I.x c)) k0_pay4 (low : Ideal .f32) (ix2 q s) = ((earlier (Sent I c) q s : ℝ) : EReal) := by
  rw [pay9_apply, ← sum_before]
  exact Finset.sum_congr rfl fun s' _ => congrArg (· * _) (sent_apply hrb c q s')

/-- The table of places, whatever the padding rows hold. -/
theorem place_apply (q p : Fin 16) (s : Fin 32) : fP rb (I.x c) (ix3 q p s) = place (Sent I c) q p s := by
  unfold fP place
  rw [pay10_apply _ _ q p s _ (earlier_le _ q s) (before_apply hrb c q s), sent_apply hrb]

theorem sx_apply (q p : Fin 16) (k : Fin 512) :
    fSX rb (I.x c) (ix3 q p k) = ∑ s, place (Sent I c) q p s * (I.x c (ix2 s k) : EReal) := by
  unfold fSX
  rw [pay11_apply]
  refine Finset.sum_congr rfl fun s _ => congrArg₂ (fun a b : EReal => a * b) (place_apply hrb c q p s) ?_
  pointwise [k0_pay2]

theorem sw_apply0 (q p : Fin 16) : fSW rb (I.x c) (ix3 q p 0) = ∑ s, place (Sent I c) q p s * wt (gate I c s) (ex q 0) := by
  unfold fSW
  rw [pay12_apply0]
  exact Finset.sum_congr rfl fun s _ => congrArg₂ (fun a b : EReal => a * b) (place_apply hrb c q p s)
    ((pay6_apply _ _ q s).trans (wt_apply hrb c q 0 s))

theorem sw_apply1 (q p : Fin 16) : fSW rb (I.x c) (ix3 q p 1) = ∑ s, place (Sent I c) q p s * wt (gate I c s) (ex q 1) := by
  unfold fSW
  rw [pay12_apply1]
  exact Finset.sum_congr rfl fun s _ => congrArg₂ (fun a b : EReal => a * b) (place_apply hrb c q p s)
    ((pay7_apply _ _ q s).trans (wt_apply hrb c q 1 s))

end

/-! ## The rows received -/

theorem rx_apply {q : Fin 16} {X : Vec Ideal S16x16x512 .bf16} (hX : RXok I q X) (c p : Fin 16) (k : Fin 512) :
    X (ix3 c p k) = ∑ s, place (Sent I c) q p s * (I.x c (ix2 s k) : EReal) := by
  obtain ⟨g, ⟨rb, hrb, hg⟩, hw⟩ := hX c
  have := congrFun hw (ix3 0 p k)
  rw [rowRX_apply X c p k, rowSX_apply g q p k, hg, sx_apply hrb] at this
  exact this

theorem rw_apply0 {q : Fin 16} {W : Vec Ideal S16x16x128 .bf16} (hW : RWok I q W) (c p : Fin 16) :
    W (ix3 c p 0) = ∑ s, place (Sent I c) q p s * wt (gate I c s) (ex q 0) := by
  obtain ⟨g, ⟨rb, hrb, hg⟩, hw⟩ := hW c
  have := congrFun hw (ix3 0 p 0)
  rw [rowRW_apply W c p 0, rowSW_apply g q p 0, hg, sw_apply0 hrb] at this
  exact this

theorem rw_apply1 {q : Fin 16} {W : Vec Ideal S16x16x128 .bf16} (hW : RWok I q W) (c p : Fin 16) :
    W (ix3 c p 1) = ∑ s, place (Sent I c) q p s * wt (gate I c s) (ex q 1) := by
  obtain ⟨g, ⟨rb, hrb, hg⟩, hw⟩ := hW c
  have := congrFun hw (ix3 0 p 1)
  rw [rowRW_apply W c p 1, rowSW_apply g q p 1, hg, sw_apply1 hrb] at this
  exact this

/-- Device `q`'s result row for a token of device `c` which it received. -/
theorem ry_apply {c : Fin 16} {Y : Vec Ideal S16x16x512 .bf16} (hY : RYok I c Y) (q p : Fin 16) (s : Fin 32) (d : Fin 512)
    (hs : Sent I c s q) (hp : p.val = earlier (Sent I c) q s) :
    Y (ix3 q p d) = ∑ f, hid I c s (ex q 0) f * wt (gate I c s) (ex q 0) * mat2 I (ex q 0) f d
      + ∑ f, hid I c s (ex q 1) f * wt (gate I c s) (ex q 1) * mat2 I (ex q 1) f d := by
  obtain ⟨g, ⟨X, W, hX, hW, hg⟩, hw⟩ := hY q
  have h := congrFun hw (ix3 0 p d)
  rw [rowRY_apply Y q p d, rowY_apply g c p d, hg] at h
  rw [h]
  unfold fY
  rw [rows_apply]
  have hx : ∀ k, X (ix3 c p k) = I.x c (ix2 s k) := fun k => (rx_apply hX c p k).trans (sum_place hs hp _)
  have h0 : W (ix3 c p 0) = wt (gate I c s) (ex q 0) := (rw_apply0 hW c p).trans (sum_place hs hp _)
  have h1 : W (ix3 c p 1) = wt (gate I c s) (ex q 1) := (rw_apply1 hW c p).trans (sum_place hs hp _)
  have m1 : ∀ j k f, mat1 I (ex q j) k f = I.W1 q (ix3 j k f) := fun j k f => by unfold mat1; rw [dev_ex, slot_ex]
  have m2 : ∀ j f, mat2 I (ex q j) f d = I.W2 q (ix3 j f d) := fun j f => by unfold mat2; rw [dev_ex, slot_ex]
  refine congrArg₂ (fun a b : EReal => a + b) (Finset.sum_congr rfl fun f _ => ?_) (Finset.sum_congr rfl fun f _ => ?_)
  · rw [h0, w2a_apply, m2]
    unfold hid
    simp only [m1, hx, w1a_apply]
  · rw [h1, w2b_apply, m2]
    unfold hid
    simp only [m1, hx, w1b_apply]

/-- The kernel's result for a token. -/
theorem out_apply {c : Fin 16} {v : Vec Ideal S32x512 .f32} (hv : OutOK I c v) (s : Fin 32) (d : Fin 512) {a b : Fin 32}
    (hpl : Plain (gate I c s) a b) (hcap : ∀ q, Sent I c s q → earlier (Sent I c) q s < 16) :
    v (ix2 s d) = ∑ e, (∑ f, hid I c s e f * mat2 I e f d) * wt (gate I c s) e := by
  obtain ⟨rb, Y, hrb, hY, rfl⟩ := hv
  rw [pay25_apply]
  rw [← routed (S := Sent I c) (gate I c s) hpl s (fun q => Iff.rfl) hcap (hid I c s) (fun e f => mat2 I e f d)
    (fun q p => Y (ix3 q p d)) (fun q p hs hp => ry_apply hY q p s d hs hp)]
  refine Finset.sum_congr rfl fun q _ => Finset.sum_congr rfl fun p _ => ?_
  exact congrArg (· * _) (place_apply hrb c q p s)

end Cert.Moe
-- ==== Proof.Inputs.lean ====
/-
  The blocks a device reads, in terms of the whole arrays the blocks are cut from.
-/
module

public import proofs.«01_k».proof.Proof.Value
public import proofs.«01_k».proof.Proof.Launch
public import Idealize.ShloMosaic.Lib.Claim
public import Idealize.ShloMosaic.Lib.Pipeline.ValueKit.Point

@[expose] public section

noncomputable section

set_option maxRecDepth 16384

namespace Cert.Moe

open Idealize.ShloMosaic Idealize.ShloMosaic.TcCoe Cert.KernelIdeal Cert.KernelIdeal.Gen Cert.KernelIdeal.Exchange
open scoped Classical

variable (m : (ℓ : Loc nD τ sig) → Buf (Elt Ideal) ℓ)

theorem x_apply (c : Dev nD) (s : Fin 32) (k : Fin 512) :
    (inp m).x c (ix2 s k) = m ((c : Thread nD τ).loc main_arg0) (ix2 s k) := by
  show iblk m c 0 t0_0 (ix2 s k) = _
  rw [← V_main_arg0 m]
  blk_ext! [iblk]
  all_goals rw [show win0_0.index t0_0 = fun _ => 0 from rfl]; simp
theorem W1_apply (c : Dev nD) (s : Fin 2) (k : Fin 512) (f : Fin 1024) :
    (inp m).W1 c (ix3 s k f) = m ((c : Thread nD τ).loc main_arg2) (ix3 s k f) := by
  show iblk m c 2 t0_0 (ix3 s k f) = _
  rw [← V_main_arg2 m]
  blk_ext! [iblk]
  all_goals rw [show win0_2.index t0_0 = fun _ => 0 from rfl]; simp
theorem W2_apply (c : Dev nD) (s : Fin 2) (f : Fin 1024) (d : Fin 512) :
    (inp m).W2 c (ix3 s f d) = m ((c : Thread nD τ).loc main_arg3) (ix3 s f d) := by
  show iblk m c 3 t0_0 (ix3 s f d) = _
  rw [← V_main_arg3 m]
  blk_ext! [iblk]
  all_goals rw [show win0_3.index t0_0 = fun _ => 0 from rfl]; simp
/-- The router's columns come in transposed. -/
theorem rp_apply (c : Dev nD) (s : Fin 2) (k : Fin 512) :
    (inp m).rp c (ix3 0 s k) = m ((c : Thread nD τ).loc main_arg1) (ix2 k s) := by
  show iblk m c 1 t0_0 (ix3 0 s k) = _
  have h : iblk m c 1 t0_0 (ix3 0 s k) = V m c main_v2 (ix3 0 s k) := by
    blk_ext! [iblk]
    all_goals (rw [show win0_1.index t0_0 = fun _ => 0 from rfl])
    all_goals simp
  rw [h]
  entry_read
  pointwise
end Cert.Moe
-- ==== Proof.Order.lean ====
/-
  The largest entries of a row, as the host program's selection orders them: one permutation of the row's columns, largest first, of which
  the selection shows the first few.
-/
module

public import proofs.«01_k».proof.Proof.Choice
public import Idealize.ShloMosaic.Lib.SortFacts
public import Idealize.ShloMosaic.Lib.Pointwise

@[expose] public section

noncomputable section

set_option maxRecDepth 16384

namespace Cert.Moe

open Idealize.ShloMosaic
open scoped Classical

/-- The columns of row `t`, largest entry first. -/
def order (x : FVec Ideal ⟨2, ![512, 32]⟩ .f32) (t : Fin 512) (k : Fin 32) : Fin 32 :=
  sortedFrom (fun k k' => FloatOps.cmpfTotal (F := Ideal) (φ := .f32) .gt (x (ix2 t k)) (x (ix2 t k')) == 1#1) k

theorem gt_iff (a b : EReal) : (FloatOps.cmpfTotal (F := Ideal) (φ := .f32) .gt a b == 1#1) = decide (b < a) := by
  show (BitVec.ofBool (decide (b < a)) == 1#1) = _
  cases decide (b < a) <;> rfl

variable (x : FVec Ideal ⟨2, ![512, 32]⟩ .f32) (t : Fin 512)

theorem order_injective : Function.Injective (order x t) := sortedFrom_injective _
theorem order_surjective : Function.Surjective (order x t) := sortedFrom_surjective _

/-- A later column's entry is no larger. -/
theorem order_le {i j : Fin 32} (h : i < j) : (x (ix2 t (order x t j)) : EReal) ≤ x (ix2 t (order x t i)) := by
  have h1 := sortedFrom_noInversion
    (fun k k' => FloatOps.cmpfTotal (F := Ideal) (φ := .f32) .gt (x (ix2 t k)) (x (ix2 t k')) == 1#1)
    (fun k k' => FloatOps.cmpfTotal (F := Ideal) (φ := .f32) .gt (x (ix2 t k)) (x (ix2 t k')) == 1#1)
    (fun a b hab => by
      simp only [gt_iff, decide_eq_true_eq, decide_eq_false_iff_not, not_lt] at hab ⊢; exact hab.le)
    (fun a b hab => hab)
    (fun a b c hab hbc => by
      simp only [gt_iff, decide_eq_false_iff_not, not_lt] at hab hbc ⊢; exact hab.trans hbc) i j h
  rw [gt_iff, decide_eq_false_iff_not, not_lt] at h1
  exact h1

/-- Row `t`, with its column replaced. -/
theorem along_row (h : 1 < (⟨2, ![512, 32]⟩ : Shape).rank) (e k : Fin 32) :
    (ix2 t e : (⟨2, ![512, 32]⟩ : Shape).Idx).along ⟨1, h⟩ k = ix2 t k := by
  unfold Shape.Idx.along
  funext a
  match a with
  | ⟨0, _⟩ => rfl
  | ⟨1, _⟩ => rfl

theorem sort2_fst (y : IVec ⟨2, ![512, 32]⟩ 32) (k : Fin 32) :
    (Host.sort2 ⟨2, ![512, 32]⟩ 1 (fun l r => FloatOps.cmpfTotal (F := Ideal) (φ := .f32) .gt l.1 r.1) x y).1 (ix2 t k)
      = x (ix2 t (order x t k)) := by
  unfold Host.sort2 order
  rw [dif_pos (by decide)]
  have ha := along_row t (by decide) k
  refine (congrArg x (ha _)).trans (congrArg (fun e : Fin 32 => x (ix2 t e)) ?_)
  refine congrArg (fun R : Fin 32 → Fin 32 → Bool => sortedFrom R k) (funext fun k1 => funext fun k2 => ?_)
  exact congrArg₂ (fun u v => FloatOps.cmpfTotal (F := Ideal) (φ := .f32) .gt (x u) (x v) == 1#1) (ha k1) (ha k2)

theorem sort2_snd (y : IVec ⟨2, ![512, 32]⟩ 32) (k : Fin 32) :
    (Host.sort2 ⟨2, ![512, 32]⟩ 1 (fun l r => FloatOps.cmpfTotal (F := Ideal) (φ := .f32) .gt l.1 r.1) x y).2 (ix2 t k)
      = y (ix2 t (order x t k)) := by
  unfold Host.sort2 order
  rw [dif_pos (by decide)]
  have ha := along_row t (by decide) k
  refine (congrArg y (ha _)).trans (congrArg (fun e : Fin 32 => y (ix2 t e)) ?_)
  refine congrArg (fun R : Fin 32 → Fin 32 → Bool => sortedFrom R k) (funext fun k1 => funext fun k2 => ?_)
  exact congrArg₂ (fun u v => FloatOps.cmpfTotal (F := Ideal) (φ := .f32) .gt (x u) (x v) == 1#1) (ha k1) (ha k2)

/-- The selection of `n` shows the first `n` columns: their entries and their numbers. -/
theorem topK_values {n : ℕ} (hn : n ≤ 32) (h : (⟨2, ![512, 32]⟩ : Shape).Slices (fun _ => 0) ⟨2, ![512, n]⟩) (j : Fin n) :
    (Host.topK ⟨2, ![512, n]⟩ 1 (FloatOps.cmpfTotal (F := Ideal) (φ := .f32) .gt) x h).1 (ix2 t j) = x (ix2 t (order x t ⟨j.val, by omega⟩)) := by
  unfold Host.topK
  pointwise
  exact sort2_fst x t _ _
theorem topK_indices {n : ℕ} (hn : n ≤ 32) (h : (⟨2, ![512, 32]⟩ : Shape).Slices (fun _ => 0) ⟨2, ![512, n]⟩) (j : Fin n) :
    (Host.topK ⟨2, ![512, n]⟩ 1 (FloatOps.cmpfTotal (F := Ideal) (φ := .f32) .gt) x h).2 (ix2 t j)
      = BitVec.ofNat 32 (order x t ⟨j.val, by omega⟩).val := by
  unfold Host.topK
  pointwise
  exact sort2_snd x t _ _

/-- Three strict steps at the head of the order single out two columns. -/
theorem plain_of_order (h0 : (x (ix2 t (order x t 0)) : EReal) < ⊤)
    (h1 : (x (ix2 t (order x t 1)) : EReal) < x (ix2 t (order x t 0)))
    (h2 : (x (ix2 t (order x t 2)) : EReal) < x (ix2 t (order x t 1))) :
    Plain (fun e => x (ix2 t e)) (order x t 0) (order x t 1) where
  ne h := by rw [h] at h1; exact lt_irrefl _ h1
  fin := h0
  gap := h1
  rest e ha hb := by
    obtain ⟨k, rfl⟩ := order_surjective x t e
    have hk : 2 ≤ k := by
      rcases k with ⟨k, hk⟩
      rcases k with _ | _ | k
      · exact absurd rfl ha
      · exact absurd rfl hb
      · exact Fin.mk_le_mk.2 (by simp)
    rcases hk.eq_or_lt with rfl | hk
    · exact h2
    · exact (order_le x t hk).trans_lt h2

end Cert.Moe
-- ==== Proof.Kept.lean ====
/-
  What the named tokens are: a token is named when its two largest gates stand apart, and when every device that a token may be sent to
  has room for it.
-/
module

public import proofs.«01_k».proof.Proof.Reads
public import proofs.«01_k».proof.Proof.Order
public import proofs.«01_k».proof.On_kept
public import proofs.«01_k».proof.Proof.Gen.On_kept
public import proofs.«01_k».proof.Proof.Gen.ReferenceIdeal.Read

@[expose] public section

noncomputable section

set_option maxRecDepth 16384

namespace Cert.Moe

open Idealize.ShloMosaic Cert.On_kept Cert.On_kept.Facts
open scoped Classical

theorem and_bits {a b : BitVec 1} (h : IntOp.andi a b = 1#1) : a = 1#1 ∧ b = 1#1 := by
  revert a b
  decide
theorem of_bit {p : Prop} [Decidable p] (h : BitVec.ofBool (decide p) = 1#1) : p := by
  by_contra hn
  rw [decide_eq_false hn] at h
  exact absurd h (by decide)

/-- Whether the three largest gates of each token are strictly ordered, the largest finite above. -/
def plainBit (v : FVec Ideal S512x3 .f32) : IVec S512x1 1 :=
  andi (andi (cmpf .olt (extractStridedSlice S512x1 ![0, 0] v slices_S512x3_S512x1_0_0)
        (broadcastInDim S512x1 ![] bcast_S_S512x1 (constant S_ .f32 0x7F800000#32 : FVec Ideal S_ .f32)))
      (cmpf .ogt (extractStridedSlice S512x1 ![0, 0] v slices_S512x3_S512x1_0_0)
        (extractStridedSlice S512x1 ![0, 1] v slices_S512x3_S512x1_0_1)))
    (cmpf .ogt (extractStridedSlice S512x1 ![0, 1] v slices_S512x3_S512x1_0_1)
      (extractStridedSlice S512x1 ![0, 2] v slices_S512x3_S512x1_0_2))

/-- The largest gate of each token below its largest one. -/
def belowFirst (g : FVec Ideal S512x32 .f32) : FVec Ideal S512 .f32 :=
  Host.reduce FloatOps.maximumf
    (fn_where (F := Ideal) (cmpf .oge g (broadcastInDim S512x32 ![0, 1] bcast_S512x1_S512x32_0_1
        (broadcastInDim S512x1 ![0] bcast_S512_S512x1_0
          (Host.reduce FloatOps.maximumf g (constant S_ .f32 0xFF800000#32 : FVec Ideal S_ .f32) reducesTo_S512x32_S512_d1 h_S_))))
      (constant S_ .f32 0xFF800000#32 : FVec Ideal S_ .f32) g)
    (constant S_ .f32 0xFF800000#32 : FVec Ideal S_ .f32) reducesTo_S512x32_S512_d1 h_S_

variable (x0 : FVec Ideal S512x512 .f32) (x1 : FVec Ideal S512x32 .f32)

/-- The gates of all tokens. -/
abbrev gatesOf : FVec Ideal S512x32 .f32 := Cert.ReferenceIdeal.Read.val_main_v0 (F := Ideal) x0 x1

theorem kept_eq (x2 : FVec Ideal S32x512x1024 .f32) (x3 : FVec Ideal S32x1024x512 .f32) :
    Cert.On_kept.fn (F := Ideal) x0 x1 x2 x3
      = fn_part1 (F := Ideal) (gatesOf x0 x1)
          (plainBit (Host.topK S512x3 1 (FloatOps.cmpfTotal .gt) (gatesOf x0 x1) sliceFits_S512x32_S512x3).1) (belowFirst (gatesOf x0 x1)) := rfl

theorem gates_apply (t : Fin 512) (e : Fin 32) : gatesOf x0 x1 (ix2 t e) = ∑ k : Fin 512, x0 (ix2 t k) * x1 (ix2 k e) := by
  pointwise [Cert.ReferenceIdeal.Read.val_main_v0]

theorem plainBit_apply (v : FVec Ideal S512x3 .f32) (t : Fin 512) (h : plainBit v (ix2 t 0) = 1#1) :
    (v (ix2 t 0) : EReal) < ⊤ ∧ (v (ix2 t 1) : EReal) < v (ix2 t 0) ∧ (v (ix2 t 2) : EReal) < v (ix2 t 1) := by
  revert h
  pointwise [plainBit]
  intro h
  obtain ⟨h, h3⟩ := and_bits h
  obtain ⟨h1, h2⟩ := and_bits h
  exact ⟨posInf ▸ of_bit h1, of_bit h2, of_bit h3⟩

variable (g : FVec Ideal S512x32 .f32)

theorem belowFirst_apply (t : Fin 512) : belowFirst g (ix1 t) = second fun e => (g (ix2 t e) : EReal) := by
  pointwise [belowFirst, fn_where]
  simp only [negInf]
  unfold second first most
  refine congrArg (fun f : Fin 32 → EReal => Finset.univ.fold max (⊥ : EReal) f) (funext fun e => ?_)
  show (if _ then (Ideal.ofBits .f32 0xFF800000#32 : EReal) else _) = _
  rw [negInf]

/-- A device a token may be sent to. -/
def May (t : Fin 512) (q : Fin 16) : Prop := ∃ j : Fin 2, second (fun e => (g (ix2 t e) : EReal)) ≤ g (ix2 t (ex q j))

/-- Row `s` of block `c`. -/
def row (c : Fin 16) (s : Fin 32) : Fin 512 := ⟨c.val * 32 + s.val, by omega⟩

/-- The largest of bits read as numbers says whether some bit is set. -/
theorem most_bits (p : Fin 2 → Prop) [DecidablePred p] :
    Finset.univ.fold max (⊥ : EReal) (fun j => FloatOps.uitofp (F := Ideal) .f32 (BitVec.ofBool (decide (p j)))) = ind (∃ j, p j) := by
  have hb : ∀ j, (FloatOps.uitofp (F := Ideal) .f32 (BitVec.ofBool (decide (p j))) : EReal) = ind (p j) := fun j => by
    by_cases h : p j
    · rw [decide_eq_true h, ind_pos h]
      show (((1 : ℕ) : ℝ) : EReal) = 1
      simp
    · rw [decide_eq_false h, ind_neg h]
      show (((0 : ℕ) : ℝ) : EReal) = 0
      simp
  by_cases h : ∃ j, p j
  · obtain ⟨j, hj⟩ := h
    refine most_eq j ((hb j).trans (by rw [ind_pos hj, ind_pos (⟨j, hj⟩ : ∃ j, p j)])) fun k => ?_
    rw [hb k, ind_pos (⟨j, hj⟩ : ∃ j, p j)]
    unfold ind
    split
    · exact le_rfl
    · exact zero_le_one
  · refine most_eq 0 ((hb 0).trans (by rw [ind_neg fun h' => h ⟨0, h'⟩, ind_neg h])) fun k => ?_
    rw [hb k, ind_neg fun h' => h ⟨k, h'⟩, ind_neg h]

/-- A named token: its gates are strictly ordered at the head, and every device it may be sent to has fewer than sixteen earlier claims. -/
theorem part1_apply (b : IVec S512x1 1) (t d : Fin 512) (h : fn_part1 (F := Ideal) g b (belowFirst g) (ix2 t d) = 1#1) :
    b (ix2 t 0) = 1#1 ∧ ∀ q, May g t q → earlier (fun s q => May g (row ⟨t.val / 32, by omega⟩ s) q) q ⟨t.val % 32, by omega⟩ < 16 := by
  revert h
  pointwise [fn_part1, fn_where_0]
  simp only [belowFirst_apply, negInf, sixteen, most_bits]
  intro h
  obtain ⟨h1, h2⟩ := and_bits h
  refine ⟨h1, fun q hq => ?_⟩
  have h3 := (le_most _ q).trans_lt (of_bit h2)
  have ht : row ⟨t.val / 32, by omega⟩ ⟨t.val % 32, by omega⟩ = t := Fin.ext (by simp only [row]; omega)
  have hM : May g (row ⟨t.val / 32, by omega⟩ ⟨t.val % 32, by omega⟩) q := by
    rw [ht]; exact hq
  have h4 : ind (May g (row ⟨t.val / 32, by omega⟩ ⟨t.val % 32, by omega⟩) q)
      * ∑ s' : Fin 32, Scalar.select (IntOp.cmpi .slt (BitVec.ofNat 32 s'.val) (BitVec.ofNat 32 (t.val % 32)))
          (ind (May g (row ⟨t.val / 32, by omega⟩ s') q)) (Ideal.ofBits .f32 0#32) < (((16 : ℝ) : EReal)) := h3
  rw [ind_pos hM, one_mul] at h4
  have h5 : ∑ s' : Fin 32, Scalar.select (IntOp.cmpi .slt (BitVec.ofNat 32 s'.val) (BitVec.ofNat 32 (t.val % 32)))
          (ind (May g (row ⟨t.val / 32, by omega⟩ s') q)) (Ideal.ofBits .f32 0#32)
      = ∑ s' : Fin 32, ind (May g (row ⟨t.val / 32, by omega⟩ s') q) * ind (s' < (⟨t.val % 32, by omega⟩ : Fin 32)) := by
    refine Finset.sum_congr rfl fun s' _ => ?_
    rw [slt_small (by omega) (by omega), WordCmp.select_ofBool]
    by_cases hlt : s'.val < t.val % 32
    · rw [decide_eq_true hlt, ind_pos (show s' < (⟨t.val % 32, _⟩ : Fin 32) from hlt), mul_one]
      rfl
    · rw [decide_eq_false hlt, ind_neg (show ¬s' < (⟨t.val % 32, _⟩ : Fin 32) from hlt), mul_zero]
      simp
  rw [h5, sum_before (fun s q => May g (row ⟨t.val / 32, by omega⟩ s) q)] at h4
  exact_mod_cast h4

/-- A named token, read: two columns hold the two largest gates, strictly above the others, and the devices have room. -/
theorem kept_apply (x2 : FVec Ideal S32x512x1024 .f32) (x3 : FVec Ideal S32x1024x512 .f32) (t d : Fin 512)
    (h : Cert.On_kept.fn (F := Ideal) x0 x1 x2 x3 (ix2 t d) = 1#1) :
    Plain (fun e => (gatesOf x0 x1 (ix2 t e) : EReal)) (order (gatesOf x0 x1) t 0) (order (gatesOf x0 x1) t 1)
      ∧ ∀ q, May (gatesOf x0 x1) t q →
          earlier (fun s q => May (gatesOf x0 x1) (row ⟨t.val / 32, by omega⟩ s) q) q ⟨t.val % 32, by omega⟩ < 16 := by
  rw [kept_eq] at h
  obtain ⟨h1, h2⟩ := part1_apply _ _ t d h
  refine ⟨?_, h2⟩
  obtain ⟨a1, a2, a3⟩ := plainBit_apply _ t h1
  rw [topK_values (gatesOf x0 x1) t (by decide)] at a1
  rw [topK_values (gatesOf x0 x1) t (by decide), topK_values (gatesOf x0 x1) t (by decide)] at a2 a3
  exact plain_of_order _ t a1 a2 a3

end Cert.Moe
-- ==== Proof.Weights.lean ====
/-
  The reference at a named token: its weight matrix holds, at the two columns with the largest gates, their shares, and zero elsewhere.
-/
module

public import proofs.«01_k».proof.Proof.Kept

@[expose] public section

noncomputable section

set_option maxRecDepth 16384

namespace Cert.Moe

open Idealize.ShloMosaic Cert.ReferenceIdeal Cert.ReferenceIdeal.Read
open scoped Classical

variable (x0 : FVec Ideal S512x512 .f32) (x1 : FVec Ideal S512x32 .f32) (x2 : FVec Ideal S32x512x1024 .f32)
  (x3 : FVec Ideal S32x1024x512 .f32)

theorem values_apply (t : Fin 512) (j : Fin 2) :
    (val_main_values (F := Ideal) x0 x1 (ix2 t j) : EReal) = gatesOf x0 x1 (ix2 t (order (gatesOf x0 x1) t ⟨j.val, by omega⟩)) :=
  topK_values (gatesOf x0 x1) t (by decide) _ j

theorem indices_apply (t : Fin 512) (j : Fin 2) :
    val_main_indices (F := Ideal) x0 x1 (ix2 t j) = BitVec.ofNat 32 (order (gatesOf x0 x1) t ⟨j.val, by omega⟩).val :=
  topK_indices (gatesOf x0 x1) t (by decide) _ j

/-- The reference's weight of an expert at a token with strictly ordered gates is the kernel's. -/
theorem weight_apply (t : Fin 512) (e : Fin 32)
    (h : Plain (fun e => (gatesOf x0 x1 (ix2 t e) : EReal)) (order (gatesOf x0 x1) t 0) (order (gatesOf x0 x1) t 1)) :
    (val_main_v16 (F := Ideal) x0 x1 (ix2 t e) : EReal) = wt (fun e => (gatesOf x0 x1 (ix2 t e) : EReal)) e := by
  pointwise [val_main_v16, val_main_v15, val_main_v14, val_main_v13, val_main_v12, val_main_v11, val_main_v10, val_main_v9, val_main_v8,
    val_main_v7, val_main_v6, val_main_v5, val_main_v4, val_main_v3, val_main_v2, val_main_v1, val_main_cst, val_main_cst_0, val_main_cst_1,
    val_main_cst_2, val_main_call0_v0, val_main_call0_v1, val_main_call0_v2]
  simp only [values_apply, indices_apply, negInf]
  generalize hga : gatesOf x0 x1 = G at h ⊢
  have ha0 : order G t ⟨(0 : Fin 2).val, by omega⟩ = order G t 0 := rfl
  have ha1 : order G t ⟨(1 : Fin 2).val, by omega⟩ = order G t 1 := rfl
  have hm : Finset.univ.fold max (⊥ : EReal) (fun x : Fin 2 => (G (ix2 t (order G t ⟨x.val, by omega⟩)) : EReal)) = G (ix2 t (order G t 0)) := by
    refine most_eq 0 rfl fun k => ?_
    match k with
    | 0 => exact le_rfl
    | 1 => exact h.gap.le
  rw [hm]
  simp only [Fin.sum_univ_two, ha0, ha1]
  generalize order G t 0 = a at h ⊢
  generalize order G t 1 = b at h ⊢
  obtain ⟨d, hd, e1, e2, e3, e4, e5⟩ := h.shares
  rw [eq_small (by omega) (by omega), eq_small (by omega) (by omega), WordCmp.select_ofBool, WordCmp.select_ofBool]
  have hz : (id (constant (F := Ideal) S_ .f32 0#32) ix0 : EReal) = 0 := by
    show Ideal.ofBits .f32 0#32 = (0 : EReal)
    simp
  by_cases hea : a = e
  · subst hea
    rw [h.wt_first, e2, if_pos (by simp), if_neg (by simpa using fun hb => h.ne (Fin.ext hb.symm))]
    exact (congrArg (fun z : EReal => _ + z) hz).trans (add_zero _)
  · by_cases heb : b = e
    · subst heb
      rw [h.wt_second, e2, if_neg (by simpa using fun hb => hea (Fin.ext hb)), if_pos (by simp)]
      exact (congrArg (fun z : EReal => z + _) hz).trans (zero_add _)
    · rw [h.wt_rest (Ne.symm hea) (Ne.symm heb), if_neg (by simpa using fun hb => hea (Fin.ext hb)),
        if_neg (by simpa using fun hb => heb (Fin.ext hb))]
      exact (congrArg₂ (fun y z : EReal => y + z) hz hz).trans (add_zero _)

/-- The reference's result at a token with strictly ordered gates. -/
theorem ref_apply (t d : Fin 512)
    (h : Plain (fun e => (gatesOf x0 x1 (ix2 t e) : EReal)) (order (gatesOf x0 x1) t 0) (order (gatesOf x0 x1) t 1)) :
    (val_main_v26 (F := Ideal) x0 x1 x2 x3 (ix2 t d) : EReal)
      = ∑ e : Fin 32, (∑ f : Fin 1024, max (∑ k : Fin 512, (x0 (ix2 t k) * x2 (ix3 e k f) : EReal)) 0 * x3 (ix3 e f d))
          * wt (fun e => (gatesOf x0 x1 (ix2 t e) : EReal)) e := by
  pointwise [val_main_v26, val_main_v25, val_main_v24, val_main_v23, val_main_v22, val_main_v21, val_main_v20, val_main_v19, val_main_v18,
    val_main_v17, val_main_cst_4, val_main_cst_3]
  refine Finset.sum_congr rfl fun e _ => ?_
  refine congrArg₂ (fun a b : EReal => a * b) ?_ (weight_apply x0 x1 t e h)
  refine Finset.sum_congr rfl fun f _ => ?_
  refine congrArg (fun a : EReal => max a 0 * x3 (ix3 e f d)) ?_
  exact Finset.sum_congr rfl fun k _ => mul_comm _ _

end Cert.Moe
-- ==== Proof.Agree.lean ====
/-
  The kernel's result is the reference's on the named tokens: the blocks the devices hold make up the reference's arrays, the gates, the
  expert matrices and so the weighted sums are the same.
-/
module

public import proofs.«01_k».proof.Defs
public import proofs.«01_k».proof.Proof.Inputs
public import proofs.«01_k».proof.Proof.Weights
public import proofs.«01_k».proof.Proof.Frames

@[expose] public section

noncomputable section

set_option maxRecDepth 16384

namespace Cert.Moe

open Idealize.ShloMosaic Idealize.ShloMosaic.TcCoe Idealize.SL.Sem
open scoped Classical

section Blocks

open Cert.KernelIdeal Cert.KernelIdeal.Exchange

variable {m : (ℓ : Loc nD τ sig) → Buf (Elt Ideal) ℓ}
  {x0 : FVec Ideal ⟨2, ![512, 512]⟩ .f32} {x1 : FVec Ideal ⟨2, ![512, 32]⟩ .f32} {x2 : FVec Ideal ⟨3, ![32, 512, 1024]⟩ .f32}
  {x3 : FVec Ideal ⟨3, ![32, 1024, 512]⟩ .f32}

/-- The devices hold the blocks of the four arrays. -/
def Held (m : (ℓ : Loc nD τ sig) → Buf (Elt Ideal) ℓ)
    (x0 : FVec Ideal ⟨2, ![512, 512]⟩ .f32) (x1 : FVec Ideal ⟨2, ![512, 32]⟩ .f32) (x2 : FVec Ideal ⟨3, ![32, 512, 1024]⟩ .f32)
    (x3 : FVec Ideal ⟨3, ![32, 1024, 512]⟩ .f32) : Prop :=
  ∀ c : Dev nD,
    m ((c.tc : Thread nD τ).loc main_arg0) = Layout.block ⟨2, ![32, 512]⟩ ⟨2, ![512, 512]⟩ 0 16 c x0
    ∧ m ((c.tc : Thread nD τ).loc main_arg1) = Layout.block ⟨2, ![512, 2]⟩ ⟨2, ![512, 32]⟩ 1 16 c x1
    ∧ m ((c.tc : Thread nD τ).loc main_arg2) = Layout.block ⟨3, ![2, 512, 1024]⟩ ⟨3, ![32, 512, 1024]⟩ 0 16 c x2
    ∧ m ((c.tc : Thread nD τ).loc main_arg3) = Layout.block ⟨3, ![2, 1024, 512]⟩ ⟨3, ![32, 1024, 512]⟩ 0 16 c x3

/-- Where an index of a block of rows lies in the whole array. -/
theorem rows_idx (h : Layout.Tiles ⟨2, ![32, 512]⟩ ⟨2, ![512, 512]⟩ 0 16) (c : Fin 16) (s : Fin 32) (k : Fin 512) :
    h.idx c (ix2 s k) = ix2 (row c s) k := by
  funext a
  match a with
  | ⟨0, _⟩ => exact Fin.ext rfl
  | ⟨1, _⟩ => exact Fin.ext rfl
/-- Where an expert's router column lies in the whole router. -/
theorem cols_idx (h : Layout.Tiles ⟨2, ![512, 2]⟩ ⟨2, ![512, 32]⟩ 1 16) (e : Fin 32) (k : Fin 512) :
    h.idx (dev e) (ix2 k (slot e)) = ix2 k e := by
  funext a
  match a with
  | ⟨0, _⟩ => exact Fin.ext rfl
  | ⟨1, _⟩ => exact Fin.ext (Nat.div_add_mod' e.val 2)
/-- Where an expert's matrices lie among all of them. -/
theorem experts_idx {a b : ℕ} (h : Layout.Tiles ⟨3, ![2, a, b]⟩ ⟨3, ![32, a, b]⟩ 0 16) (e : Fin 32) (i : Fin a) (j : Fin b) :
    h.idx (dev e) (ix3 (slot e) i j) = ix3 e i j := by
  funext ax
  match ax with
  | ⟨0, _⟩ => exact Fin.ext (Nat.div_add_mod' e.val 2)
  | ⟨1, _⟩ => exact Fin.ext rfl
  | ⟨2, _⟩ => exact Fin.ext rfl

variable (hm : Held m x0 x1 x2 x3)
include hm

theorem held_x (c : Fin 16) (s : Fin 32) (k : Fin 512) : ((inp m).x c (ix2 s k) : EReal) = x0 (ix2 (row c s) k) := by
  refine (x_apply m c s k).trans ((congrFun (hm c).1 _).trans ?_)
  exact congrArg x0 (rows_idx _ c s k)
theorem held_rp (e : Fin 32) (k : Fin 512) : ((inp m).rp (dev e) (ix3 0 (slot e) k) : EReal) = x1 (ix2 k e) := by
  refine (rp_apply m (dev e) (slot e) k).trans ((congrFun (hm (dev e)).2.1 _).trans ?_)
  exact congrArg x1 (cols_idx _ e k)
theorem held_mat1 (e : Fin 32) (k : Fin 512) (f : Fin 1024) : mat1 (inp m) e k f = x2 (ix3 e k f) := by
  refine (W1_apply m (dev e) (slot e) k f).trans ((congrFun (hm (dev e)).2.2.1 _).trans ?_)
  exact congrArg x2 (experts_idx _ e k f)
theorem held_mat2 (e : Fin 32) (f : Fin 1024) (d : Fin 512) : mat2 (inp m) e f d = x3 (ix3 e f d) := by
  refine (W2_apply m (dev e) (slot e) f d).trans ((congrFun (hm (dev e)).2.2.2 _).trans ?_)
  exact congrArg x3 (experts_idx _ e f d)

/-- The gates the kernel computes are the reference's. -/
theorem held_gate (c : Fin 16) (s : Fin 32) : gate (inp m) c s = fun e => (gatesOf x0 x1 (ix2 (row c s) e) : EReal) := by
  funext e
  rw [gates_apply]
  unfold gate
  exact Finset.sum_congr rfl fun k _ => congrArg₂ (fun a b : EReal => a * b) (held_x hm c s k) (held_rp hm e k)

theorem held_hid (c : Fin 16) (s : Fin 32) (e : Fin 32) (f : Fin 1024) :
    hid (inp m) c s e f = max (∑ k : Fin 512, (x0 (ix2 (row c s) k) * x2 (ix3 e k f) : EReal)) 0 := by
  unfold hid
  refine congrArg (fun a : EReal => max a 0) ?_
  exact Finset.sum_congr rfl fun k _ => congrArg₂ (fun a b : EReal => a * b) (held_x hm c s k) (held_mat1 hm e k f)

/-- On a named token the kernel leaves the reference's value. -/
theorem agree {c : Fin 16} {v : Vec Ideal S32x512 .f32} (hv : OutOK (inp m) c v) (s : Fin 32) (d : Fin 512)
    (h : Cert.On_kept.fn (F := Ideal) x0 x1 x2 x3 (ix2 (row c s) d) = 1#1) :
    (v (ix2 s d) : EReal) = Cert.ReferenceIdeal.Read.val_main_v26 (F := Ideal) x0 x1 x2 x3 (ix2 (row c s) d) := by
  obtain ⟨hpl, hroom⟩ := kept_apply x0 x1 x2 x3 (row c s) d h
  rw [ref_apply x0 x1 x2 x3 (row c s) d hpl]
  have hg := held_gate hm c s
  have hc : (⟨(row c s).val / 32, by omega⟩ : Fin 16) = c := Fin.ext (by simp only [row]; omega)
  have hs : (⟨(row c s).val % 32, by omega⟩ : Fin 32) = s := Fin.ext (by simp only [row]; omega)
  have hsent : ∀ s' q, Sent (inp m) c s' q → May (gatesOf x0 x1) (row c s') q := fun s' q hq => by
    have h' := goes_second _ hq
    rw [held_gate hm c s'] at h'
    exact h'
  rw [out_apply hv s d (hg ▸ hpl) fun q hq => ?_]
  · rw [hg]
    refine Finset.sum_congr rfl fun e _ => congrArg (fun a : EReal => a * _) (Finset.sum_congr rfl fun f _ => ?_)
    exact congrArg₂ (fun a b : EReal => a * b) (held_hid hm c s e f) (held_mat2 hm e f d)
  · have h2 := hroom q (hsent s q hq)
    rw [hc, hs] at h2
    exact (earlier_mono _ (fun s' hs' => hsent s' q hs') s).trans_lt h2

end Blocks

/-- Every run of the kernel leaves, on the named tokens, the blocks of what every run of the reference leaves there. -/
theorem algebraic : Cert.algebraic_KernelIdeal_ReferenceIdeal_on_kept (hOn_kept := Cert.On_kept.Gen.facts) := fun m g m' g' _ hm =>
  ⟨Cert.ReferenceIdeal.Read.val_main_v26 (F := Ideal)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)),
    (θ_run (Cert.KernelIdeal.defs (F := Ideal)) _ _).mono
      (fun r h c => ⟨fun i hi => by
          rw [← ix2_eta i] at hi ⊢
          have hr := rows_idx (by decide) c (i 0) (i 1)
          refine (agree (fun c => hm c) (h.1 c).2.2.2.2 (i 0) (i 1) ?_).trans ?_
          · exact (congrArg _ hr.symm).trans hi
          · exact congrArg _ hr.symm,
        (h.1 c).1, (h.1 c).2.1, (h.1 c).2.2.1, (h.1 c).2.2.2.1⟩)
      (Cert.KernelIdeal.Exchange.run_main (F := Ideal) m g),
    (θ_run (Cert.ReferenceIdeal.defs (F := Ideal)) _ _).mono
      (fun r h => ⟨fun i _ => congrFun ((h 0).1.trans (Cert.ReferenceIdeal.Read.val_main_v26_eq _ _ _ _)) i, (h 0).2⟩)
      (Cert.ReferenceIdeal.Value.run (F := Ideal) m' g')⟩

end Cert.Moe
-- ==== Proof.lean ====
/-
  The certificate's claim, put together from the frames (Proof/Frames.lean) and the agreement with the
  reference (Proof/Agree.lean).
-/
module

public import proofs.«01_k».proof.Defs
public import proofs.«01_k».proof.Proof.Frames
public import proofs.«01_k».proof.Proof.Agree
public import proofs.«01_k».proof.Proof.Gen.On_kept
public import proofs.«01_k».proof.Proof.Gen.Kernel.Frame
public import proofs.«01_k».proof.Proof.Gen.KernelIdeal.Frame

@[expose] public section

noncomputable section

namespace Cert.Proof

/-- Every claim of the certificate. -/
theorem claim : Cert.Claim :=
  ⟨Cert.Kernel.Gen.facts, Cert.KernelIdeal.Gen.facts, Cert.ReferenceIdeal.Gen.facts, Cert.On_kept.Gen.facts,
    Cert.Frames.frame_kernel, Cert.Frames.frame_ideal, Cert.Frames.frame_reference, Cert.Frames.preserves, Cert.Moe.algebraic⟩

end Cert.Proof

end
